-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel2_Kernel2Ideal : Prop :=
  True

def algebraic_Kernel2Ideal_Reference2Ideal_on_rows_used [hKernel2Ideal : Cert.Kernel2Ideal.Facts] [hReference2Ideal : Cert.Reference2Ideal.Facts] [hPre_routed : Cert.Pre_routed.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![1212416, 128]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v7) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![1212416, 128]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v92) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v29_0)) (v1 : (c : Dev Cert.Kernel4Ideal.nD) → Buf (Elt Ideal) ((c.tc : Thread Cert.Kernel4Ideal.nD Cert.Kernel4Ideal.τ).loc Cert.Kernel4Ideal.main_v29_1)) (v2 : (c : Dev Cert.Kernel4Ideal.nD) → Buf (Elt Ideal) ((c.tc : Thread Cert.Kernel4Ideal.nD Cert.Kernel4Ideal.τ).loc Cert.Kernel4Ideal.main_v29_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29_0) = v0 c
          ∧ r.2.mem ((c.tc : Thread Cert.Kernel4Ideal.nD Cert.Kernel4Ideal.τ).loc Cert.Kernel4Ideal.main_v29_1) = v1 c
          ∧ r.2.mem ((c.tc : Thread Cert.Kernel4Ideal.nD Cert.Kernel4Ideal.τ).loc Cert.Kernel4Ideal.main_v29_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_v64) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v60) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hPre_finite : Cert.Pre_finite.Facts) (hPre_routed : Cert.Pre_routed.Facts) (hOn_rows_used : Cert.On_rows_used.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ preserves_Kernel2_Kernel2Ideal
    ∧ algebraic_Kernel2Ideal_Reference2Ideal_on_rows_used (hKernel2Ideal := hKernel2Ideal) (hReference2Ideal := hReference2Ideal) (hPre_routed := hPre_routed) (hOn_rows_used := hOn_rows_used)
    ∧ preserves_Kernel4_Kernel4Ideal
    ∧ algebraic_Kernel4Ideal_Reference4Ideal (hKernel4Ideal := hKernel4Ideal) (hReference4Ideal := hReference4Ideal)
    ∧ preserves_Kernel3_Kernel3Ideal
    ∧ algebraic_Kernel3Ideal_Reference3Ideal (hKernel3Ideal := hKernel3Ideal) (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
-- ==== On_rows_used.lean ====
abbrev S296 : Shape := ⟨1, ![296]⟩
abbrev S1 : Shape := ⟨1, ![1]⟩
abbrev S151552x1024 : Shape := ⟨2, ![151552, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S1212416x128 : Shape := ⟨2, ![1212416, 128]⟩
abbrev S_ : Shape := ⟨0, ![]⟩

class Facts : Prop where
  shapeCasts_S1_S_ : S1.ShapeCasts S_
  bcast_S_S1212416x128 : S_.BroadcastsInDim S1212416x128 (![] : Fin 0 → Fin S1212416x128.rank)

variable [Facts]

def fn {F : FTy → Type} [FloatOps F] (main_arg0 : IVec S296 32) (main_arg1 : IVec S1 32) (main_arg2 : FVec F S151552x1024 .f32) (main_arg3 : FVec F S1x32x1024x2048 .f32) (main_arg4 : FVec F S1x32x2048 .f32) (main_arg5 : FVec F S1x32x1024x1024 .f32) (main_arg6 : FVec F S1x32x1024 .f32) : IVec S1212416x128 1 :=
  let main_v0 : IVec S1212416x128 32 := iotaInDim S1212416x128 32 0
  let main_v1 : IVec S_ 32 := shapeCast S_ main_arg1 shapeCasts_S1_S_
  let main_c : IVec S_ 32 := constantI S_ 32 4096#32
  let main_v2 : IVec S_ 32 := muli main_v1 main_c
  let main_v3 : IVec S1212416x128 32 := broadcastInDim S1212416x128 ![] bcast_S_S1212416x128 main_v2
  let main_v4 : IVec S1212416x128 1 := cmpi .slt main_v0 main_v3
  main_v4
-- ==== Pre_finite.lean ====
abbrev S2x16384x1536 : Shape := ⟨3, ![2, 16384, 1536]⟩
abbrev S1x8x513 : Shape := ⟨3, ![1, 8, 513]⟩
abbrev S2x16384x1024 : Shape := ⟨3, ![2, 16384, 1024]⟩
abbrev S_ : Shape := ⟨0, ![]⟩

class Facts : Prop where
  slices_S2x16384x1536_S2x16384x1024_0_0_0 : S2x16384x1536.Slices ![0, 0, 0] S2x16384x1024
  bcast_S_S2x16384x1024 : S_.BroadcastsInDim S2x16384x1024 (![] : Fin 0 → Fin S2x16384x1024.rank)
  bcast_S_S1x8x513 : S_.BroadcastsInDim S1x8x513 (![] : Fin 0 → Fin S1x8x513.rank)

variable [Facts]

def fn {F : FTy → Type} [FloatOps F] (main_arg0 : FVec F S2x16384x1536 .f32) (main_arg1 : FVec F S1x8x513 .f32) : IVec S2x16384x1024 1 × IVec S1x8x513 1 :=
  let main_v0 : FVec F S2x16384x1024 .f32 := (extractStridedSlice S2x16384x1024 ![0, 0, 0] · slices_S2x16384x1536_S2x16384x1024_0_0_0) main_arg0
  let main_v1 : FVec F S2x16384x1024 .f32 := Host.absf main_v0
  let main_cst : FVec F S_ .f32 := constant S_ .f32 0x7F800000#32
  let main_v2 : FVec F S2x16384x1024 .f32 := broadcastInDim S2x16384x1024 ![] bcast_S_S2x16384x1024 main_cst
  let main_v3 : IVec S2x16384x1024 1 := cmpf .olt main_v1 main_v2
  let main_v4 : FVec F S1x8x513 .f32 := Host.absf main_arg1
  let main_cst_0 : FVec F S_ .f32 := constant S_ .f32 0x7F800000#32
  let main_v5 : FVec F S1x8x513 .f32 := broadcastInDim S1x8x513 ![] bcast_S_S1x8x513 main_cst_0
  let main_v6 : IVec S1x8x513 1 := cmpf .olt main_v4 main_v5
  (main_v3, main_v6)
-- ==== Pre_routed.lean ====
abbrev S296 : Shape := ⟨1, ![296]⟩
abbrev S1 : Shape := ⟨1, ![1]⟩
abbrev S151552x1024 : Shape := ⟨2, ![151552, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S296 : S_.BroadcastsInDim S296 (![] : Fin 0 → Fin S296.rank)
  bcast_S_S1 : S_.BroadcastsInDim S1 (![] : Fin 0 → Fin S1.rank)

variable [Facts]

def fn {F : FTy → Type} [FloatOps F] (main_arg0 : IVec S296 32) (main_arg1 : IVec S1 32) (main_arg2 : FVec F S151552x1024 .f32) (main_arg3 : FVec F S1x32x1024x2048 .f32) (main_arg4 : FVec F S1x32x2048 .f32) (main_arg5 : FVec F S1x32x1024x1024 .f32) (main_arg6 : FVec F S1x32x1024 .f32) : IVec S296 1 × IVec S296 1 × IVec S1 1 × IVec S1 1 :=
  let main_c : IVec S_ 32 := constantI S_ 32 0#32
  let main_v0 : IVec S296 32 := broadcastInDim S296 ![] bcast_S_S296 main_c
  let main_v1 : IVec S296 1 := cmpi .sge main_arg0 main_v0
  let main_c_0 : IVec S_ 32 := constantI S_ 32 32#32
  let main_v2 : IVec S296 32 := broadcastInDim S296 ![] bcast_S_S296 main_c_0
  let main_v3 : IVec S296 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  let main_c_2 : IVec S_ 32 := constantI S_ 32 296#32
  let main_v6 : IVec S1 32 := broadcastInDim S1 ![] bcast_S_S1 main_c_2
  let main_v7 : IVec S1 1 := cmpi .sle main_arg1 main_v6
  (main_v1, main_v3, main_v5, main_v7)
-- ==== Kernel.lean ====
abbrev S2x16384x1536 : Shape := ⟨3, ![2, 16384, 1536]⟩
abbrev S1x8x513 : Shape := ⟨3, ![1, 8, 513]⟩
abbrev S8x513 : Shape := ⟨2, ![8, 513]⟩
abbrev S128 : Shape := ⟨1, ![128]⟩
abbrev S128x1 : Shape := ⟨2, ![128, 1]⟩
abbrev S640 : Shape := ⟨1, ![640]⟩
abbrev S1x640 : Shape := ⟨2, ![1, 640]⟩
abbrev S8x384 : Shape := ⟨2, ![8, 384]⟩
abbrev S8x1 : Shape := ⟨2, ![8, 1]⟩
abbrev S8x383 : Shape := ⟨2, ![8, 383]⟩
abbrev S8x0 : Shape := ⟨2, ![8, 0]⟩
abbrev S8x767 : Shape := ⟨2, ![8, 767]⟩
abbrev S_ : Shape := ⟨0, ![]⟩
abbrev S8x768 : Shape := ⟨2, ![8, 768]⟩
abbrev S1x8x1x768 : Shape := ⟨4, ![1, 8, 1, 768]⟩
abbrev S1x8x129x768 : Shape := ⟨4, ![1, 8, 129, 768]⟩
abbrev S8x99072 : Shape := ⟨2, ![8, 99072]⟩
abbrev S8x98432 : Shape := ⟨2, ![8, 98432]⟩
abbrev S8x128x769 : Shape := ⟨3, ![8, 128, 769]⟩
abbrev S8x128x640 : Shape := ⟨3, ![8, 128, 640]⟩
abbrev S128x640 : Shape := ⟨2, ![128, 640]⟩
abbrev S1x128x640 : Shape := ⟨3, ![1, 128, 640]⟩
abbrev S4x256x640 : Shape := ⟨3, ![4, 256, 640]⟩
abbrev S2x16384x512 : Shape := ⟨3, ![2, 16384, 512]⟩
abbrev S1x128x512 : Shape := ⟨3, ![1, 128, 512]⟩
abbrev S640x512 : Shape := ⟨2, ![640, 512]⟩
abbrev S128x512 : Shape := ⟨2, ![128, 512]⟩
abbrev S256x640 : Shape := ⟨2, ![256, 640]⟩
abbrev S1x128x128 : Shape := ⟨3, ![1, 128, 128]⟩
abbrev S128x128 : Shape := ⟨2, ![128, 128]⟩
abbrev S256x128 : Shape := ⟨2, ![256, 128]⟩
abbrev S640x128 : Shape := ⟨2, ![640, 128]⟩
abbrev S1x256x640 : Shape := ⟨3, ![1, 256, 640]⟩
abbrev S256 : Shape := ⟨1, ![256]⟩
abbrev S256x1 : Shape := ⟨2, ![256, 1]⟩

abbrev nBuf : Space → Nat
  | .hbm => 78
  | .vmem => 11
  | .smem => 0
  | _ => 0

abbrev bufTy : (tb : Table) → Fin (tcTables nBuf tb) → BufTy
  | .hbm, ⟨0, _⟩ => ⟨S2x16384x1536, .f32⟩
  | .hbm, ⟨1, _⟩ => ⟨S1x8x513, .f32⟩
  | .hbm, ⟨2, _⟩ => ⟨S8x513, .f32⟩
  | .hbm, ⟨3, _⟩ => ⟨S128, .i32⟩
  | .hbm, ⟨4, _⟩ => ⟨S128x1, .i32⟩
  | .hbm, ⟨5, _⟩ => ⟨S640, .i32⟩
  | .hbm, ⟨6, _⟩ => ⟨S1x640, .i32⟩
  | .hbm, ⟨7, _⟩ => ⟨S8x384, .f32⟩
  | .hbm, ⟨8, _⟩ => ⟨S8x384, .f32⟩
  | .hbm, ⟨9, _⟩ => ⟨S8x1, .f32⟩
  | .hbm, ⟨10, _⟩ => ⟨S8x383, .f32⟩
  | .hbm, ⟨11, _⟩ => ⟨S8x1, .f32⟩
  | .hbm, ⟨12, _⟩ => ⟨S8x0, .f32⟩
  | .hbm, ⟨13, _⟩ => ⟨S8x767, .f32⟩
  | .hbm, ⟨14, _⟩ => ⟨S_, .i32⟩
  | .hbm, ⟨15, _⟩ => ⟨S_, .f32⟩
  | .hbm, ⟨16, _⟩ => ⟨S8x768, .f32⟩
  | .hbm, ⟨17, _⟩ => ⟨S1x8x1x768, .f32⟩
  | .hbm, ⟨18, _⟩ => ⟨S1x8x129x768, .f32⟩
  | .hbm, ⟨19, _⟩ => ⟨S8x99072, .f32⟩
  | .hbm, ⟨20, _⟩ => ⟨S8x98432, .f32⟩
  | .hbm, ⟨21, _⟩ => ⟨S8x128x769, .f32⟩
  | .hbm, ⟨22, _⟩ => ⟨S8x128x640, .f32⟩
  | .hbm, ⟨23, _⟩ => ⟨S8x128x640, .f32⟩
  | .hbm, ⟨24, _⟩ => ⟨S_, .i32⟩
  | .hbm, ⟨25, _⟩ => ⟨S_, .i32⟩
  | .hbm, ⟨26, _⟩ => ⟨S128x1, .i32⟩
  | .hbm, ⟨27, _⟩ => ⟨S128x1, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i1⟩
  | .hbm, ⟨32, _⟩ => ⟨S128x1, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i1⟩
  | .hbm, ⟨37, _⟩ => ⟨S128x1, .i1⟩
  | .hbm, ⟨38, _⟩ => ⟨S_, .i32⟩
  | .hbm, ⟨39, _⟩ => ⟨S128x1, .i32⟩
  | .hbm, ⟨40, _⟩ => ⟨S128x1, .i32⟩
  | .hbm, ⟨41, _⟩ => ⟨S128x1, .i32⟩
  | .hbm, ⟨42, _⟩ => ⟨S_, .i32⟩
  | .hbm, ⟨43, _⟩ => ⟨S_, .i32⟩
  | .hbm, ⟨44, _⟩ => ⟨S1x640, .i32⟩
  | .hbm, ⟨45, _⟩ => ⟨S1x640, .i32⟩
  | .hbm, ⟨46, _⟩ => ⟨S1x640, .i32⟩
  | .hbm, ⟨47, _⟩ => ⟨S_, .i32⟩
  | .hbm, ⟨48, _⟩ => ⟨S1x640, .i32⟩
  | .hbm, ⟨49, _⟩ => ⟨S1x640, .i1⟩
  | .hbm, ⟨50, _⟩ => ⟨S1x640, .i32⟩
  | .hbm, ⟨51, _⟩ => ⟨S1x640, .i32⟩
  | .hbm, ⟨52, _⟩ => ⟨S_, .i32⟩
  | .hbm, ⟨53, _⟩ => ⟨S1x640, .i32⟩
  | .hbm, ⟨54, _⟩ => ⟨S1x640, .i1⟩
  | .hbm, ⟨55, _⟩ => ⟨S1x640, .i1⟩
  | .hbm, ⟨56, _⟩ => ⟨S_, .i32⟩
  | .hbm, ⟨57, _⟩ => ⟨S1x640, .i32⟩
  | .hbm, ⟨58, _⟩ => ⟨S1x640, .i32⟩
  | .hbm, ⟨59, _⟩ => ⟨S1x640, .i32⟩
  | .hbm, ⟨60, _⟩ => ⟨S128x640, .i32⟩
  | .hbm, ⟨61, _⟩ => ⟨S128x640, .i32⟩
  | .hbm, ⟨62, _⟩ => ⟨S128x640, .i1⟩
  | .hbm, ⟨63, _⟩ => ⟨S_, .i32⟩
  | .hbm, ⟨64, _⟩ => ⟨S128x1, .i32⟩
  | .hbm, ⟨65, _⟩ => ⟨S128x1, .i32⟩
  | .hbm, ⟨66, _⟩ => ⟨S128x640, .i32⟩
  | .hbm, ⟨67, _⟩ => ⟨S128x640, .i32⟩
  | .hbm, ⟨68, _⟩ => ⟨S128x640, .i1⟩
  | .hbm, ⟨69, _⟩ => ⟨S128x640, .i1⟩
  | .hbm, ⟨70, _⟩ => ⟨S1x128x640, .i1⟩
  | .hbm, ⟨71, _⟩ => ⟨S_, .f32⟩
  | .hbm, ⟨72, _⟩ => ⟨S_, .f32⟩
  | .hbm, ⟨73, _⟩ => ⟨S8x128x640, .i1⟩
  | .hbm, ⟨74, _⟩ => ⟨S8x128x640, .f32⟩
  | .hbm, ⟨75, _⟩ => ⟨S8x128x640, .f32⟩
  | .hbm, ⟨76, _⟩ => ⟨S4x256x640, .f32⟩
  | .hbm, ⟨77, _⟩ => ⟨S2x16384x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S4x256x640, .f32⟩
  | .local _ .vmem, ⟨7, _⟩ => ⟨S1x128x512, .f32⟩
  | .local _ .vmem, ⟨8, _⟩ => ⟨S1x128x512, .f32⟩
  | .local _ .vmem, ⟨9, _⟩ => ⟨S640x512, .bf16⟩
  | .local _ .vmem, ⟨10, _⟩ => ⟨S640x512, .bf16⟩
  | _, _ => ⟨S2x16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v20 : Ref sig .tc := ⟨.hbm, 41, rfl⟩
abbrev main_c_1 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_2 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x256x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x16384x1536 : Shape := ⟨3, ![2, 16384, 1536]⟩
abbrev S1x8x513 : Shape := ⟨3, ![1, 8, 513]⟩
abbrev S2x16384x512 : Shape := ⟨3, ![2, 16384, 512]⟩
abbrev S16384 : Shape := ⟨1, ![16384]⟩
abbrev S2x16384x8x64 : Shape := ⟨4, ![2, 16384, 8, 64]⟩
abbrev S8x513 : Shape := ⟨2, ![8, 513]⟩
abbrev S2x8x16384x16384 : Shape := ⟨4, ![2, 8, 16384, 16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S16384x16384x1 : Shape := ⟨3, ![16384, 16384, 1]⟩
abbrev S8x16384x16384 : Shape := ⟨3, ![8, 16384, 16384]⟩
abbrev S1x8x16384x16384 : Shape := ⟨4, ![1, 8, 16384, 16384]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩

abbrev nBuf : Space → Nat
  | .hbm => 120
  | .vmem => 0
  | .smem => 0
  | _ => 0

abbrev bufTy : (tb : Table) → Fin (tcTables nBuf tb) → BufTy
  | .hbm, ⟨0, _⟩ => ⟨S2x16384x1536, .f32⟩
  | .hbm, ⟨1, _⟩ => ⟨S1x8x513, .f32⟩
  | .hbm, ⟨2, _⟩ => ⟨S2x16384x512, .f32⟩
  | .hbm, ⟨3, _⟩ => ⟨S2x16384x512, .f32⟩
  | .hbm, ⟨4, _⟩ => ⟨S2x16384x512, .f32⟩
  | .hbm, ⟨5, _⟩ => ⟨S16384, .i32⟩
  | .hbm, ⟨6, _⟩ => ⟨S2x16384x8x64, .f32⟩
  | .hbm, ⟨7, _⟩ => ⟨S2x16384x8x64, .f32⟩
  | .hbm, ⟨8, _⟩ => ⟨S2x16384x8x64, .f32⟩
  | .hbm, ⟨9, _⟩ => ⟨S8x513, .f32⟩
  | .hbm, ⟨10, _⟩ => ⟨S2x8x16384x16384, .f32⟩
  | .hbm, ⟨11, _⟩ => ⟨S_, .f32⟩
  | .hbm, ⟨12, _⟩ => ⟨S2x8x16384x16384, .f32⟩
  | .hbm, ⟨13, _⟩ => ⟨S2x8x16384x16384, .f32⟩
  | .hbm, ⟨14, _⟩ => ⟨S16384x1, .i32⟩
  | .hbm, ⟨15, _⟩ => ⟨S1x16384, .i32⟩
  | .hbm, ⟨16, _⟩ => ⟨S16384x16384, .i32⟩
  | .hbm, ⟨17, _⟩ => ⟨S16384x16384, .i32⟩
  | .hbm, ⟨18, _⟩ => ⟨S16384x16384, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S16384x16384, .i32⟩
  | .hbm, ⟨23, _⟩ => ⟨S16384x16384, .i32⟩
  | .hbm, ⟨24, _⟩ => ⟨S_, .i32⟩
  | .hbm, ⟨25, _⟩ => ⟨S16384x16384, .i32⟩
  | .hbm, ⟨26, _⟩ => ⟨S16384x16384, .i32⟩
  | .hbm, ⟨27, _⟩ => ⟨S_, .i32⟩
  | .hbm, ⟨28, _⟩ => ⟨S16384x16384, .i32⟩
  | .hbm, ⟨29, _⟩ => ⟨S16384x16384, .i32⟩
  | .hbm, ⟨30, _⟩ => ⟨S_, .i32⟩
  | .hbm, ⟨31, _⟩ => ⟨S16384x16384, .i32⟩
  | .hbm, ⟨32, _⟩ => ⟨S16384x16384, .i1⟩
  | .hbm, ⟨33, _⟩ => ⟨S_, .i32⟩
  | .hbm, ⟨34, _⟩ => ⟨S16384x16384, .i32⟩
  | .hbm, ⟨35, _⟩ => ⟨S16384x16384, .i32⟩
  | .hbm, ⟨36, _⟩ => ⟨S16384x16384, .i32⟩
  | .hbm, ⟨37, _⟩ => ⟨S16384x16384x1, .i32⟩
  | .hbm, ⟨38, _⟩ => ⟨S8x16384x16384, .f32⟩
  | .hbm, ⟨39, _⟩ => ⟨S1x8x16384x16384, .f32⟩
  | .hbm, ⟨40, _⟩ => ⟨S2x8x16384x16384, .f32⟩
  | .hbm, ⟨41, _⟩ => ⟨S2x8x16384x16384, .f32⟩
  | .hbm, ⟨42, _⟩ => ⟨S_, .i32⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S16384, .i32⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i32⟩
  | .hbm, ⟨59, _⟩ => ⟨S16384, .i32⟩
  | .hbm, ⟨60, _⟩ => ⟨S_, .i32⟩
  | .hbm, ⟨61, _⟩ => ⟨S_, .i32⟩
  | .hbm, ⟨62, _⟩ => ⟨S16384, .i32⟩
  | .hbm, ⟨63, _⟩ => ⟨S16384, .i32⟩
  | .hbm, ⟨64, _⟩ => ⟨S16384, .i32⟩
  | .hbm, ⟨65, _⟩ => ⟨S_, .i32⟩
  | .hbm, ⟨66, _⟩ => ⟨S16384, .i32⟩
  | .hbm, ⟨67, _⟩ => ⟨S16384, .i1⟩
  | .hbm, ⟨68, _⟩ => ⟨S16384, .i32⟩
  | .hbm, ⟨69, _⟩ => ⟨S16384, .i32⟩
  | .hbm, ⟨70, _⟩ => ⟨S_, .i32⟩
  | .hbm, ⟨71, _⟩ => ⟨S16384, .i32⟩
  | .hbm, ⟨72, _⟩ => ⟨S16384, .i1⟩
  | .hbm, ⟨73, _⟩ => ⟨S16384, .i1⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S16384, .i32⟩
  | .hbm, ⟨78, _⟩ => ⟨S1x16384, .i32⟩
  | .hbm, ⟨79, _⟩ => ⟨S_, .i32⟩
  | .hbm, ⟨80, _⟩ => ⟨S1x16384, .i32⟩
  | .hbm, ⟨81, _⟩ => ⟨S1x16384, .i1⟩
  | .hbm, ⟨82, _⟩ => ⟨S1x16384, .i32⟩
  | .hbm, ⟨83, _⟩ => ⟨S16384x1, .i32⟩
  | .hbm, ⟨84, _⟩ => ⟨S16384x16384, .i32⟩
  | .hbm, ⟨85, _⟩ => ⟨S16384x16384, .i32⟩
  | .hbm, ⟨86, _⟩ => ⟨S16384x16384, .i1⟩
  | .hbm, ⟨87, _⟩ => ⟨S16384x16384, .i1⟩
  | .hbm, ⟨88, _⟩ => ⟨S16384x16384, .i1⟩
  | .hbm, ⟨89, _⟩ => ⟨S1x16384, .i32⟩
  | .hbm, ⟨90, _⟩ => ⟨S16384x1, .i32⟩
  | .hbm, ⟨91, _⟩ => ⟨S_, .i32⟩
  | .hbm, ⟨92, _⟩ => ⟨S16384x1, .i32⟩
  | .hbm, ⟨93, _⟩ => ⟨S16384x1, .i32⟩
  | .hbm, ⟨94, _⟩ => ⟨S16384x16384, .i32⟩
  | .hbm, ⟨95, _⟩ => ⟨S16384x16384, .i32⟩
  | .hbm, ⟨96, _⟩ => ⟨S16384x16384, .i1⟩
  | .hbm, ⟨97, _⟩ => ⟨S16384x16384, .i1⟩
  | .hbm, ⟨98, _⟩ => ⟨S_, .f32⟩
  | .hbm, ⟨99, _⟩ => ⟨S_, .f32⟩
  | .hbm, ⟨100, _⟩ => ⟨S2x8x16384x16384, .i1⟩
  | .hbm, ⟨101, _⟩ => ⟨S2x8x16384x16384, .f32⟩
  | .hbm, ⟨102, _⟩ => ⟨S2x8x16384x16384, .f32⟩
  | .hbm, ⟨103, _⟩ => ⟨S_, .f32⟩
  | .hbm, ⟨104, _⟩ => ⟨S2x8x16384, .f32⟩
  | .hbm, ⟨105, _⟩ => ⟨S_, .f32⟩
  | .hbm, ⟨106, _⟩ => ⟨S2x8x16384, .f32⟩
  | .hbm, ⟨107, _⟩ => ⟨S2x8x16384, .f32⟩
  | .hbm, ⟨108, _⟩ => ⟨S2x8x16384x1, .f32⟩
  | .hbm, ⟨109, _⟩ => ⟨S2x8x16384x16384, .f32⟩
  | .hbm, ⟨110, _⟩ => ⟨S2x8x16384x16384, .f32⟩
  | .hbm, ⟨111, _⟩ => ⟨S2x8x16384x16384, .f32⟩
  | .hbm, ⟨112, _⟩ => ⟨S_, .f32⟩
  | .hbm, ⟨113, _⟩ => ⟨S2x8x16384, .f32⟩
  | .hbm, ⟨114, _⟩ => ⟨S2x8x16384x1, .f32⟩
  | .hbm, ⟨115, _⟩ => ⟨S2x8x16384x16384, .f32⟩
  | .hbm, ⟨116, _⟩ => ⟨S2x8x16384x16384, .f32⟩
  | .hbm, ⟨117, _⟩ => ⟨S2x8x64x16384, .f32⟩
  | .hbm, ⟨118, _⟩ => ⟨S2x16384x8x64, .f32⟩
  | .hbm, ⟨119, _⟩ => ⟨S2x16384x512, .f32⟩
  | _, _ => ⟨S2x16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_c_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v29 : Ref sig .tc := ⟨.hbm, 59, rfl⟩
abbrev main_c_5 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_c : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_0 : Ref sig .tc := ⟨.hbm, 74, rfl⟩
abbrev main_call2_v12 : Ref sig .tc := ⟨.hbm, 75, rfl⟩
abbrev main_call2_v13 : Ref sig .tc := ⟨.hbm, 76, rfl⟩
abbrev main_v30 : Ref sig .tc := ⟨.hbm, 77, rfl⟩
abbrev main_v31 : Ref sig .tc := ⟨.hbm, 78, rfl⟩
abbrev main_c_6 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_c_7 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_8 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v49 : Ref sig .tc := ⟨.hbm, 102, rfl⟩
abbrev main_cst_9 : Ref sig .tc := ⟨.hbm, 103, rfl⟩
abbrev main_v50 : Ref sig .tc := ⟨.hbm, 104, rfl⟩
abbrev main_cst_10 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_11 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩

abbrev nD : Nat := 1
abbrev τ : Topo := Topo.v7x

variable {F : FTy → Type} [FloatOps F]
-- ==== Kernel3.lean ====
abbrev S2x16384x1024 : Shape := ⟨3, ![2, 16384, 1024]⟩
abbrev S1x1024 : Shape := ⟨2, ![1, 1024]⟩
abbrev S1x1024x3592 : Shape := ⟨3, ![1, 1024, 3592]⟩
abbrev S1x64 : Shape := ⟨2, ![1, 64]⟩
abbrev S1024x3592 : Shape := ⟨2, ![1024, 3592]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x1536 : Shape := ⟨2, ![1024, 1536]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S8x64 : Shape := ⟨2, ![8, 64]⟩
abbrev S1024 : Shape := ⟨1, ![1024]⟩
abbrev S32768x1024 : Shape := ⟨2, ![32768, 1024]⟩
abbrev S32768x2048 : Shape := ⟨2, ![32768, 2048]⟩
abbrev S32768x128 : Shape := ⟨2, ![32768, 128]⟩
abbrev S32768x1536 : Shape := ⟨2, ![32768, 1536]⟩
abbrev S512x1024 : Shape := ⟨2, ![512, 1024]⟩
abbrev S512x2048 : Shape := ⟨2, ![512, 2048]⟩
abbrev S512x128 : Shape := ⟨2, ![512, 128]⟩
abbrev S512x1536 : Shape := ⟨2, ![512, 1536]⟩

abbrev nBuf : Space → Nat
  | .hbm => 56
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x3592, .f32⟩
  | .hbm, ⟨3, _⟩ => ⟨S1x64, .f32⟩
  | .hbm, ⟨4, _⟩ => ⟨S1x64, .f32⟩
  | .hbm, ⟨5, _⟩ => ⟨S1024x3592, .f32⟩
  | .hbm, ⟨6, _⟩ => ⟨S1024x2048, .f32⟩
  | .hbm, ⟨7, _⟩ => ⟨S1024x2048, .bf16⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x1536, .f32⟩
  | .hbm, ⟨14, _⟩ => ⟨S1024x1536, .bf16⟩
  | .hbm, ⟨15, _⟩ => ⟨S512, .i32⟩
  | .hbm, ⟨16, _⟩ => ⟨S_, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i1⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S512x1, .i32⟩
  | .hbm, ⟨35, _⟩ => ⟨S1x512, .i32⟩
  | .hbm, ⟨36, _⟩ => ⟨S512x512, .i32⟩
  | .hbm, ⟨37, _⟩ => ⟨S512x512, .i32⟩
  | .hbm, ⟨38, _⟩ => ⟨S512x512, .i1⟩
  | .hbm, ⟨39, _⟩ => ⟨S512x512, .bf16⟩
  | .hbm, ⟨40, _⟩ => ⟨S64, .f32⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x512, .f32⟩
  | .hbm, ⟨45, _⟩ => ⟨S64, .f32⟩
  | .hbm, ⟨46, _⟩ => ⟨S1x64, .f32⟩
  | .hbm, ⟨47, _⟩ => ⟨S8x64, .f32⟩
  | .hbm, ⟨48, _⟩ => ⟨S512, .f32⟩
  | .hbm, ⟨49, _⟩ => ⟨S1x512, .f32⟩
  | .hbm, ⟨50, _⟩ => ⟨S1024, .f32⟩
  | .hbm, ⟨51, _⟩ => ⟨S1x1024, .f32⟩
  | .hbm, ⟨52, _⟩ => ⟨S32768x1024, .f32⟩
  | .hbm, ⟨53, _⟩ => ⟨S32768x2048, .f32⟩
  | .hbm, ⟨54, _⟩ => ⟨S32768x128, .f32⟩
  | .hbm, ⟨55, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1024x1536, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S512x2048, .f32⟩
  | .local _ .vmem, ⟨10, _⟩ => ⟨S512x2048, .f32⟩
  | .local _ .vmem, ⟨11, _⟩ => ⟨S512x128, .f32⟩
  | .local _ .vmem, ⟨12, _⟩ => ⟨S512x128, .f32⟩
  | .local _ .vmem, ⟨13, _⟩ => ⟨S512x1536, .f32⟩
  | .local _ .vmem, ⟨14, _⟩ => ⟨S512x1536, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel3Ideal.lean ====
abbrev S2x16384x1024 : Shape := ⟨3, ![2, 16384, 1024]⟩
abbrev S1x1024 : Shape := ⟨2, ![1, 1024]⟩
abbrev S1x1024x3592 : Shape := ⟨3, ![1, 1024, 3592]⟩
abbrev S1x64 : Shape := ⟨2, ![1, 64]⟩
abbrev S1024x3592 : Shape := ⟨2, ![1024, 3592]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x1536 : Shape := ⟨2, ![1024, 1536]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S8x64 : Shape := ⟨2, ![8, 64]⟩
abbrev S1024 : Shape := ⟨1, ![1024]⟩
abbrev S32768x1024 : Shape := ⟨2, ![32768, 1024]⟩
abbrev S32768x2048 : Shape := ⟨2, ![32768, 2048]⟩
abbrev S32768x128 : Shape := ⟨2, ![32768, 128]⟩
abbrev S32768x1536 : Shape := ⟨2, ![32768, 1536]⟩
abbrev S512x1024 : Shape := ⟨2, ![512, 1024]⟩
abbrev S512x2048 : Shape := ⟨2, ![512, 2048]⟩
abbrev S512x128 : Shape := ⟨2, ![512, 128]⟩
abbrev S512x1536 : Shape := ⟨2, ![512, 1536]⟩

abbrev nBuf : Space → Nat
  | .hbm => 56
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x3592, .f32⟩
  | .hbm, ⟨3, _⟩ => ⟨S1x64, .f32⟩
  | .hbm, ⟨4, _⟩ => ⟨S1x64, .f32⟩
  | .hbm, ⟨5, _⟩ => ⟨S1024x3592, .f32⟩
  | .hbm, ⟨6, _⟩ => ⟨S1024x2048, .f32⟩
  | .hbm, ⟨7, _⟩ => ⟨S1024x2048, .bf16⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x1536, .f32⟩
  | .hbm, ⟨14, _⟩ => ⟨S1024x1536, .bf16⟩
  | .hbm, ⟨15, _⟩ => ⟨S512, .i32⟩
  | .hbm, ⟨16, _⟩ => ⟨S_, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i1⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S512x1, .i32⟩
  | .hbm, ⟨35, _⟩ => ⟨S1x512, .i32⟩
  | .hbm, ⟨36, _⟩ => ⟨S512x512, .i32⟩
  | .hbm, ⟨37, _⟩ => ⟨S512x512, .i32⟩
  | .hbm, ⟨38, _⟩ => ⟨S512x512, .i1⟩
  | .hbm, ⟨39, _⟩ => ⟨S512x512, .bf16⟩
  | .hbm, ⟨40, _⟩ => ⟨S64, .f32⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x512, .f32⟩
  | .hbm, ⟨45, _⟩ => ⟨S64, .f32⟩
  | .hbm, ⟨46, _⟩ => ⟨S1x64, .f32⟩
  | .hbm, ⟨47, _⟩ => ⟨S8x64, .f32⟩
  | .hbm, ⟨48, _⟩ => ⟨S512, .f32⟩
  | .hbm, ⟨49, _⟩ => ⟨S1x512, .f32⟩
  | .hbm, ⟨50, _⟩ => ⟨S1024, .f32⟩
  | .hbm, ⟨51, _⟩ => ⟨S1x1024, .f32⟩
  | .hbm, ⟨52, _⟩ => ⟨S32768x1024, .f32⟩
  | .hbm, ⟨53, _⟩ => ⟨S32768x2048, .f32⟩
  | .hbm, ⟨54, _⟩ => ⟨S32768x128, .f32⟩
  | .hbm, ⟨55, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1024x1536, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S512x2048, .f32⟩
  | .local _ .vmem, ⟨10, _⟩ => ⟨S512x2048, .f32⟩
  | .local _ .vmem, ⟨11, _⟩ => ⟨S512x128, .f32⟩
  | .local _ .vmem, ⟨12, _⟩ => ⟨S512x128, .f32⟩
  | .local _ .vmem, ⟨13, _⟩ => ⟨S512x1536, .f32⟩
  | .local _ .vmem, ⟨14, _⟩ => ⟨S512x1536, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S2x16384x1024 : Shape := ⟨3, ![2, 16384, 1024]⟩
abbrev S1x1024 : Shape := ⟨2, ![1, 1024]⟩
abbrev S1x1024x3592 : Shape := ⟨3, ![1, 1024, 3592]⟩
abbrev S1x64 : Shape := ⟨2, ![1, 64]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x3592 : Shape := ⟨2, ![1024, 3592]⟩
abbrev S2x16384x3592 : Shape := ⟨3, ![2, 16384, 3592]⟩
abbrev S2x16384x1536 : Shape := ⟨3, ![2, 16384, 1536]⟩
abbrev S2x16384x512 : Shape := ⟨3, ![2, 16384, 512]⟩
abbrev S2x16384x4 : Shape := ⟨3, ![2, 16384, 4]⟩
abbrev S2x16384x8x64 : Shape := ⟨4, ![2, 16384, 8, 64]⟩
abbrev S64 : Shape := ⟨1, ![64]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S2x16384x120 : Shape := ⟨3, ![2, 16384, 120]⟩
abbrev S32768x1536 : Shape := ⟨2, ![32768, 1536]⟩
abbrev S32768x512 : Shape := ⟨2, ![32768, 512]⟩
abbrev S32768x2048 : Shape := ⟨2, ![32768, 2048]⟩
abbrev S32768x4 : Shape := ⟨2, ![32768, 4]⟩
abbrev S32768x120 : Shape := ⟨2, ![32768, 120]⟩
abbrev S32768x128 : Shape := ⟨2, ![32768, 128]⟩

abbrev nBuf : Space → Nat
  | .hbm => 80
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1x1024, .f32⟩
  | .hbm, ⟨2, _⟩ => ⟨S1x1024x3592, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S2x16384x1024, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S1x1x1024, .f32⟩
  | .hbm, ⟨20, _⟩ => ⟨S2x16384x1024, .f32⟩
  | .hbm, ⟨21, _⟩ => ⟨S2x16384x1024, .f32⟩
  | .hbm, ⟨22, _⟩ => ⟨S1024x3592, .f32⟩
  | .hbm, ⟨23, _⟩ => ⟨S2x16384x3592, .f32⟩
  | .hbm, ⟨24, _⟩ => ⟨S2x16384x1536, .f32⟩
  | .hbm, ⟨25, _⟩ => ⟨S2x16384x512, .f32⟩
  | .hbm, ⟨26, _⟩ => ⟨S2x16384x4, .f32⟩
  | .hbm, ⟨27, _⟩ => ⟨S2x16384x4, .f32⟩
  | .hbm, ⟨28, _⟩ => ⟨S2x16384x512, .f32⟩
  | .hbm, ⟨29, _⟩ => ⟨S2x16384x512, .f32⟩
  | .hbm, ⟨30, _⟩ => ⟨S2x16384x512, .f32⟩
  | .hbm, ⟨31, _⟩ => ⟨S2x16384x8x64, .f32⟩
  | .hbm, ⟨32, _⟩ => ⟨S64, .f32⟩
  | .hbm, ⟨33, _⟩ => ⟨S2x16384x8x64, .f32⟩
  | .hbm, ⟨34, _⟩ => ⟨S_, .f32⟩
  | .hbm, ⟨35, _⟩ => ⟨S2x16384x8, .f32⟩
  | .hbm, ⟨36, _⟩ => ⟨S2x16384x8x1, .f32⟩
  | .hbm, ⟨37, _⟩ => ⟨S_, .f32⟩
  | .hbm, ⟨38, _⟩ => ⟨S2x16384x8x1, .f32⟩
  | .hbm, ⟨39, _⟩ => ⟨S2x16384x8x1, .f32⟩
  | .hbm, ⟨40, _⟩ => ⟨S_, .f32⟩
  | .hbm, ⟨41, _⟩ => ⟨S2x16384x8x1, .f32⟩
  | .hbm, ⟨42, _⟩ => ⟨S2x16384x8x1, .f32⟩
  | .hbm, ⟨43, _⟩ => ⟨S2x16384x8x1, .f32⟩
  | .hbm, ⟨44, _⟩ => ⟨S2x16384x8x64, .f32⟩
  | .hbm, ⟨45, _⟩ => ⟨S2x16384x8x64, .f32⟩
  | .hbm, ⟨46, _⟩ => ⟨S1x1x1x64, .f32⟩
  | .hbm, ⟨47, _⟩ => ⟨S2x16384x8x64, .f32⟩
  | .hbm, ⟨48, _⟩ => ⟨S2x16384x8x64, .f32⟩
  | .hbm, ⟨49, _⟩ => ⟨S2x16384x8x64, .f32⟩
  | .hbm, ⟨50, _⟩ => ⟨S64, .f32⟩
  | .hbm, ⟨51, _⟩ => ⟨S2x16384x8x64, .f32⟩
  | .hbm, ⟨52, _⟩ => ⟨S_, .f32⟩
  | .hbm, ⟨53, _⟩ => ⟨S2x16384x8, .f32⟩
  | .hbm, ⟨54, _⟩ => ⟨S2x16384x8x1, .f32⟩
  | .hbm, ⟨55, _⟩ => ⟨S_, .f32⟩
  | .hbm, ⟨56, _⟩ => ⟨S2x16384x8x1, .f32⟩
  | .hbm, ⟨57, _⟩ => ⟨S2x16384x8x1, .f32⟩
  | .hbm, ⟨58, _⟩ => ⟨S_, .f32⟩
  | .hbm, ⟨59, _⟩ => ⟨S2x16384x8x1, .f32⟩
  | .hbm, ⟨60, _⟩ => ⟨S2x16384x8x1, .f32⟩
  | .hbm, ⟨61, _⟩ => ⟨S2x16384x8x1, .f32⟩
  | .hbm, ⟨62, _⟩ => ⟨S2x16384x8x64, .f32⟩
  | .hbm, ⟨63, _⟩ => ⟨S2x16384x8x64, .f32⟩
  | .hbm, ⟨64, _⟩ => ⟨S1x1x1x64, .f32⟩
  | .hbm, ⟨65, _⟩ => ⟨S2x16384x8x64, .f32⟩
  | .hbm, ⟨66, _⟩ => ⟨S2x16384x8x64, .f32⟩
  | .hbm, ⟨67, _⟩ => ⟨S_, .f32⟩
  | .hbm, ⟨68, _⟩ => ⟨S2x16384x120, .f32⟩
  | .hbm, ⟨69, _⟩ => ⟨S32768x1536, .f32⟩
  | .hbm, ⟨70, _⟩ => ⟨S32768x512, .f32⟩
  | .hbm, ⟨71, _⟩ => ⟨S32768x2048, .f32⟩
  | .hbm, ⟨72, _⟩ => ⟨S32768x4, .f32⟩
  | .hbm, ⟨73, _⟩ => ⟨S32768x4, .f32⟩
  | .hbm, ⟨74, _⟩ => ⟨S32768x120, .f32⟩
  | .hbm, ⟨75, _⟩ => ⟨S32768x128, .f32⟩
  | .hbm, ⟨76, _⟩ => ⟨S32768x512, .f32⟩
  | .hbm, ⟨77, _⟩ => ⟨S32768x512, .f32⟩
  | .hbm, ⟨78, _⟩ => ⟨S32768x512, .f32⟩
  | .hbm, ⟨79, _⟩ => ⟨S32768x1536, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Kernel4.lean ====
abbrev S32x32x1024 : Shape := ⟨3, ![32, 32, 1024]⟩
abbrev S1x1024 : Shape := ⟨2, ![1, 1024]⟩
abbrev S1x1024x3592 : Shape := ⟨3, ![1, 1024, 3592]⟩
abbrev S1x64 : Shape := ⟨2, ![1, 64]⟩
abbrev S1024x3592 : Shape := ⟨2, ![1024, 3592]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x1536 : Shape := ⟨2, ![1024, 1536]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S8x64 : Shape := ⟨2, ![8, 64]⟩
abbrev S1024 : Shape := ⟨1, ![1024]⟩
abbrev S1024x1024 : Shape := ⟨2, ![1024, 1024]⟩
abbrev S512x1024 : Shape := ⟨2, ![512, 1024]⟩
abbrev S512x2048 : Shape := ⟨2, ![512, 2048]⟩
abbrev S512x128 : Shape := ⟨2, ![512, 128]⟩
abbrev S512x1536 : Shape := ⟨2, ![512, 1536]⟩

abbrev nBuf : Space → Nat
  | .hbm => 56
  | .vmem => 15
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x3592, .f32⟩
  | .hbm, ⟨3, _⟩ => ⟨S1x64, .f32⟩
  | .hbm, ⟨4, _⟩ => ⟨S1x64, .f32⟩
  | .hbm, ⟨5, _⟩ => ⟨S1024x3592, .f32⟩
  | .hbm, ⟨6, _⟩ => ⟨S1024x2048, .f32⟩
  | .hbm, ⟨7, _⟩ => ⟨S1024x2048, .bf16⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S1024x1536, .f32⟩
  | .hbm, ⟨14, _⟩ => ⟨S1024x1536, .bf16⟩
  | .hbm, ⟨15, _⟩ => ⟨S512, .i32⟩
  | .hbm, ⟨16, _⟩ => ⟨S_, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i1⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S512x1, .i32⟩
  | .hbm, ⟨35, _⟩ => ⟨S1x512, .i32⟩
  | .hbm, ⟨36, _⟩ => ⟨S512x512, .i32⟩
  | .hbm, ⟨37, _⟩ => ⟨S512x512, .i32⟩
  | .hbm, ⟨38, _⟩ => ⟨S512x512, .i1⟩
  | .hbm, ⟨39, _⟩ => ⟨S512x512, .bf16⟩
  | .hbm, ⟨40, _⟩ => ⟨S64, .f32⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x512, .f32⟩
  | .hbm, ⟨45, _⟩ => ⟨S64, .f32⟩
  | .hbm, ⟨46, _⟩ => ⟨S1x64, .f32⟩
  | .hbm, ⟨47, _⟩ => ⟨S8x64, .f32⟩
  | .hbm, ⟨48, _⟩ => ⟨S512, .f32⟩
  | .hbm, ⟨49, _⟩ => ⟨S1x512, .f32⟩
  | .hbm, ⟨50, _⟩ => ⟨S1024, .f32⟩
  | .hbm, ⟨51, _⟩ => ⟨S1x1024, .f32⟩
  | .hbm, ⟨52, _⟩ => ⟨S1024x1024, .f32⟩
  | .hbm, ⟨53, _⟩ => ⟨S1024x2048, .f32⟩
  | .hbm, ⟨54, _⟩ => ⟨S1024x128, .f32⟩
  | .hbm, ⟨55, _⟩ => ⟨S1024x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1024x1536, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S512x2048, .f32⟩
  | .local _ .vmem, ⟨10, _⟩ => ⟨S512x2048, .f32⟩
  | .local _ .vmem, ⟨11, _⟩ => ⟨S512x128, .f32⟩
  | .local _ .vmem, ⟨12, _⟩ => ⟨S512x128, .f32⟩
  | .local _ .vmem, ⟨13, _⟩ => ⟨S512x1536, .f32⟩
  | .local _ .vmem, ⟨14, _⟩ => ⟨S512x1536, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S32x32x1024 : Shape := ⟨3, ![32, 32, 1024]⟩
abbrev S1x1024 : Shape := ⟨2, ![1, 1024]⟩
abbrev S1x1024x3592 : Shape := ⟨3, ![1, 1024, 3592]⟩
abbrev S1x64 : Shape := ⟨2, ![1, 64]⟩
abbrev S1024 : Shape := ⟨1, ![1024]⟩
abbrev S_ : Shape := ⟨0, ![]⟩
abbrev S32x32 : Shape := ⟨2, ![32, 32]⟩
abbrev S32x32x1 : Shape := ⟨3, ![32, 32, 1]⟩
abbrev S1x1x1024 : Shape := ⟨3, ![1, 1, 1024]⟩
abbrev S1024x3592 : Shape := ⟨2, ![1024, 3592]⟩
abbrev S32x32x3592 : Shape := ⟨3, ![32, 32, 3592]⟩
abbrev S32x32x1536 : Shape := ⟨3, ![32, 32, 1536]⟩
abbrev S32x32x512 : Shape := ⟨3, ![32, 32, 512]⟩
abbrev S32x32x4 : Shape := ⟨3, ![32, 32, 4]⟩
abbrev S32x32x8x64 : Shape := ⟨4, ![32, 32, 8, 64]⟩
abbrev S64 : Shape := ⟨1, ![64]⟩
abbrev S32x32x8 : Shape := ⟨3, ![32, 32, 8]⟩
abbrev S32x32x8x1 : Shape := ⟨4, ![32, 32, 8, 1]⟩
abbrev S1x1x1x64 : Shape := ⟨4, ![1, 1, 1, 64]⟩
abbrev S32x32x120 : Shape := ⟨3, ![32, 32, 120]⟩
abbrev S1024x1536 : Shape := ⟨2, ![1024, 1536]⟩
abbrev S1024x512 : Shape := ⟨2, ![1024, 512]⟩
abbrev S1024x2048 : Shape := ⟨2, ![1024, 2048]⟩
abbrev S1024x4 : Shape := ⟨2, ![1024, 4]⟩
abbrev S1024x120 : Shape := ⟨2, ![1024, 120]⟩
abbrev S1024x128 : Shape := ⟨2, ![1024, 128]⟩

abbrev nBuf : Space → Nat
  | .hbm => 80
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S1x1024, .f32⟩
  | .hbm, ⟨2, _⟩ => ⟨S1x1024x3592, .f32⟩
  | .hbm, ⟨3, _⟩ => ⟨S1x64, .f32⟩
  | .hbm, ⟨4, _⟩ => ⟨S1x64, .f32⟩
  | .hbm, ⟨5, _⟩ => ⟨S1024, .f32⟩
  | .hbm, ⟨6, _⟩ => ⟨S32x32x1024, .f32⟩
  | .hbm, ⟨7, _⟩ => ⟨S_, .f32⟩
  | .hbm, ⟨8, _⟩ => ⟨S32x32, .f32⟩
  | .hbm, ⟨9, _⟩ => ⟨S32x32x1, .f32⟩
  | .hbm, ⟨10, _⟩ => ⟨S_, .f32⟩
  | .hbm, ⟨11, _⟩ => ⟨S32x32x1, .f32⟩
  | .hbm, ⟨12, _⟩ => ⟨S32x32x1, .f32⟩
  | .hbm, ⟨13, _⟩ => ⟨S_, .f32⟩
  | .hbm, ⟨14, _⟩ => ⟨S32x32x1, .f32⟩
  | .hbm, ⟨15, _⟩ => ⟨S32x32x1, .f32⟩
  | .hbm, ⟨16, _⟩ => ⟨S32x32x1, .f32⟩
  | .hbm, ⟨17, _⟩ => ⟨S32x32x1024, .f32⟩
  | .hbm, ⟨18, _⟩ => ⟨S32x32x1024, .f32⟩
  | .hbm, ⟨19, _⟩ => ⟨S1x1x1024, .f32⟩
  | .hbm, ⟨20, _⟩ => ⟨S32x32x1024, .f32⟩
  | .hbm, ⟨21, _⟩ => ⟨S32x32x1024, .f32⟩
  | .hbm, ⟨22, _⟩ => ⟨S1024x3592, .f32⟩
  | .hbm, ⟨23, _⟩ => ⟨S32x32x3592, .f32⟩
  | .hbm, ⟨24, _⟩ => ⟨S32x32x1536, .f32⟩
  | .hbm, ⟨25, _⟩ => ⟨S32x32x512, .f32⟩
  | .hbm, ⟨26, _⟩ => ⟨S32x32x4, .f32⟩
  | .hbm, ⟨27, _⟩ => ⟨S32x32x4, .f32⟩
  | .hbm, ⟨28, _⟩ => ⟨S32x32x512, .f32⟩
  | .hbm, ⟨29, _⟩ => ⟨S32x32x512, .f32⟩
  | .hbm, ⟨30, _⟩ => ⟨S32x32x512, .f32⟩
  | .hbm, ⟨31, _⟩ => ⟨S32x32x8x64, .f32⟩
  | .hbm, ⟨32, _⟩ => ⟨S64, .f32⟩
  | .hbm, ⟨33, _⟩ => ⟨S32x32x8x64, .f32⟩
  | .hbm, ⟨34, _⟩ => ⟨S_, .f32⟩
  | .hbm, ⟨35, _⟩ => ⟨S32x32x8, .f32⟩
  | .hbm, ⟨36, _⟩ => ⟨S32x32x8x1, .f32⟩
  | .hbm, ⟨37, _⟩ => ⟨S_, .f32⟩
  | .hbm, ⟨38, _⟩ => ⟨S32x32x8x1, .f32⟩
  | .hbm, ⟨39, _⟩ => ⟨S32x32x8x1, .f32⟩
  | .hbm, ⟨40, _⟩ => ⟨S_, .f32⟩
  | .hbm, ⟨41, _⟩ => ⟨S32x32x8x1, .f32⟩
  | .hbm, ⟨42, _⟩ => ⟨S32x32x8x1, .f32⟩
  | .hbm, ⟨43, _⟩ => ⟨S32x32x8x1, .f32⟩
  | .hbm, ⟨44, _⟩ => ⟨S32x32x8x64, .f32⟩
  | .hbm, ⟨45, _⟩ => ⟨S32x32x8x64, .f32⟩
  | .hbm, ⟨46, _⟩ => ⟨S1x1x1x64, .f32⟩
  | .hbm, ⟨47, _⟩ => ⟨S32x32x8x64, .f32⟩
  | .hbm, ⟨48, _⟩ => ⟨S32x32x8x64, .f32⟩
  | .hbm, ⟨49, _⟩ => ⟨S32x32x8x64, .f32⟩
  | .hbm, ⟨50, _⟩ => ⟨S64, .f32⟩
  | .hbm, ⟨51, _⟩ => ⟨S32x32x8x64, .f32⟩
  | .hbm, ⟨52, _⟩ => ⟨S_, .f32⟩
  | .hbm, ⟨53, _⟩ => ⟨S32x32x8, .f32⟩
  | .hbm, ⟨54, _⟩ => ⟨S32x32x8x1, .f32⟩
  | .hbm, ⟨55, _⟩ => ⟨S_, .f32⟩
  | .hbm, ⟨56, _⟩ => ⟨S32x32x8x1, .f32⟩
  | .hbm, ⟨57, _⟩ => ⟨S32x32x8x1, .f32⟩
  | .hbm, ⟨58, _⟩ => ⟨S_, .f32⟩
  | .hbm, ⟨59, _⟩ => ⟨S32x32x8x1, .f32⟩
  | .hbm, ⟨60, _⟩ => ⟨S32x32x8x1, .f32⟩
  | .hbm, ⟨61, _⟩ => ⟨S32x32x8x1, .f32⟩
  | .hbm, ⟨62, _⟩ => ⟨S32x32x8x64, .f32⟩
  | .hbm, ⟨63, _⟩ => ⟨S32x32x8x64, .f32⟩
  | .hbm, ⟨64, _⟩ => ⟨S1x1x1x64, .f32⟩
  | .hbm, ⟨65, _⟩ => ⟨S32x32x8x64, .f32⟩
  | .hbm, ⟨66, _⟩ => ⟨S32x32x8x64, .f32⟩
  | .hbm, ⟨67, _⟩ => ⟨S_, .f32⟩
  | .hbm, ⟨68, _⟩ => ⟨S32x32x120, .f32⟩
  | .hbm, ⟨69, _⟩ => ⟨S1024x1536, .f32⟩
  | .hbm, ⟨70, _⟩ => ⟨S1024x512, .f32⟩
  | .hbm, ⟨71, _⟩ => ⟨S1024x2048, .f32⟩
  | .hbm, ⟨72, _⟩ => ⟨S1024x4, .f32⟩
  | .hbm, ⟨73, _⟩ => ⟨S1024x4, .f32⟩
  | .hbm, ⟨74, _⟩ => ⟨S1024x120, .f32⟩
  | .hbm, ⟨75, _⟩ => ⟨S1024x128, .f32⟩
  | .hbm, ⟨76, _⟩ => ⟨S1024x512, .f32⟩
  | .hbm, ⟨77, _⟩ => ⟨S1024x512, .f32⟩
  | .hbm, ⟨78, _⟩ => ⟨S1024x512, .f32⟩
  | .hbm, ⟨79, _⟩ => ⟨S1024x1536, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩

abbrev nD : Nat := 1
abbrev τ : Topo := Topo.v7x

variable {F : FTy → Type} [FloatOps F]
-- ==== Kernel2.lean ====
abbrev S296 : Shape := ⟨1, ![296]⟩
abbrev S1 : Shape := ⟨1, ![1]⟩
abbrev S151552x1024 : Shape := ⟨2, ![151552, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S32x1024x2048 : Shape := ⟨3, ![32, 1024, 2048]⟩
abbrev S32x2048 : Shape := ⟨2, ![32, 2048]⟩
abbrev S32x1x2048 : Shape := ⟨3, ![32, 1, 2048]⟩
abbrev S32x1024x1024 : Shape := ⟨3, ![32, 1024, 1024]⟩
abbrev S32x1024 : Shape := ⟨2, ![32, 1024]⟩
abbrev S32x1x1024 : Shape := ⟨3, ![32, 1, 1024]⟩
abbrev S1212416x128 : Shape := ⟨2, ![1212416, 128]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 13
  | .vmem => 14
  | .smem => 2
  | _ => 0

abbrev bufTy : (tb : Table) → Fin (tcTables nBuf tb) → BufTy
  | .hbm, ⟨0, _⟩ => ⟨S151552x1024, .f32⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S32x1024x2048, .f32⟩
  | .hbm, ⟨6, _⟩ => ⟨S32x2048, .f32⟩
  | .hbm, ⟨7, _⟩ => ⟨S32x1x2048, .f32⟩
  | .hbm, ⟨8, _⟩ => ⟨S32x1024x1024, .f32⟩
  | .hbm, ⟨9, _⟩ => ⟨S32x1024, .f32⟩
  | .hbm, ⟨10, _⟩ => ⟨S32x1x1024, .f32⟩
  | .hbm, ⟨11, _⟩ => ⟨S1212416x128, .f32⟩
  | .hbm, ⟨12, _⟩ => ⟨S1212416x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S296, .i32⟩
  | .local _ .smem, ⟨1, _⟩ => ⟨S1, .i32⟩
  | _, _ => ⟨S151552x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S296 : Shape := ⟨1, ![296]⟩
abbrev S1 : Shape := ⟨1, ![1]⟩
abbrev S151552x1024 : Shape := ⟨2, ![151552, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S296x4 : Shape := ⟨2, ![296, 4]⟩
abbrev S1184 : Shape := ⟨1, ![1184]⟩
abbrev S1184x128x1024 : Shape := ⟨3, ![1184, 128, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1184x1 : Shape := ⟨2, ![1184, 1]⟩
abbrev S1184x3 : Shape := ⟨2, ![1184, 3]⟩
abbrev S1184x1x1024x2048 : Shape := ⟨4, ![1184, 1, 1024, 2048]⟩
abbrev S1184x1024x2048 : Shape := ⟨3, ![1184, 1024, 2048]⟩
abbrev S1184x128x2048 : Shape := ⟨3, ![1184, 128, 2048]⟩
abbrev S1184x2 : Shape := ⟨2, ![1184, 2]⟩
abbrev S1184x1x2048 : Shape := ⟨3, ![1184, 1, 2048]⟩
abbrev S1184x2048 : Shape := ⟨2, ![1184, 2048]⟩
abbrev S1184x1x1024x1024 : Shape := ⟨4, ![1184, 1, 1024, 1024]⟩
abbrev S1184x1024x1024 : Shape := ⟨3, ![1184, 1024, 1024]⟩
abbrev S1184x1x1024 : Shape := ⟨3, ![1184, 1, 1024]⟩
abbrev S1184x1024 : Shape := ⟨2, ![1184, 1024]⟩
abbrev S1212416x128 : Shape := ⟨2, ![1212416, 128]⟩

abbrev nBuf : Space → Nat
  | .hbm => 150
  | .vmem => 0
  | .smem => 0
  | _ => 0

abbrev hbmTy0_0 (i : Nat) : BufTy := match i % 128 with
  | 0 => ⟨S296, .i32⟩
  | 1 => ⟨S1, .i32⟩
  | 2 => ⟨S151552x1024, .f32⟩
  | 3 => ⟨S1x32x1024x2048, .f32⟩
  | 4 => ⟨S1x32x2048, .f32⟩
  | 5 => ⟨S1x32x1024x1024, .f32⟩
  | 6 => ⟨S1x32x1024, .f32⟩
  | 7 => ⟨S296x4, .i32⟩
  | 8 => ⟨S1184, .i32⟩
  | 9 => ⟨S1184x128x1024, .f32⟩
  | 10 => ⟨S32x1024x2048, .f32⟩
  | 11 => ⟨S32x2048, .f32⟩
  | 12 => ⟨S32x1024x1024, .f32⟩
  | 13 => ⟨S32x1024, .f32⟩
  | 14 => ⟨S_, .i32⟩
  | 15 => ⟨S1184, .i32⟩
  | 16 => ⟨S1184, .i1⟩
  | 17 => ⟨S_, .i32⟩
  | 18 => ⟨S1184, .i32⟩
  | 19 => ⟨S1184, .i32⟩
  | 20 => ⟨S1184, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S1184x1, .i32⟩
  | 38 => ⟨S1184x1, .i32⟩
  | 39 => ⟨S1184x1, .i32⟩
  | 40 => ⟨S1184x3, .i32⟩
  | 41 => ⟨S1184x1x1024x2048, .f32⟩
  | 42 => ⟨S1184x1024x2048, .f32⟩
  | 43 => ⟨S1184x128x2048, .f32⟩
  | 44 => ⟨S_, .i32⟩
  | 45 => ⟨S1184, .i32⟩
  | 46 => ⟨S1184, .i1⟩
  | 47 => ⟨S_, .i32⟩
  | 48 => ⟨S1184, .i32⟩
  | 49 => ⟨S1184, .i32⟩
  | 50 => ⟨S1184, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S1184x1, .i32⟩
  | 60 => ⟨S1184x1, .i32⟩
  | 61 => ⟨S1184x2, .i32⟩
  | 62 => ⟨S1184x1x2048, .f32⟩
  | 63 => ⟨S1184x2048, .f32⟩
  | 64 => ⟨S1184x1x2048, .f32⟩
  | 65 => ⟨S1184x128x2048, .f32⟩
  | 66 => ⟨S1184x128x2048, .f32⟩
  | 67 => ⟨S1184x128x1024, .f32⟩
  | 68 => ⟨S1184x128x1024, .f32⟩
  | 69 => ⟨S_, .f32⟩
  | 70 => ⟨S1184x128x1024, .f32⟩
  | 71 => ⟨S1184x128x1024, .f32⟩
  | 72 => ⟨S_, .f32⟩
  | 73 => ⟨S_, .f32⟩
  | 74 => ⟨S_, .f32⟩
  | 75 => ⟨S1184x128x1024, .f32⟩
  | 76 => ⟨S1184x128x1024, .f32⟩
  | 77 => ⟨S_, .f32⟩
  | 78 => ⟨S1184x128x1024, .f32⟩
  | 79 => ⟨S1184x128x1024, .f32⟩
  | 80 => ⟨S_, .f32⟩
  | 81 => ⟨S1184x128x1024, .f32⟩
  | 82 => ⟨S1184x128x1024, .f32⟩
  | 83 => ⟨S_, .f32⟩
  | 84 => ⟨S1184x128x1024, .f32⟩
  | 85 => ⟨S1184x128x1024, .f32⟩
  | 86 => ⟨S1184x128x1024, .f32⟩
  | 87 => ⟨S1184x128x1024, .f32⟩
  | 88 => ⟨S_, .f32⟩
  | 89 => ⟨S1184x128x1024, .f32⟩
  | 90 => ⟨S1184x128x1024, .f32⟩
  | 91 => ⟨S_, .f32⟩
  | 92 => ⟨S1184x128x1024, .f32⟩
  | 93 => ⟨S1184x128x1024, .f32⟩
  | 94 => ⟨S1184x128x1024, .f32⟩
  | 95 => ⟨S1184x128x1024, .f32⟩
  | 96 => ⟨S_, .i32⟩
  | 97 => ⟨S1184, .i32⟩
  | 98 => ⟨S1184, .i1⟩
  | 99 => ⟨S_, .i32⟩
  | 100 => ⟨S1184, .i32⟩
  | 101 => ⟨S1184, .i32⟩
  | 102 => ⟨S1184, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S1184x1, .i32⟩
  | 120 => ⟨S1184x1, .i32⟩
  | 121 => ⟨S1184x1, .i32⟩
  | 122 => ⟨S1184x3, .i32⟩
  | 123 => ⟨S1184x1x1024x1024, .f32⟩
  | 124 => ⟨S1184x1024x1024, .f32⟩
  | 125 => ⟨S1184x128x1024, .f32⟩
  | 126 => ⟨S_, .i32⟩
  | 127 => ⟨S1184, .i32⟩
  | _ => ⟨S296, .i32⟩

abbrev hbmTy0_1 (i : Nat) : BufTy := match i % 128 with
  | 0 => ⟨S1184, .i1⟩
  | 1 => ⟨S_, .i32⟩
  | 2 => ⟨S1184, .i32⟩
  | 3 => ⟨S1184, .i32⟩
  | 4 => ⟨S1184, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S1184x1, .i32⟩
  | 14 => ⟨S1184x1, .i32⟩
  | 15 => ⟨S1184x2, .i32⟩
  | 16 => ⟨S1184x1x1024, .f32⟩
  | 17 => ⟨S1184x1024, .f32⟩
  | 18 => ⟨S1184x1x1024, .f32⟩
  | 19 => ⟨S1184x128x1024, .f32⟩
  | 20 => ⟨S1184x128x1024, .f32⟩
  | 21 => ⟨S1212416x128, .f32⟩
  | _ => ⟨S296, .i32⟩

abbrev hbmTy (i : Nat) : BufTy := match i / 128 with
  | 0 => hbmTy0_0 i
  | 1 => hbmTy0_1 i
  | _ => ⟨S296, .i32⟩

abbrev bufTy : (tb : Table) → Fin (tcTables nBuf tb) → BufTy
  | .hbm, ⟨i, _⟩ => hbmTy i
  | _, _ => ⟨S296, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_c_2 : Ref sig .tc := ⟨.hbm, 22, rfl⟩
abbrev main_v12 : Ref sig .tc := ⟨.hbm, 23, rfl⟩
abbrev main_c_3 : Ref sig .tc := ⟨.hbm, 24, rfl⟩
abbrev main_c_4 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_c_6 : Ref sig .tc := ⟨.hbm, 29, rfl⟩
abbrev main_c_7 : Ref sig .tc := ⟨.hbm, 30, rfl⟩
abbrev main_v15 : Ref sig .tc := ⟨.hbm, 31, rfl⟩
abbrev main_c_8 : Ref sig .tc := ⟨.hbm, 32, rfl⟩
abbrev main_c_9 : Ref sig .tc := ⟨.hbm, 33, rfl⟩
abbrev main_v16 : Ref sig .tc := ⟨.hbm, 34, rfl⟩
abbrev main_c_10 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_11 : Ref sig .tc := ⟨.hbm, 44, rfl⟩
abbrev main_v25 : Ref sig .tc := ⟨.hbm, 45, rfl⟩
abbrev main_v26 : Ref sig .tc := ⟨.hbm, 46, rfl⟩
abbrev main_c_12 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_13 : Ref sig .tc := ⟨.hbm, 51, rfl⟩
abbrev main_c_14 : Ref sig .tc := ⟨.hbm, 52, rfl⟩
abbrev main_v30 : Ref sig .tc := ⟨.hbm, 53, rfl⟩
abbrev main_c_15 : Ref sig .tc := ⟨.hbm, 54, rfl⟩
abbrev main_c_16 : Ref sig .tc := ⟨.hbm, 55, rfl⟩
abbrev main_v31 : Ref sig .tc := ⟨.hbm, 56, rfl⟩
abbrev main_c_17 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst : Ref sig .tc := ⟨.hbm, 69, rfl⟩
abbrev main_v43 : Ref sig .tc := ⟨.hbm, 70, rfl⟩
abbrev main_v44 : Ref sig .tc := ⟨.hbm, 71, rfl⟩
abbrev main_cst_18 : Ref sig .tc := ⟨.hbm, 72, rfl⟩
abbrev main_cst_19 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v45 : Ref sig .tc := ⟨.hbm, 79, rfl⟩
abbrev main_cst_20 : Ref sig .tc := ⟨.hbm, 80, rfl⟩
abbrev main_v46 : Ref sig .tc := ⟨.hbm, 81, rfl⟩
abbrev main_v47 : Ref sig .tc := ⟨.hbm, 82, rfl⟩
abbrev main_cst_21 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_22 : Ref sig .tc := ⟨.hbm, 88, rfl⟩
abbrev main_v52 : Ref sig .tc := ⟨.hbm, 89, rfl⟩
abbrev main_v53 : Ref sig .tc := ⟨.hbm, 90, rfl⟩
abbrev main_cst_23 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_24 : Ref sig .tc := ⟨.hbm, 96, rfl⟩
abbrev main_v58 : Ref sig .tc := ⟨.hbm, 97, rfl⟩
abbrev main_v59 : Ref sig .tc := ⟨.hbm, 98, rfl⟩
abbrev main_c_25 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_c_26 : Ref sig .tc := ⟨.hbm, 103, rfl⟩
abbrev main_c_27 : Ref sig .tc := ⟨.hbm, 104, rfl⟩
abbrev main_v63 : Ref sig .tc := ⟨.hbm, 105, rfl⟩
abbrev main_c_28 : Ref sig .tc := ⟨.hbm, 106, rfl⟩
abbrev main_c_29 : Ref sig .tc := ⟨.hbm, 107, rfl⟩
abbrev main_v64 : Ref sig .tc := ⟨.hbm, 108, rfl⟩
abbrev main_c_30 : Ref sig .tc := ⟨.hbm, 109, rfl⟩
abbrev main_v65 : Ref sig .tc := ⟨.hbm, 110, rfl⟩
abbrev main_c_31 : Ref sig .tc := ⟨.hbm, 111, rfl⟩
abbrev main_c_32 : Ref sig .tc := ⟨.hbm, 112, rfl⟩
abbrev main_v66 : Ref sig .tc := ⟨.hbm, 113, rfl⟩
abbrev main_c_33 : Ref sig .tc := ⟨.hbm, 114, rfl⟩
abbrev main_c_34 : Ref sig .tc := ⟨.hbm, 115, rfl⟩
abbrev main_v67 : Ref sig .tc := ⟨.hbm, 116, rfl⟩
abbrev main_c_35 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_c_36 : Ref sig .tc := ⟨.hbm, 126, rfl⟩
abbrev main_v76 : Ref sig .tc := ⟨.hbm, 127, rfl⟩
abbrev main_v77 : Ref sig .tc := ⟨.hbm, 128, rfl⟩
abbrev main_c_37 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_c_38 : Ref sig .tc := ⟨.hbm, 133, rfl⟩
abbrev main_c_39 : Ref sig .tc := ⟨.hbm, 134, rfl⟩
abbrev main_v81 : Ref sig .tc := ⟨.hbm, 135, rfl⟩
abbrev main_c_40 : Ref sig .tc := ⟨.hbm, 136, rfl⟩
abbrev main_c_41 : Ref sig .tc := ⟨.hbm, 137, rfl⟩
abbrev main_v82 : Ref sig .tc := ⟨.hbm, 138, rfl⟩
abbrev main_c_42 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩

abbrev nD : Nat := 1
abbrev τ : Topo := Topo.v7x

variable {F : FTy → Type} [FloatOps F]
-- ==== Proof.RefWords.lean ====
module
public import proofs.«01_k».proof.Proof.Gen.ReferenceIdeal.Read
public import Idealize.ShloMosaic.Lib.KernelVsHost
public import Idealize.ShloMosaic.Lib.Pointwise
public import Idealize.ShloMosaic.Lib.Pipeline.Value
@[expose] public section
set_option maxRecDepth 16384
noncomputable section
namespace Cert.ReferenceIdeal.Whole
open Idealize.ShloMosaic Idealize.ShloMosaic.TcCoe Cert.ReferenceIdeal Cert.ReferenceIdeal.Gen Cert.ReferenceIdeal.Read

/-! # The words of the reference: chunk numbers, the mask, the row of the bias -/

/-- The quotient by 64 rounded down, on one word. -/
def chunkWord (x : BitVec 32) : BitVec 32 :=
  Scalar.select (IntOp.andi (IntOp.cmpi .ne (signi (fun _ : S_.Idx => x) (fun a => a.elim0)) (signi (fun _ : S_.Idx => 64#32) (fun a => a.elim0))) (IntOp.cmpi .ne (IntOp.remsi .host x 64#32) 0#32))
    (IntOp.subi (IntOp.divsi .host x 64#32) 1#32) (IntOp.divsi .host x 64#32)
/-- The chunk numbers of all positions, the position written as a block of 128 and a place in it. -/
theorem chunkWord_blocks : ∀ a b : Fin 128, chunkWord (BitVec.ofNat 32 (128 * a.val + b.val)) = BitVec.ofNat 32 ((128 * a.val + b.val) / 64) := by
  decide +kernel
/-- The chunk number of a position. -/
theorem chunkWord_at (i : Fin 16384) : chunkWord (BitVec.ofNat 32 i.val) = BitVec.ofNat 32 (i.val / 64) := by
  have h := chunkWord_blocks ⟨i.val / 128, by omega⟩ ⟨i.val % 128, by omega⟩
  have e : 128 * (i.val / 128) + i.val % 128 = i.val := by omega
  simp only [e] at h
  exact h
/-- The chunk of a query position, read from the program. -/
theorem v29_at (i : Fin 16384) : val_main_v29 (F := Ideal) (ix1 i) = BitVec.ofNat 32 (i.val / 64) := by
  rw [← chunkWord_at]
  simp only [val_main_v29_apply, val_main_call1_v11_apply, val_main_call1_v13_apply, val_main_call1_v2_apply, val_main_call1_v6_apply,
    val_main_call1_v10_apply, val_main_call1_v12_apply, val_main_call1_v8_apply, val_main_call1_v1_apply, val_main_call1_v7_apply,
    val_main_call1_v9_apply, val_main_call1_v5_apply]
  rfl
/-- The chunk of a key position, read from the program. -/
theorem v30_at (i : Fin 16384) : val_main_v30 (F := Ideal) (ix1 i) = BitVec.ofNat 32 (i.val / 64) := by
  rw [← chunkWord_at]
  simp only [val_main_v30_apply, val_main_call2_v11_apply, val_main_call2_v13_apply, val_main_call2_v2_apply, val_main_call2_v6_apply,
    val_main_call2_v10_apply, val_main_call2_v12_apply, val_main_call2_v8_apply, val_main_call2_v1_apply, val_main_call2_v7_apply,
    val_main_call2_v9_apply, val_main_call2_v5_apply]
  rfl
/-- The mask on chunk numbers: the key's chunk is the query's or one of the eight before. -/
theorem mask_word (q k : Fin 256) : IntOp.andi (IntOp.cmpi .sle (BitVec.ofNat 32 k.val) (BitVec.ofNat 32 q.val))
    (IntOp.cmpi .sge (BitVec.ofNat 32 k.val) (IntOp.subi (BitVec.ofNat 32 q.val) 8#32)) = if k.val ≤ q.val ∧ q.val ≤ k.val + 8 then 1#1 else 0#1 := by
  have h1 : (BitVec.ofNat 32 k.val).sle (BitVec.ofNat 32 q.val) = decide (k.val ≤ q.val) := by
    simp only [BitVec.sle, BitVec.toInt, BitVec.toNat_ofNat, decide_eq_decide]
    split_ifs <;> omega
  have h2 : (BitVec.ofNat 32 q.val - 8#32).sle (BitVec.ofNat 32 k.val) = decide (q.val ≤ k.val + 8) := by
    simp only [BitVec.sle, BitVec.toInt, BitVec.toNat_sub, BitVec.toNat_ofNat, decide_eq_decide]
    split_ifs <;> omega
  show BitVec.ofBool ((BitVec.ofNat 32 k.val).sle (BitVec.ofNat 32 q.val)) &&& BitVec.ofBool ((BitVec.ofNat 32 q.val - 8#32).sle (BitVec.ofNat 32 k.val)) = _
  rw [h1, h2]
  by_cases a : k.val ≤ q.val <;> by_cases b : q.val ≤ k.val + 8 <;> simp [a, b]
/-- Every position is at least zero. -/
theorem pos_word (n : Fin 16384) : IntOp.cmpi .sge (BitVec.ofNat 32 n.val) 0#32 = 1#1 := by
  have h1 : (0#32).sle (BitVec.ofNat 32 n.val) = true := by
    simp only [BitVec.sle, BitVec.toInt, BitVec.toNat_ofNat, decide_eq_true_eq]
    split_ifs <;> omega
  show BitVec.ofBool ((0#32).sle (BitVec.ofNat 32 n.val)) = 1#1
  rw [h1]; rfl
/-- Every position is at least zero, read from the program. -/
theorem v33_at (i : Fin 16384) : val_main_v33 (F := Ideal) (ix2 0 i) = 1#1 := by
  rw [← pos_word i]
  simp only [val_main_v33_apply, val_main_v31_apply, val_main_v32_apply]
  rfl
/-- The mask at query `n`, key `m`. -/
theorem v48_at (n m : Fin 16384) : val_main_v48 (F := Ideal) (ix2 n m) = if m.val / 64 ≤ n.val / 64 ∧ n.val / 64 ≤ m.val / 64 + 8 then 1#1 else 0#1 := by
  have h := mask_word ⟨n.val / 64, by omega⟩ ⟨m.val / 64, by omega⟩
  rw [← h]
  simp only [val_main_v48_apply, val_main_v40_apply, val_main_v47_apply, val_main_v38_apply, val_main_v39_apply, val_main_v45_apply, val_main_v46_apply,
    val_main_v41_apply, val_main_v44_apply, val_main_v36_apply, val_main_v37_apply, val_main_v34_apply, val_main_v35_apply, val_main_v42_apply, val_main_v43_apply]
  have e1 := v33_at m
  have e2 := v29_at n
  have e3 := v30_at m
  have e4 : ∀ c : BitVec 1, IntOp.andi 1#1 c = c := by decide
  rw [← e2, ← e3]
  show IntOp.andi (IntOp.andi (val_main_v33 (F := Ideal) (ix2 0 m)) _) _ = _
  rw [e1, e4]
  rfl
/-- The row of the bias on one word: the difference cut off at 256 either way, from the table's middle. -/
def rowWord (d : BitVec 32) : BitVec 32 :=
  let y := IntOp.addi (IntOp.minsi 256#32 (IntOp.maxsi 4294967040#32 d)) 256#32
  Scalar.select (IntOp.cmpi .slt y 0#32) (IntOp.addi y 513#32) y
/-- The row of the bias for the differences the mask leaves. -/
theorem rowWord_at : ∀ e : Fin 640, (rowWord (BitVec.ofNat 32 e.val - 64#32)).toInt.toNat = min (e.val + 192) 512 := by
  decide +kernel
/-- A difference of two positions, as a word. -/
theorem diff_word (n m : Fin 16384) (h : m.val ≤ n.val + 64) (h' : n.val + 64 - m.val < 640) :
    IntOp.subi (BitVec.ofNat 32 n.val) (BitVec.ofNat 32 m.val) = BitVec.ofNat 32 (n.val + 64 - m.val) - 64#32 := by
  show BitVec.ofNat 32 n.val - BitVec.ofNat 32 m.val = _
  apply BitVec.eq_of_toNat_eq
  simp only [BitVec.toNat_sub, BitVec.toNat_ofNat]
  omega
/-- The row of the bias at query `n`, key `m`, where the mask allows the pair. -/
theorem v24_at (n m : Fin 16384) (h : m.val ≤ n.val + 64) (h' : n.val + 64 - m.val < 640) :
    (val_main_v24 (F := Ideal) (ix3 n m 0)).toInt.toNat = min (n.val + 256 - m.val) 512 := by
  have e := rowWord_at ⟨n.val + 64 - m.val, h'⟩
  have e2 : min (n.val + 256 - m.val) 512 = min (n.val + 64 - m.val + 192) 512 := by omega
  rw [e2]
  refine Eq.trans (congrArg (fun w : BitVec 32 => w.toInt.toNat) ?_) e
  show _ = rowWord (BitVec.ofNat 32 (n.val + 64 - m.val) - 64#32)
  rw [← diff_word n m h h']
  simp only [val_main_v24_apply, val_main_v23_apply, val_main_v22_apply, val_main_v21_apply, val_main_v20_apply, val_main_v19_apply, val_main_v18_apply,
    val_main_v17_apply, val_main_v16_apply, val_main_call0_v4_apply, val_main_call0_v2_apply, val_main_call0_v1_apply, val_main_v15_apply,
    val_main_v13_apply, val_main_v14_apply, val_main_v11_apply, val_main_v12_apply]
  rfl
/-- The gather read at `(h, n, m)`: row `h` of the table, at the column the start index names, cut off to the table. -/
theorem gather_at (x : FVec Ideal S8x513 .f32) (idx : IVec S16384x16384x1 32) (h : Fin 8) (n m : Fin 16384) :
    Host.gather gather_S8x513_S16384x16384x1_S8x16384x16384_0_1_n_n_1_2_81 x idx (ix3 h n m)
      = x (ix2 h ⟨min (idx (ix3 n m 0)).toInt.toNat 512, by omega⟩) := by
  unfold Host.gather
  refine congrArg x (funext fun a => Fin.ext ?_)
  have h01 : a = 0 ∨ a = 1 := by
    match a with
    | ⟨0, _⟩ => exact Or.inl rfl
    | ⟨1, _⟩ => exact Or.inr rfl
  let D := gather_S8x513_S16384x16384x1_S8x16384x16384_0_1_n_n_1_2_81
  show D.start (ix3 h n m) idx a + D.batchCoord (ix3 h n m) a + D.offCoord (ix3 h n m) a = _
  rcases h01 with rfl | rfl
  · have e1 : D.start (ix3 h n m) idx 0 = 0 := by
      unfold GatherDims.start; exact dif_neg (by decide)
    have e2 : D.batchCoord (ix3 h n m) 0 = 0 := GatherDims.batchCoord_eq_zero _ _ _ List.not_mem_nil
    rw [e1, e2]
    unfold GatherDims.offCoord
    rw [dif_pos (show (0 : Fin 2) ∈ D.sKept by decide)]
    show 0 + 0 + h.val = h.val
    omega
  · have e2 : D.batchCoord (ix3 h n m) 1 = 0 := GatherDims.batchCoord_eq_zero _ _ _ List.not_mem_nil
    have e3 : D.offCoord (ix3 h n m) 1 = 0 := GatherDims.offCoord_eq_zero _ _ _ (by decide)
    rw [e2, e3]
    unfold GatherDims.start
    rw [dif_pos (show (1 : Fin 2) ∈ D.startIndexMap from List.mem_singleton.mpr rfl)]
    have hsi : D.siIdx (ix3 h n m) ⟨List.idxOf (1 : Fin 2) D.startIndexMap, List.idxOf_lt_length_iff.2 (List.mem_singleton.mpr rfl)⟩ = ix3 n m 0 := by
      funext b; refine Fin.ext ?_
      match b with
      | ⟨0, _⟩ => rfl
      | ⟨1, _⟩ => rfl
      | ⟨2, _⟩ => rfl
    rw [hsi]
    rfl

end Cert.ReferenceIdeal.Whole
end
end
-- ==== Proof.Pair.lean ====
/- One pair of heads at one grid point: what the four stores of the body share, and what the pair's result is at an index. -/
module

public import proofs.«01_k».proof.Proof.Gen.KernelIdeal.Skeleton
public import Idealize.ShloMosaic.Lib.Pointwise

@[expose] public section

set_option maxRecDepth 16384

noncomputable section

namespace Cert.KernelIdeal.Band

open Cert.KernelIdeal Cert.KernelIdeal.Gen Idealize.ShloMosaic

/-- Which of the 640 slots of the window hold a key of the sequence, at sequence step `a`. -/
def okSlots (a : BitVec 32) : IVec S256x640 1 :=
  k0_pay15 a (iota .tc S256x640 32 [1] iota_S256x640_d1_w32) 64#32 k0_pay13 k0_pay14
    (Scalar.extui (Scalar.cmpi .sgt 64#32 0#32) : BitVec 32)

/-- One pair of heads: queries, keys, bias, values to the pair's 128 lanes of the result. -/
def pairOut (ok : IVec S256x640 1) (q : Vec Ideal S1x128x128 .f32) (k : Vec Ideal S640x128 .bf16)
    (b : Vec Ideal S1x256x640 .f32) (v : Vec Ideal S640x128 .bf16) : FVec Ideal S1x128x128 .f32 :=
  k0_pay29 (F := Ideal) (k0_pay28 (F := Ideal) ok (k0_pay25 (F := Ideal) q) k b) v

/-- The first pair of heads: its stored block is the two heads' attentions side by side. -/
theorem pair0 (ok : IVec S256x640 1) (q : Vec Ideal S1x128x128 .f32) (k : Vec Ideal S640x128 .bf16)
    (b : Vec Ideal S1x256x640 .f32) (v : Vec Ideal S640x128 .bf16) :
    k0_pay23 (F := Ideal) (k0_pay20 ok (k0_pay16 q k) b) (k0_pay22 ok (k0_pay16 q k) b v) = pairOut ok q k b v := rfl

/-- The same for the second pair of heads. -/
theorem pair1 (ok : IVec S256x640 1) (q : Vec Ideal S1x128x128 .f32) (k : Vec Ideal S640x128 .bf16)
    (b : Vec Ideal S1x256x640 .f32) (v : Vec Ideal S640x128 .bf16) :
    k0_pay24 (F := Ideal) (k0_pay19 ok (k0_pay17 q) (iota .tc S128x128 32 [1] iota_S128x128_d1_w32) 64#32 k b)
      (k0_pay21 ok (k0_pay17 q) (iota .tc S128x128 32 [1] iota_S128x128_d1_w32) 64#32 k b) v = pairOut ok q k b v := rfl

/-- The same for the fourth pair of heads. -/
theorem pair3 (ok : IVec S256x640 1) (q : Vec Ideal S1x128x128 .f32) (k : Vec Ideal S640x128 .bf16)
    (b : Vec Ideal S1x256x640 .f32) (v : Vec Ideal S640x128 .bf16) :
    k0_pay30 (F := Ideal) (k0_pay26 ok q k b) (k0_pay27 ok q k b) v = pairOut ok q k b v := rfl

/-- The slot's chunk against the first chunk of the sequence, as words: for steps and chunks in range the comparison is
    the one on numbers. -/
theorem ok_word : ∀ (s : Fin 128) (c : Fin 10),
    IntOp.cmpi .sge (BitVec.ofNat 32 c.val) (Scalar.subi (8#32) (Scalar.muli (BitVec.ofNat 32 s.val) 2#32))
      = if 8 ≤ 2 * s.val + c.val then 1#1 else 0#1 := by
  decide +kernel

/-- The slot's chunk, as the printed floor division computes it. -/
theorem chunk_word : ∀ j : Fin 640,
    Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32) = BitVec.ofNat 32 (j.val / 64) := by
  decide +kernel

/-- A slot of the window holds a key of the sequence exactly when its position is not before the first one. -/
theorem okSlots_apply (s : Fin 128) (r : Fin 256) (j : Fin 640) :
    okSlots (BitVec.ofNat 32 s.val) (ix2 r j) = if 512 ≤ 128 * s.val + j.val then 1#1 else 0#1 := by
  have h1 := chunk_word j
  have h2 := ok_word s ⟨j.val / 64, by omega⟩
  pointwise [okSlots, k0_pay15, k0_pay13, k0_pay14]
  rw [h1, h2]
  have e : (8 ≤ 2 * s.val + j.val / 64) ↔ (512 ≤ 128 * s.val + j.val) := by omega
  simp only [e]

/-- The softmax-weighted sum, the division done once at the end: scores `s`, values `v`. -/
def soft {n : ℕ} (s v : Fin n → EReal) : EReal :=
  Ideal.div (∑ x, Ideal.exp (s x - Finset.univ.fold max ⊥ s) * v x) (∑ x, Ideal.exp (s x - Finset.univ.fold max ⊥ s))

/-- The word of minus infinity is the bottom. -/
theorem ofBits_neg_inf : Ideal.ofBits .f32 0xFF800000#32 = (⊥ : EReal) := by
  simp [Ideal.ofBits, Ideal.ieee]

/-- The named mask constant is the bottom. -/
theorem mask_bot : (Named.named κ "mask" 0xF149F2CA#32 : Ideal .f32) = (⊥ : EReal) := by
  exact IdealRules.named_const.ideal_named_scalar _ _ _ _ rfl

/-- A selection on a bit is a case distinction. -/
theorem select_ite (c : BitVec 1) (x y : EReal) : Scalar.select c x y = if c = 1#1 then x else y := by
  unfold Scalar.select; rfl

/-- The lanes below 64, compared as words. -/
theorem lane_lt : ∀ x : Fin 128, IntOp.cmpi CmpIPredicate.slt (BitVec.ofNat 32 x.val) 64#32 = if x.val < 64 then 1#1 else 0#1 := by
  decide +kernel
/-- The lanes from 64 on, compared as words. -/
theorem lane_ge : ∀ x : Fin 128, IntOp.cmpi CmpIPredicate.sge (BitVec.ofNat 32 x.val) 64#32 = if 64 ≤ x.val then 1#1 else 0#1 := by
  decide +kernel

/-- The score of a slot for head `g` of the pair at row `r`: the scaled queries of the head's 64 lanes against the keys',
    plus the bias, where the slot holds a key. -/
def score (ok : Fin 640 → Prop) [DecidablePred ok] (q : Vec Ideal S1x128x128 .f32) (k : Vec Ideal S640x128 .bf16)
    (b : Vec Ideal S1x256x640 .f32) (g : Fin 2) (r : Fin 128) (x : Fin 640) : EReal :=
  if ok x then
    (∑ d : Fin 64, q (ix3 0 r ⟨64 * g.val + d.val, by omega⟩) * Ideal.ofBits .f32 0x3E000000#32
      * k (ix2 x ⟨64 * g.val + d.val, by omega⟩)) + b (ix3 0 ⟨128 * g.val + r.val, by omega⟩ x)
  else ⊥

/-- The first head's lane-masked sum over the pair's 128 lanes is the sum over its own 64. -/
theorem lanes_lo (f k : Fin 128 → EReal) :
    (∑ x : Fin 128, (if x.val < 64 then f x else 0) * k x)
      = ∑ d : Fin 64, f ⟨64 * 0 + d.val, by omega⟩ * k ⟨64 * 0 + d.val, by omega⟩ := by
  rw [Fin.sum_univ_two_halves 64 64 rfl]
  rw [Finset.sum_congr rfl (g := fun d : Fin 64 => f ⟨64 * 0 + d.val, by omega⟩ * k ⟨64 * 0 + d.val, by omega⟩)
      (fun d _ => ?_)]
  rotate_left
  · rw [if_pos (by show d.val < 64; exact d.isLt)]
    congr 2 <;> exact Fin.ext (by simp)
  refine (congrArg _ (Finset.sum_eq_zero fun d _ => ?_)).trans (add_zero _)
  rw [if_neg (by show ¬ (64 + d.val < 64); omega), zero_mul]

/-- The second head's lane-masked sum over the pair's 128 lanes is the sum over its own 64. -/
theorem lanes_hi (f k : Fin 128 → EReal) :
    (∑ x : Fin 128, (if 64 ≤ x.val then f x else 0) * k x)
      = ∑ d : Fin 64, f ⟨64 * 1 + d.val, by omega⟩ * k ⟨64 * 1 + d.val, by omega⟩ := by
  rw [Fin.sum_univ_two_halves 64 64 rfl]
  rw [Finset.sum_congr rfl (s₁ := (Finset.univ : Finset (Fin 64))) (g := fun _ => (0 : EReal)) (fun d _ => ?_)]
  rotate_left
  · rw [if_neg (by show ¬ (64 ≤ d.val); omega), zero_mul]
  rw [Finset.sum_const_zero, zero_add]
  refine Finset.sum_congr rfl fun d _ => ?_
  rw [if_pos (by show 64 ≤ 64 + d.val; omega)]

/-- The bit of a proposition is one exactly when the proposition holds. -/
theorem word_ite (p : Prop) [Decidable p] : ((if p then 1#1 else 0#1) = 1#1) = p := by
  by_cases h : p <;> simp [h]

/-- What one pair stores at row `r`, lane `l`: head `l / 64`'s softmax-weighted sum of the lane's values. -/
theorem pairOut_apply (ok : IVec S256x640 1) (P : Fin 640 → Prop) [DecidablePred P]
    (hok : ∀ (r : Fin 256) (x : Fin 640), ok (ix2 r x) = if P x then 1#1 else 0#1)
    (q : Vec Ideal S1x128x128 .f32) (k : Vec Ideal S640x128 .bf16)
    (b : Vec Ideal S1x256x640 .f32) (v : Vec Ideal S640x128 .bf16) (r l : Fin 128) :
    pairOut ok q k b v (ix3 0 r l)
      = soft (score P q k b ⟨l.val / 64, by omega⟩ r) (fun x => v (ix2 x l)) := by
  have hs : ∀ (g : Fin 2) (x : Fin 640), (k0_pay28 (F := Ideal) ok (k0_pay25 (F := Ideal) q) k b) (ix2 ⟨128 * g.val + r.val, by omega⟩ x)
      = score P q k b g r x - Finset.univ.fold max ⊥ (score P q k b g r) := by
    intro g x
    pointwise [k0_pay28, k0_pay25]
    simp only [ofBits_neg_inf, mask_bot, hok, lane_lt, lane_ge, select_ite, word_ite]
    have e : ∀ x : Fin 640, (∑ y : Fin 128,
        (if h : 128 * g.val + r.val < 128 then
          if y.val < 64 then q (ix3 0 ⟨128 * g.val + r.val, h⟩ y) * Ideal.ofBits FTy.f32 1040187392#32 else 0
        else
          if 64 ≤ y.val then q (ix3 0 ⟨128 * g.val + r.val - 128, by omega⟩ y) * Ideal.ofBits FTy.f32 1040187392#32 else 0) *
          k (ix2 x y))
        = ∑ d : Fin 64, q (ix3 0 r ⟨64 * g.val + d.val, by omega⟩) * Ideal.ofBits .f32 0x3E000000#32
            * k (ix2 x ⟨64 * g.val + d.val, by omega⟩) := by
      intro x
      match g with
      | ⟨0, _⟩ =>
        refine Eq.trans (Finset.sum_congr rfl fun y _ => ?_)
          (lanes_lo (fun y => q (ix3 0 r y) * Ideal.ofBits .f32 0x3E000000#32) (fun y => k (ix2 x y)))
        rw [dif_pos (by show 128 * 0 + r.val < 128; omega)]
        have : (⟨128 * 0 + r.val, by omega⟩ : Fin 128) = r := Fin.ext (by simp)
        rw [this]
      | ⟨1, _⟩ =>
        refine Eq.trans (Finset.sum_congr rfl fun y _ => ?_)
          (lanes_hi (fun y => q (ix3 0 r y) * Ideal.ofBits .f32 0x3E000000#32) (fun y => k (ix2 x y)))
        rw [dif_neg (by show ¬ (128 * 1 + r.val < 128); omega)]
        have : (⟨128 * 1 + r.val - 128, by omega⟩ : Fin 128) = r := Fin.ext (by simp)
        rw [this]
    simp only [e]
    rfl
  unfold pairOut
  generalize k0_pay28 (F := Ideal) ok (k0_pay25 (F := Ideal) q) k b = s at hs ⊢
  pointwise [k0_pay29]
  rw [lane_lt, select_ite]
  have h0 := hs 0
  have h1 := hs 1
  simp only [Fin.val_zero, Fin.val_one, Nat.mul_zero, Nat.zero_add, Nat.mul_one] at h0 h1
  simp only [h0, h1]
  by_cases hl : l.val < 64
  · have e : (⟨l.val / 64, by omega⟩ : Fin 2) = 0 := Fin.ext (by show l.val / 64 = 0; omega)
    rw [e, if_pos hl, if_pos rfl]; rfl
  · have e : (⟨l.val / 64, by omega⟩ : Fin 2) = 1 := Fin.ext (by show l.val / 64 = 1; omega)
    rw [e, if_neg hl, if_neg (by decide)]; rfl

end Cert.KernelIdeal.Band

end
-- ==== Proof.Softmax.lean ====
module
public import proofs.«01_k».proof.Proof.Pair
@[expose] public section
set_option maxRecDepth 16384
noncomputable section
namespace Cert.KernelIdeal.Band
open Idealize.ShloMosaic

/-! # The softmax over the keys in reach is the softmax over all keys -/

/-- The softmax-weighted sum, each weight divided by the total before it is used: scores `s`, values `v`. -/
def plain {n : ℕ} (s v : Fin n → EReal) : EReal :=
  ∑ x, v x * Ideal.div (Ideal.exp (s x - Finset.univ.fold max ⊥ s)) (∑ y, Ideal.exp (s y - Finset.univ.fold max ⊥ s))

/-- The fold of the maximum is the least upper bound. -/
theorem fold_max_sup {n : ℕ} (s : Fin n → EReal) : Finset.univ.fold max ⊥ s = Finset.univ.sup s := rfl

/-- A real nonnegative factor distributes over any finite sum of extended reals. -/
theorem sum_mul_real {ι : Type} (t : Finset ι) (f : ι → EReal) (c : ℝ) (hc : 0 ≤ c) :
    (∑ x ∈ t, f x) * (c : EReal) = ∑ x ∈ t, f x * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- A finite sum of reals, taken in the extended reals. -/
theorem sum_coe {ι : Type} (t : Finset ι) (f : ι → ℝ) : (∑ x ∈ t, (f x : EReal)) = ((∑ x ∈ t, f x : ℝ) : EReal) := by
  classical
  induction t using Finset.induction_on with
  | empty => simp
  | insert a t ha ih => rw [Finset.sum_insert ha, Finset.sum_insert ha, ih, EReal.coe_add]

/-- A sum over the keys whose terms vanish off the images of the slots in use is the sum over those slots. -/
theorem sum_keys {n N : ℕ} (ok : Fin n → Prop) (e : Fin n → Fin N) (f : Fin n → EReal) (F : Fin N → EReal)
    (hinj : ∀ x y, ok x → ok y → e x = e y → x = y) (hf : ∀ x, ok x → f x = F (e x)) (h0 : ∀ x, ¬ ok x → f x = 0)
    (hF : ∀ m, (∀ x, ok x → e x ≠ m) → F m = 0) : (∑ x, f x) = ∑ m, F m := by
  classical
  rw [← Finset.sum_subset (Finset.subset_univ (Finset.univ.filter ok)) (fun x _ hx => h0 x (by simpa using hx)),
    ← Finset.sum_subset (Finset.subset_univ ((Finset.univ.filter ok).image e)) (fun m _ hm => hF m (fun x hx hxm => hm (by
      simp only [Finset.mem_image, Finset.mem_filter, Finset.mem_univ, true_and]; exact ⟨x, hx, hxm⟩))),
    Finset.sum_image (fun x hx y hy h => hinj x y (by simpa using hx) (by simpa using hy) h)]
  exact Finset.sum_congr rfl fun x hx => hf x (by simpa using hx)

/-- When the slots in use correspond one to one to the keys in reach, their scores are real and every other score is
    the bottom, the two weighted sums are equal. -/
theorem soft_eq_plain {n N : ℕ} (s v : Fin n → EReal) (S V : Fin N → EReal) (ok : Fin n → Prop) (e : Fin n → Fin N)
    (hinj : ∀ x y, ok x → ok y → e x = e y → x = y) (hs : ∀ x, ok x → s x = S (e x)) (hv : ∀ x, ok x → v x = V (e x))
    (hreal : ∀ x, ok x → ∃ r : ℝ, s x = r) (hno : ∀ x, ¬ ok x → s x = ⊥)
    (hNo : ∀ m, (∀ x, ok x → e x ≠ m) → S m = ⊥) (x0 : Fin n) (h0 : ok x0) : soft s v = plain S V := by
  classical
  have hM : Finset.univ.fold max ⊥ S = Finset.univ.fold max ⊥ s := by
    rw [fold_max_sup, fold_max_sup]
    apply le_antisymm
    · refine Finset.sup_le fun m _ => ?_
      by_cases h : ∃ x, ok x ∧ e x = m
      · obtain ⟨x, hx, rfl⟩ := h
        rw [← hs x hx]; exact Finset.le_sup (Finset.mem_univ x)
      · rw [hNo m (fun x hx hxm => h ⟨x, hx, hxm⟩)]; exact bot_le
    · refine Finset.sup_le fun x _ => ?_
      by_cases h : ok x
      · rw [hs x h]; exact Finset.le_sup (Finset.mem_univ (e x))
      · rw [hno x h]; exact bot_le
  obtain ⟨xm, _, hxm⟩ := Finset.exists_mem_eq_sup (Finset.univ : Finset (Fin n)) ⟨x0, Finset.mem_univ _⟩ s
  rw [← fold_max_sup] at hxm
  have hokm : ok xm := by
    by_contra h
    have hle : s x0 ≤ Finset.univ.sup s := Finset.le_sup (Finset.mem_univ x0)
    rw [← fold_max_sup, hxm, hno xm h] at hle
    obtain ⟨r, hr⟩ := hreal x0 h0
    rw [hr] at hle
    exact EReal.coe_ne_bot r (le_bot_iff.mp hle)
  obtain ⟨M, hMr⟩ := hreal xm hokm
  rw [hMr] at hxm
  unfold soft plain
  rw [hM, hxm]
  have hp0 : ∀ x, ¬ ok x → Ideal.exp (s x - (M : EReal)) = 0 := fun x hx => by rw [hno x hx, EReal.bot_sub]; rfl
  have hP0 : ∀ m, (∀ x, ok x → e x ≠ m) → Ideal.exp (S m - (M : EReal)) = 0 := fun m hm => by rw [hNo m hm, EReal.bot_sub]; rfl
  have hL : (∑ x, Ideal.exp (s x - (M : EReal))) = ∑ m, Ideal.exp (S m - (M : EReal)) :=
    sum_keys ok e _ _ hinj (fun x hx => by rw [hs x hx]) hp0 hP0
  have hpr : ∀ x, ∃ r : ℝ, 0 ≤ r ∧ Ideal.exp (s x - (M : EReal)) = r := fun x => by
    by_cases h : ok x
    · obtain ⟨r, hr⟩ := hreal x h
      refine ⟨Real.exp (r - M), (Real.exp_pos _).le, ?_⟩
      rw [hr, ← EReal.coe_sub]; rfl
    · exact ⟨0, le_rfl, by rw [hp0 x h]; rfl⟩
  choose p hp hpe using hpr
  have hpm : p xm = 1 := by
    have h := hpe xm
    rw [hMr, ← EReal.coe_sub, sub_self] at h
    have h' : ((Real.exp 0 : ℝ) : EReal) = (p xm : EReal) := h
    rw [Real.exp_zero] at h'
    exact (EReal.coe_eq_coe_iff.mp h').symm
  have hLr : (∑ x, Ideal.exp (s x - (M : EReal))) = ((∑ x, p x : ℝ) : EReal) := by
    rw [← sum_coe]; exact Finset.sum_congr rfl fun x _ => hpe x
  have hpos : 0 < ∑ x, p x :=
    lt_of_lt_of_le (by rw [hpm]; exact one_pos) (Finset.single_le_sum (fun x _ => hp x) (Finset.mem_univ xm))
  rw [← hL, hLr, Ideal.div_coe hpos.ne', sum_mul_real _ _ _ (by positivity)]
  refine sum_keys ok e _ _ hinj (fun x hx => ?_) (fun x hx => ?_) (fun m hm => ?_)
  · rw [Ideal.div_coe hpos.ne', ← hs x hx, ← hv x hx, mul_comm (Ideal.exp _) (v x), mul_assoc]
  · rw [hp0 x hx, zero_mul, zero_mul]
  · rw [Ideal.div_coe hpos.ne', hP0 m hm, zero_mul, mul_zero]

end Cert.KernelIdeal.Band
end
end
-- ==== Proof.Ref.lean ====
module
public import proofs.«01_k».proof.Proof.RefWords
public import proofs.«01_k».proof.Proof.Softmax
@[expose] public section
set_option maxRecDepth 16384
noncomputable section
namespace Cert.ReferenceIdeal.Whole
open Idealize.ShloMosaic Idealize.ShloMosaic.TcCoe Cert.ReferenceIdeal Cert.ReferenceIdeal.Gen Cert.ReferenceIdeal.Read

/-! # The reference's result, element by element -/

/-- The bias at head `h`, query `n`, key `m`, where the mask allows the pair. -/
theorem v25_at (x1 : S1x8x513.Idx → EReal) (h : Fin 8) (n m : Fin 16384) (hm : m.val ≤ n.val + 64) (hm' : n.val + 64 - m.val < 640) :
    val_main_v25 (F := Ideal) x1 (ix3 h n m) = x1 (ix3 0 h ⟨min (n.val + 256 - m.val) 512, by omega⟩) := by
  unfold val_main_v25
  rw [gather_at]
  have e : val_main_v7 (F := Ideal) x1 (ix2 h ⟨min (val_main_v24 (F := Ideal) (ix3 n m 0)).toInt.toNat 512, by omega⟩)
      = val_main_v7 (F := Ideal) x1 (ix2 h ⟨min (n.val + 256 - m.val) 512, by omega⟩) :=
    congrArg (fun k => val_main_v7 (F := Ideal) x1 (ix2 h k)) (Fin.ext (by
      show min (val_main_v24 (F := Ideal) (ix3 n m 0)).toInt.toNat 512 = min (n.val + 256 - m.val) 512
      rw [v24_at n m hm hm']; omega))
  rw [e]
  unfold val_main_v7
  exact shapeCast_apply _ _ _ _ (by
    rw [Shape.rowMajor_val_three, Shape.rowMajor_val_two]
    show (0 * 8 + h.val) * 513 + min (n.val + 256 - m.val) 512 = h.val * 513 + min (n.val + 256 - m.val) 512; omega)
/-- The queries by heads. -/
theorem v4_at (x0 : S2x16384x1536.Idx → EReal) (b : Fin 2) (n : Fin 16384) (h : Fin 8) (d : Fin 64) :
    val_main_v4 (F := Ideal) x0 (ix4 b n h d) = x0 (ix3 b n ⟨64 * h.val + d.val, by omega⟩) := by
  unfold val_main_v4
  rw [shapeCast_apply _ _ _ (ix3 b n ⟨64 * h.val + d.val, by omega⟩) (by
    rw [Shape.rowMajor_val_three, Shape.rowMajor_val_four]
    show (b.val * 16384 + n.val) * 512 + (64 * h.val + d.val) = ((b.val * 16384 + n.val) * 8 + h.val) * 64 + d.val; omega)]
  unfold val_main_v0
  pointwise
/-- The keys by heads. -/
theorem v5_at (x0 : S2x16384x1536.Idx → EReal) (b : Fin 2) (n : Fin 16384) (h : Fin 8) (d : Fin 64) :
    val_main_v5 (F := Ideal) x0 (ix4 b n h d) = x0 (ix3 b n ⟨512 + (64 * h.val + d.val), by omega⟩) := by
  unfold val_main_v5
  rw [shapeCast_apply _ _ _ (ix3 b n ⟨64 * h.val + d.val, by omega⟩) (by
    rw [Shape.rowMajor_val_three, Shape.rowMajor_val_four]
    show (b.val * 16384 + n.val) * 512 + (64 * h.val + d.val) = ((b.val * 16384 + n.val) * 8 + h.val) * 64 + d.val; omega)]
  unfold val_main_v1
  pointwise
/-- The values by heads. -/
theorem v6_at (x0 : S2x16384x1536.Idx → EReal) (b : Fin 2) (n : Fin 16384) (h : Fin 8) (d : Fin 64) :
    val_main_v6 (F := Ideal) x0 (ix4 b n h d) = x0 (ix3 b n ⟨1024 + (64 * h.val + d.val), by omega⟩) := by
  unfold val_main_v6
  rw [shapeCast_apply _ _ _ (ix3 b n ⟨64 * h.val + d.val, by omega⟩) (by
    rw [Shape.rowMajor_val_three, Shape.rowMajor_val_four]
    show (b.val * 16384 + n.val) * 512 + (64 * h.val + d.val) = ((b.val * 16384 + n.val) * 8 + h.val) * 64 + d.val; omega)]
  unfold val_main_v2
  pointwise

/-- The score of query `n` for key `m` at head `h`: the scaled product and the bias where the mask allows the pair,
    elsewhere the bottom. -/
def score (x0 : S2x16384x1536.Idx → EReal) (x1 : S1x8x513.Idx → EReal) (b : Fin 2) (h : Fin 8) (n m : Fin 16384) : EReal :=
  if m.val / 64 ≤ n.val / 64 ∧ n.val / 64 ≤ m.val / 64 + 8 then
    (∑ d : Fin 64, x0 (ix3 b n ⟨64 * h.val + d.val, by omega⟩) * x0 (ix3 b m ⟨512 + (64 * h.val + d.val), by omega⟩)) * Ideal.ofBits .f32 0x3E000000#32
      + x1 (ix3 0 h ⟨min (n.val + 256 - m.val) 512, by omega⟩)
  else ⊥

/-- The masked scores. -/
theorem v49_at (x0 : S2x16384x1536.Idx → EReal) (x1 : S1x8x513.Idx → EReal) (b : Fin 2) (h : Fin 8) (n m : Fin 16384) :
    val_main_v49 (F := Ideal) x0 x1 (ix4 b h n m) = score x0 x1 b h n m := by
  have e1 : val_main_call3_v1 (F := Ideal) (ix4 b h n m) = val_main_v48 (F := Ideal) (ix2 n m) := by
    rw [val_main_call3_v1_apply]; rfl
  have e2 : val_main_call3_v2 (F := Ideal) (ix4 b h n m) = (⊥ : EReal) := by
    rw [val_main_call3_v2_apply, val_main_call3_v0_apply]
    exact Cert.KernelIdeal.Band.ofBits_neg_inf
  rw [val_main_v49_apply, e1, e2, v48_at, Cert.KernelIdeal.Band.select_ite]
  unfold score
  by_cases hm : m.val / 64 ≤ n.val / 64 ∧ n.val / 64 ≤ m.val / 64 + 8
  · rw [if_pos hm, if_pos rfl, if_pos hm, val_main_v28_apply, val_main_v10_apply, val_main_v8_apply]
    have e3 : val_main_v27 (F := Ideal) x1 (ix4 b h n m) = val_main_v25 (F := Ideal) x1 (ix3 h n m) := by
      rw [val_main_v27_apply, val_main_v26_apply]; rfl
    rw [e3, v25_at x1 h n m (by omega) (by omega)]
    have e4 : val_main_v9 (F := Ideal) (ix4 b h n m) = Ideal.ofBits .f32 0x3E000000#32 := by
      rw [val_main_v9_apply]; rfl
    rw [e4]
    refine congrArg (fun z : EReal => z * Ideal.ofBits .f32 0x3E000000#32 + x1 (ix3 0 h ⟨min (n.val + 256 - m.val) 512, by omega⟩)) ?_
    refine Finset.sum_congr rfl fun d _ => ?_
    have e5 := v4_at x0 b n h d
    have e6 := v5_at x0 b m h d
    rw [← e5, ← e6]
    refine congrArg₂ (fun p r : EReal => p * r) ?_ ?_
    · exact congrArg (val_main_v4 (F := Ideal) x0) (funext fun a => Fin.ext (by match a with | ⟨0, _⟩ => rfl | ⟨1, _⟩ => rfl | ⟨2, _⟩ => rfl | ⟨3, _⟩ => rfl))
    · exact congrArg (val_main_v5 (F := Ideal) x0) (funext fun a => Fin.ext (by match a with | ⟨0, _⟩ => rfl | ⟨1, _⟩ => rfl | ⟨2, _⟩ => rfl | ⟨3, _⟩ => rfl))
  · rw [if_neg hm, if_neg (by decide), if_neg hm]

/-- The largest score of a row. -/
theorem v52_at (x0 : S2x16384x1536.Idx → EReal) (x1 : S1x8x513.Idx → EReal) (b : Fin 2) (h : Fin 8) (n : Fin 16384) :
    val_main_v52 (F := Ideal) x0 x1 (ix3 b h n) = Finset.univ.fold max ⊥ (score x0 x1 b h n) := by
  have e1 : val_main_v51 (F := Ideal) (ix3 b h n) = (⊥ : EReal) := by
    rw [val_main_v51_apply]; exact Cert.KernelIdeal.Band.ofBits_neg_inf
  have e2 : val_main_v50 (F := Ideal) x0 x1 (ix3 b h n) = Finset.univ.fold max ⊥ (score x0 x1 b h n) := by
    unfold val_main_v50
    have hfun : (fun k : Fin 16384 => val_main_v49 (F := Ideal) x0 x1 (ix4 b h n k)) = score x0 x1 b h n := funext fun k => v49_at x0 x1 b h n k
    rw [← hfun]
    generalize val_main_v49 (F := Ideal) x0 x1 = y
    have hi : val_main_cst_9 (F := Ideal) (Shape.Idx.first h_S_) = (⊥ : EReal) := Cert.KernelIdeal.Band.ofBits_neg_inf
    have hr : S2x8x16384x16384.Reduces [3] S2x8x16384 := by decide
    refine (Host.reduce_eq_fold_single (FloatOps.maximumf (F := Ideal) (φ := .f32)) y (val_main_cst_9 (F := Ideal)) reducesTo_S2x8x16384x16384_S2x8x16384_d3 hr h_S_ (ix3 b h n)).trans ?_
    rw [hi]
    refine congrArg (Finset.univ.fold max (⊥ : EReal)) (funext fun k => ?_)
    exact congrArg y (funext fun a => Fin.ext (by match a with | ⟨0, _⟩ => rfl | ⟨1, _⟩ => rfl | ⟨2, _⟩ => rfl | ⟨3, _⟩ => rfl))
  rw [val_main_v52_apply, e1, e2]
  exact max_eq_right bot_le

/-- The exponentials of the scores less the row's largest. -/
theorem v56_at (x0 : S2x16384x1536.Idx → EReal) (x1 : S1x8x513.Idx → EReal) (b : Fin 2) (h : Fin 8) (n m : Fin 16384) :
    val_main_v56 (F := Ideal) x0 x1 (ix4 b h n m) = Ideal.exp (score x0 x1 b h n m - Finset.univ.fold max ⊥ (score x0 x1 b h n)) := by
  have e : val_main_v54 (F := Ideal) x0 x1 (ix4 b h n m) = val_main_v52 (F := Ideal) x0 x1 (ix3 b h n) := by
    rw [val_main_v54_apply, val_main_v53_apply]
    exact congrArg (val_main_v52 (F := Ideal) x0 x1) (funext fun a => Fin.ext (by match a with | ⟨0, _⟩ => rfl | ⟨1, _⟩ => rfl | ⟨2, _⟩ => rfl))
  rw [val_main_v56_apply, val_main_v55_apply, e, v49_at, v52_at]
  rfl

/-- The total of a row's exponentials. -/
theorem v57_at (x0 : S2x16384x1536.Idx → EReal) (x1 : S1x8x513.Idx → EReal) (b : Fin 2) (h : Fin 8) (n : Fin 16384) :
    val_main_v57 (F := Ideal) x0 x1 (ix3 b h n) = ∑ m, Ideal.exp (score x0 x1 b h n m - Finset.univ.fold max ⊥ (score x0 x1 b h n)) := by
  rw [val_main_v57_apply]
  have e0 : (val_main_cst_11 (F := Ideal)) (Shape.Idx.first h_S_) = (0 : EReal) := Ideal.ofBits_zero_f32
  rw [e0, zero_add]
  refine Finset.sum_congr rfl fun m _ => ?_
  rw [← v56_at]
  exact congrArg (val_main_v56 (F := Ideal) x0 x1) (funext fun a => Fin.ext (by match a with | ⟨0, _⟩ => rfl | ⟨1, _⟩ => rfl | ⟨2, _⟩ => rfl | ⟨3, _⟩ => rfl))

/-- The attention of query `n` at head `h`, column `d` of the head. -/
theorem v61_at (x0 : S2x16384x1536.Idx → EReal) (x1 : S1x8x513.Idx → EReal) (b : Fin 2) (h : Fin 8) (n : Fin 16384) (d : Fin 64) :
    val_main_v61 (F := Ideal) x0 x1 (ix4 b h d n)
      = Cert.KernelIdeal.Band.plain (score x0 x1 b h n) (fun m => x0 (ix3 b m ⟨1024 + (64 * h.val + d.val), by omega⟩)) := by
  rw [val_main_v61_apply]
  unfold Cert.KernelIdeal.Band.plain
  refine Finset.sum_congr rfl fun m _ => ?_
  have e6 := v6_at x0 b m h d
  have e60 : val_main_v60 (F := Ideal) x0 x1 (ix4 b h n m) = Ideal.div (Ideal.exp (score x0 x1 b h n m - Finset.univ.fold max ⊥ (score x0 x1 b h n)))
      (∑ y, Ideal.exp (score x0 x1 b h n y - Finset.univ.fold max ⊥ (score x0 x1 b h n))) := by
    have e59 : val_main_v59 (F := Ideal) x0 x1 (ix4 b h n m) = val_main_v57 (F := Ideal) x0 x1 (ix3 b h n) := by
      rw [val_main_v59_apply, val_main_v58_apply]
      exact congrArg (val_main_v57 (F := Ideal) x0 x1) (funext fun a => Fin.ext (by match a with | ⟨0, _⟩ => rfl | ⟨1, _⟩ => rfl | ⟨2, _⟩ => rfl))
    rw [val_main_v60_apply, e59, v56_at, v57_at]
    rfl
  rw [← e60]
  show _ = x0 (ix3 b m ⟨1024 + (64 * h.val + d.val), by omega⟩) * _
  rw [← e6]
  refine congrArg₂ (fun p r : EReal => p * r) ?_ ?_
  · exact congrArg (val_main_v6 (F := Ideal) x0) (funext fun a => Fin.ext (by match a with | ⟨0, _⟩ => rfl | ⟨1, _⟩ => rfl | ⟨2, _⟩ => rfl | ⟨3, _⟩ => rfl))
  · exact congrArg (val_main_v60 (F := Ideal) x0 x1) (funext fun a => Fin.ext (by match a with | ⟨0, _⟩ => rfl | ⟨1, _⟩ => rfl | ⟨2, _⟩ => rfl | ⟨3, _⟩ => rfl))

/-- The reference's result at sequence `b`, position `n`, column `64 h + d`. -/
theorem v63_at (x0 : S2x16384x1536.Idx → EReal) (x1 : S1x8x513.Idx → EReal) (b : Fin 2) (n : Fin 16384) (h : Fin 8) (d : Fin 64) :
    val_main_v63 (F := Ideal) x0 x1 (ix3 b n ⟨64 * h.val + d.val, by omega⟩)
      = Cert.KernelIdeal.Band.plain (score x0 x1 b h n) (fun m => x0 (ix3 b m ⟨1024 + (64 * h.val + d.val), by omega⟩)) := by
  rw [← v61_at]
  unfold val_main_v63
  rw [shapeCast_apply _ _ _ (ix4 b n h d) (by
    rw [Shape.rowMajor_val_three, Shape.rowMajor_val_four]
    show ((b.val * 16384 + n.val) * 8 + h.val) * 64 + d.val = (b.val * 16384 + n.val) * 512 + (64 * h.val + d.val); omega), val_main_v62_apply]
  exact congrArg (val_main_v61 (F := Ideal) x0 x1) (funext fun a => Fin.ext (by match a with | ⟨0, _⟩ => rfl | ⟨1, _⟩ => rfl | ⟨2, _⟩ => rfl | ⟨3, _⟩ => rfl))

end Cert.ReferenceIdeal.Whole
end
end
-- ==== Proof.Step.lean ====
module
public import proofs.«01_k».proof.Proof.Gen.KernelIdeal.Frame
public import proofs.«01_k».proof.Proof.Pair
public import Idealize.ShloMosaic.Lib.Pipeline.Value
public import Idealize.ShloMosaic.Lib.Pointwise
public import Idealize.ShloMosaic.Lib.Pipeline.ReadBack
public import Idealize.ShloMosaic.Lib.Pipeline.CanonAppend
@[expose] public section
set_option maxRecDepth 16384
noncomputable section
namespace Cert.KernelIdeal.Band
open Idealize.ShloMosaic Cert.KernelIdeal Cert.KernelIdeal.Gen
variable (c : Dev nD) (i : grid0.Coords) (arg2 : Memref sig .tc .vmem S1x128x512 .f32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S4x256x640 .f32) (harg5 : arg5.IsWhole) (arg6 : Memref sig .tc .vmem S1x128x512 .f32) (harg6 : arg6.IsWhole) (arg7 : Memref sig .tc .vmem S640x512 .bf16) (harg7 : arg7.IsWhole) (arg8 : Memref sig .tc .vmem S640x512 .bf16) (harg8 : arg8.IsWhole)
    (x0 : Vec Ideal S1x128x512 .f32) (x1 : Vec Ideal S1x128x512 .f32) (x2 : Vec Ideal S1x128x512 .f32) (x3 : Vec Ideal S4x256x640 .f32) (xs0 : Vec Ideal S640x512 .bf16) (xs1 : Vec Ideal S640x512 .bf16)

/-- The window moved one step on: its rows come down by a block and the block `x` comes in at the end. -/
def shiftIn (w : Vec Ideal S640x512 .bf16) (x : Vec Ideal S1x128x512 .f32) : Vec Ideal S640x512 .bf16 := fun y =>
  if h : (y 0).val < 512 then w (ix2 ⟨(y 0).val + 128, by omega⟩ (y 1)) else x (ix3 0 ⟨(y 0).val - 512, by have := (y 0).isLt; change (y 0).val < 640 at this; omega⟩ (y 1))

/-- A window's row from its 128th on, read where the copy put it. -/
theorem old_rows (w : Vec Ideal S640x512 .bf16) (x : Vec Ideal S1x128x512 .f32) (o o' : ℕ) (ho : o' = o + 128) (h5 : o + 128 ≤ 512)
    (inb : ∀ a, (![o', 0] : Fin 2 → ℕ) a + (![128, 512] : Fin 2 → ℕ) a ≤ S640x512.size a)
    (inb' : ∀ a, (![o, 0] : Fin 2 → ℕ) a + (![128, 512] : Fin 2 → ℕ) a ≤ S640x512.size a)
    (j : S128x512.Idx) :
    View.ld w (Rect.unit (s := S640x512) ![o', 0] ![128, 512] inb) j
      = shiftIn w x ((Rect.unit (s := S640x512) ![o, 0] ![128, 512] inb').emb j) := by
  subst ho
  have hj0 : (j 0).val < 128 := (j 0).isLt
  have e0 : (((Rect.unit (s := S640x512) ![o, 0] ![128, 512] inb').emb j) 0).val = o + (j 0).val := by
    rw [Rect.emb_apply]; simp
  have e1 : (((Rect.unit (s := S640x512) ![o, 0] ![128, 512] inb').emb j) 1).val = (j 1).val := by
    rw [Rect.emb_apply]; simp
  generalize (Rect.unit (s := S640x512) ![o, 0] ![128, 512] inb').emb j = y at e0 e1
  unfold shiftIn
  rw [dif_pos (by rw [e0]; omega)]
  show w ((Rect.unit (s := S640x512) ![o + 128, 0] ![128, 512] inb).emb j) = _
  refine congrArg w (funext fun a => Fin.ext ?_)
  rw [Rect.emb_apply]
  match a with
  | ⟨0, _⟩ => show o + 128 + 1 * (j 0).val = (y 0).val + 128; rw [e0]; omega
  | ⟨1, _⟩ => show 0 + 1 * (j 1).val = (y 1).val; rw [e1]; omega

/-- The new block's rows. -/
theorem new_rows (w : Vec Ideal S640x512 .bf16) (x : Vec Ideal S1x128x512 .f32)
    (inb' : ∀ a, (![512, 0] : Fin 2 → ℕ) a + (![128, 512] : Fin 2 → ℕ) a ≤ S640x512.size a)
    (j : S128x512.Idx) :
    k0_pay11 (F := Ideal) x j
      = shiftIn w x ((Rect.unit (s := S640x512) ![512, 0] ![128, 512] inb').emb j) := by
  have e0 : (((Rect.unit (s := S640x512) ![512, 0] ![128, 512] inb').emb j) 0).val = 512 + (j 0).val := by
    rw [Rect.emb_apply]; simp
  have e1 : (((Rect.unit (s := S640x512) ![512, 0] ![128, 512] inb').emb j) 1).val = (j 1).val := by
    rw [Rect.emb_apply]; simp
  generalize (Rect.unit (s := S640x512) ![512, 0] ![128, 512] inb').emb j = y at e0 e1
  unfold shiftIn
  rw [dif_neg (by rw [e0]; omega)]
  trans x (ix3 0 (j 0) (j 1))
  · clear e0 e1
    idx_vars j
    pointwise [k0_pay11]
  · refine congrArg x (funext fun a => Fin.ext ?_)
    match a with
    | ⟨0, _⟩ => rfl
    | ⟨1, _⟩ => show (j 0).val = (y 0).val - 512; rw [e0]; omega
    | ⟨2, _⟩ => exact e1.symm

/-- Three zero offsets, written as a function. -/
theorem hz3 : (![0, 0, 0] : Fin 3 → Nat) = fun _ => 0 := funext fun a => by fin_cases a <;> rfl
/-- Two zero offsets, written as a function. -/
theorem hz2 : (![0, 0] : Fin 2 → Nat) = fun _ => 0 := funext fun a => by fin_cases a <;> rfl

/-- Five row blocks that hold the moved window's rows leave the moved window, over any earlier stores. -/
theorem canon5 (w : Vec Ideal S640x512 .bf16) (x : Vec Ideal S1x128x512 .f32) (L : List (View.Piece (Elt Ideal) S640x512 .bf16))
    (p4 p3 p2 p1 p0 : S128x512.Idx → EReal)
    (h4 : ∀ j, p4 j = shiftIn w x ((Rect.unit (s := S640x512) ![512, 0] S128x512.size inb_S640x512_S128x512_512_0).emb j))
    (h3 : ∀ j, p3 j = shiftIn w x ((Rect.unit (s := S640x512) ![384, 0] S128x512.size inb_S640x512_S128x512_384_0).emb j))
    (h2 : ∀ j, p2 j = shiftIn w x ((Rect.unit (s := S640x512) ![256, 0] S128x512.size inb_S640x512_S128x512_256_0).emb j))
    (h1 : ∀ j, p1 j = shiftIn w x ((Rect.unit (s := S640x512) ![128, 0] S128x512.size inb_S640x512_S128x512_128_0).emb j))
    (h0 : ∀ j, p0 j = shiftIn w x ((Rect.unit (s := S640x512) ![0, 0] S128x512.size inb_S640x512_S128x512_0_0).emb j)) :
    View.canon (Val := Elt Ideal) (e := .bf16)
      (⟨Rect.unit (s := S640x512) ![512, 0] S128x512.size inb_S640x512_S128x512_512_0, p4⟩
        :: ⟨Rect.unit (s := S640x512) ![384, 0] S128x512.size inb_S640x512_S128x512_384_0, p3⟩
        :: ⟨Rect.unit (s := S640x512) ![256, 0] S128x512.size inb_S640x512_S128x512_256_0, p2⟩
        :: ⟨Rect.unit (s := S640x512) ![128, 0] S128x512.size inb_S640x512_S128x512_128_0, p1⟩
        :: ⟨Rect.unit (s := S640x512) ![0, 0] S128x512.size inb_S640x512_S128x512_0_0, p0⟩ :: L) = shiftIn w x := by
  funext y
  refine View.canon_append_of_pieces (Val := Elt Ideal) (e := .bf16) (shiftIn w x) L
      [⟨Rect.unit (s := S640x512) ![512, 0] S128x512.size inb_S640x512_S128x512_512_0, p4⟩,
        ⟨Rect.unit (s := S640x512) ![384, 0] S128x512.size inb_S640x512_S128x512_384_0, p3⟩,
        ⟨Rect.unit (s := S640x512) ![256, 0] S128x512.size inb_S640x512_S128x512_256_0, p2⟩,
        ⟨Rect.unit (s := S640x512) ![128, 0] S128x512.size inb_S640x512_S128x512_128_0, p1⟩,
        ⟨Rect.unit (s := S640x512) ![0, 0] S128x512.size inb_S640x512_S128x512_0_0, p0⟩] ?_ y
      (View.cover_of_tiledL (s := S640x512) _ S128x512.size (by sl_kernel_rfl) y)
  simp only [List.forall_mem_cons]
  exact ⟨h4, h3, h2, h1, h0, fun _ h => absurd h List.not_mem_nil⟩

/-- After a later step the key window is the old one moved up with the new rows at its end. -/
theorem canonB0 : View.canon (kernelRun0_B.sl.HS0_5 (F := Ideal) c arg3 harg3 arg7 harg7 x1 xs0) = shiftIn xs0 x1 := by
  refine canon5 xs0 x1 [] (kernelRun0_B.sl.v40 (F := Ideal) c arg3 harg3 x1) (kernelRun0_B.sl.v30 (F := Ideal) c arg7 harg7 xs0)
    (kernelRun0_B.sl.v22 (F := Ideal) c arg7 harg7 xs0) (kernelRun0_B.sl.v14 (F := Ideal) c arg7 harg7 xs0) (kernelRun0_B.sl.v6 (F := Ideal) c arg7 harg7 xs0) ?_ ?_ ?_ ?_ ?_
  · intro j
    show k0_pay11 (View.readAt (Elt Ideal) arg3.view (Rect.unit (s := S1x128x512) ![0, 0, 0] S1x128x512.size _).toLoadRect (harg3.unread x1)) j = _
    rw [View.readAt_eq_ld, harg3.read_unread, View.ld_unit_zero hz3]
    exact new_rows _ _ _ j
  all_goals
    intro j
    sl_unfold_words
    rw [shapeCast_self, View.readAt_eq_ld, harg7.read_unread]
    exact old_rows xs0 x1 _ _ rfl (by decide) _ _ j

/-- After a later step the value window is the old one moved up with the new rows at its end. -/
theorem canonB1 : View.canon (kernelRun0_B.sl.HS1_5 (F := Ideal) c arg4 harg4 arg8 harg8 x2 xs1) = shiftIn xs1 x2 := by
  refine canon5 xs1 x2 [] (kernelRun0_B.sl.v46 (F := Ideal) c arg4 harg4 x2) (kernelRun0_B.sl.v34 (F := Ideal) c arg8 harg8 xs1)
    (kernelRun0_B.sl.v26 (F := Ideal) c arg8 harg8 xs1) (kernelRun0_B.sl.v18 (F := Ideal) c arg8 harg8 xs1) (kernelRun0_B.sl.v10 (F := Ideal) c arg8 harg8 xs1) ?_ ?_ ?_ ?_ ?_
  · intro j
    show k0_pay11 (View.readAt (Elt Ideal) arg4.view (Rect.unit (s := S1x128x512) ![0, 0, 0] S1x128x512.size _).toLoadRect (harg4.unread x2)) j = _
    rw [View.readAt_eq_ld, harg4.read_unread, View.ld_unit_zero hz3]
    exact new_rows _ _ _ j
  all_goals
    intro j
    sl_unfold_words
    rw [shapeCast_self, View.readAt_eq_ld, harg8.read_unread]
    exact old_rows xs1 x2 _ _ rfl (by decide) _ _ j

/-- Reading any part of an all-zero window gives zeros. -/
theorem zero_overlay (r : Rect S640x512) :
    r.overlay (fun _ : S640x512.Idx => (0 : EReal)) (fun _ => (0 : EReal)) = fun _ => (0 : EReal) := by
  funext y
  by_cases hy : y ∈ r.set
  · obtain ⟨x, rfl⟩ := r.exists_idx_of_mem hy
    exact r.overlay_emb _ _ x
  · exact r.overlay_of_not_mem _ _ hy

/-- Stores of zeros over zeros leave zeros. -/
theorem canon_zero_cons (r : Rect S640x512) (L : List (View.Piece (Elt Ideal) S640x512 .bf16)) (w : r.shape.Idx → EReal)
    (hw : w = fun _ => 0) (hL : View.canon L = fun _ => (0 : EReal)) :
    View.canon (Val := Elt Ideal) (e := .bf16) (⟨r, w⟩ :: L) = fun _ => (0 : EReal) := by
  rw [View.canon_cons, hL, hw]; exact zero_overlay r

/-- A load from a window filled with zeros gives zeros. -/
theorem read_zero {sig : RefSig} {κ : Kind} {sp : Space} (v : View sig κ sp S640x512 .bf16) (L : List (View.Piece (Elt Ideal) S640x512 .bf16))
    (B : LoadRect S640x512) (hL : View.canon L = fun _ => (0 : EReal)) :
    v.readCov L B = fun _ => (0 : EReal) := by
  rw [View.readCov_eq_canon', hL]

/-- An all-zero block stays all zero under a change of shape. -/
theorem cast_zero (v : S128x512.Idx → EReal) (h) (hv : v = fun _ => 0) : shapeCast S128x512 v h = fun _ => (0 : EReal) := by
  rw [shapeCast_self]; exact hv

/-- The window filled by the first step's store is all zero. -/
theorem fill_zero (inb) (h) : View.canon (Val := Elt Ideal) (e := .bf16) [⟨Rect.unit (s := S640x512) ![0, 0] S640x512.size inb, shapeCast S640x512 (k0_pay1 (F := Ideal)) h⟩] = fun _ => (0 : EReal) := by
  rw [View.canon_unit_zero hz2, shapeCast_self]
  funext y
  show Ideal.ofBits .bf16 0x0000#16 = 0
  simp [Ideal.ofBits, Ideal.ieee]

/-- After a first step the key window is zeros moved up with the new rows at its end. -/
theorem canonA0 : View.canon (kernelRun0_A.sl.HS0_6 (F := Ideal) c arg3 harg3 arg7 x1) = shiftIn (fun _ => (0 : EReal)) x1 := by
  have z1 : View.canon (kernelRun0_A.sl.HS0_1 (F := Ideal)) = fun _ => (0 : EReal) := by
    unfold kernelRun0_A.sl.HS0_1
    exact fill_zero _ _
  have v6 : kernelRun0_A.sl.v6 (F := Ideal) c arg7 = fun _ => (0 : EReal) := by
    exact cast_zero _ _ (read_zero _ _ _ z1)
  have z2 : View.canon (kernelRun0_A.sl.HS0_2 (F := Ideal) c arg7) = fun _ => (0 : EReal) := canon_zero_cons _ _ _ v6 z1
  have v14 : kernelRun0_A.sl.v14 (F := Ideal) c arg7 = fun _ => (0 : EReal) := by
    exact cast_zero _ _ (read_zero _ _ _ z2)
  have z3 : View.canon (kernelRun0_A.sl.HS0_3 (F := Ideal) c arg7) = fun _ => (0 : EReal) := canon_zero_cons _ _ _ v14 z2
  have v22 : kernelRun0_A.sl.v22 (F := Ideal) c arg7 = fun _ => (0 : EReal) := by
    exact cast_zero _ _ (read_zero _ _ _ z3)
  have z4 : View.canon (kernelRun0_A.sl.HS0_4 (F := Ideal) c arg7) = fun _ => (0 : EReal) := canon_zero_cons _ _ _ v22 z3
  have v30 : kernelRun0_A.sl.v30 (F := Ideal) c arg7 = fun _ => (0 : EReal) := by
    exact cast_zero _ _ (read_zero _ _ _ z4)
  unfold kernelRun0_A.sl.HS0_6 kernelRun0_A.sl.HS0_5 kernelRun0_A.sl.HS0_4 kernelRun0_A.sl.HS0_3 kernelRun0_A.sl.HS0_2
  generalize kernelRun0_A.sl.HS0_1 (F := Ideal) = L0
  refine canon5 (fun _ => (0 : EReal)) x1 L0 (kernelRun0_A.sl.v40 (F := Ideal) c arg3 harg3 x1) (kernelRun0_A.sl.v30 (F := Ideal) c arg7)
    (kernelRun0_A.sl.v22 (F := Ideal) c arg7) (kernelRun0_A.sl.v14 (F := Ideal) c arg7) (kernelRun0_A.sl.v6 (F := Ideal) c arg7) ?_ ?_ ?_ ?_ ?_
  · intro j
    show k0_pay11 (View.readAt (Elt Ideal) arg3.view (Rect.unit (s := S1x128x512) ![0, 0, 0] S1x128x512.size _).toLoadRect (harg3.unread x1)) j = _
    rw [View.readAt_eq_ld, harg3.read_unread, View.ld_unit_zero hz3]
    exact new_rows _ _ _ j
  · intro j; rw [v30]; exact old_rows (fun _ => (0 : EReal)) x1 384 512 rfl (by decide) inb_S640x512_S128x512_512_0 _ j
  · intro j; rw [v22]; exact old_rows (fun _ => (0 : EReal)) x1 256 384 rfl (by decide) inb_S640x512_S128x512_384_0 _ j
  · intro j; rw [v14]; exact old_rows (fun _ => (0 : EReal)) x1 128 256 rfl (by decide) inb_S640x512_S128x512_256_0 _ j
  · intro j; rw [v6]; exact old_rows (fun _ => (0 : EReal)) x1 0 128 rfl (by decide) inb_S640x512_S128x512_128_0 _ j

/-- After a first step the value window is zeros moved up with the new rows at its end. -/
theorem canonA1 : View.canon (kernelRun0_A.sl.HS1_6 (F := Ideal) c arg4 harg4 arg8 x2) = shiftIn (fun _ => (0 : EReal)) x2 := by
  have z1 : View.canon (kernelRun0_A.sl.HS0_1 (F := Ideal)) = fun _ => (0 : EReal) := by
    unfold kernelRun0_A.sl.HS0_1
    exact fill_zero _ _
  have v10 : kernelRun0_A.sl.v10 (F := Ideal) c arg8 = fun _ => (0 : EReal) := by
    exact cast_zero _ _ (read_zero _ _ _ z1)
  have z2 : View.canon (kernelRun0_A.sl.HS1_2 (F := Ideal) c arg8) = fun _ => (0 : EReal) := canon_zero_cons _ _ _ v10 z1
  have v18 : kernelRun0_A.sl.v18 (F := Ideal) c arg8 = fun _ => (0 : EReal) := by
    exact cast_zero _ _ (read_zero _ _ _ z2)
  have z3 : View.canon (kernelRun0_A.sl.HS1_3 (F := Ideal) c arg8) = fun _ => (0 : EReal) := canon_zero_cons _ _ _ v18 z2
  have v26 : kernelRun0_A.sl.v26 (F := Ideal) c arg8 = fun _ => (0 : EReal) := by
    exact cast_zero _ _ (read_zero _ _ _ z3)
  have z4 : View.canon (kernelRun0_A.sl.HS1_4 (F := Ideal) c arg8) = fun _ => (0 : EReal) := canon_zero_cons _ _ _ v26 z3
  have v34 : kernelRun0_A.sl.v34 (F := Ideal) c arg8 = fun _ => (0 : EReal) := by
    exact cast_zero _ _ (read_zero _ _ _ z4)
  unfold kernelRun0_A.sl.HS1_6 kernelRun0_A.sl.HS1_5 kernelRun0_A.sl.HS1_4 kernelRun0_A.sl.HS1_3 kernelRun0_A.sl.HS1_2
  generalize kernelRun0_A.sl.HS0_1 (F := Ideal) = L0
  refine canon5 (fun _ => (0 : EReal)) x2 L0 (kernelRun0_A.sl.v46 (F := Ideal) c arg4 harg4 x2) (kernelRun0_A.sl.v34 (F := Ideal) c arg8)
    (kernelRun0_A.sl.v26 (F := Ideal) c arg8) (kernelRun0_A.sl.v18 (F := Ideal) c arg8) (kernelRun0_A.sl.v10 (F := Ideal) c arg8) ?_ ?_ ?_ ?_ ?_
  · intro j
    show k0_pay11 (View.readAt (Elt Ideal) arg4.view (Rect.unit (s := S1x128x512) ![0, 0, 0] S1x128x512.size _).toLoadRect (harg4.unread x2)) j = _
    rw [View.readAt_eq_ld, harg4.read_unread, View.ld_unit_zero hz3]
    exact new_rows _ _ _ j
  · intro j; rw [v34]; exact old_rows (fun _ => (0 : EReal)) x2 384 512 rfl (by decide) inb_S640x512_S128x512_512_0 _ j
  · intro j; rw [v26]; exact old_rows (fun _ => (0 : EReal)) x2 256 384 rfl (by decide) inb_S640x512_S128x512_384_0 _ j
  · intro j; rw [v18]; exact old_rows (fun _ => (0 : EReal)) x2 128 256 rfl (by decide) inb_S640x512_S128x512_256_0 _ j
  · intro j; rw [v10]; exact old_rows (fun _ => (0 : EReal)) x2 0 128 rfl (by decide) inb_S640x512_S128x512_128_0 _ j

/-- The key window a later step leaves. -/
theorem soutB0 (hc0 : ¬cond0_0 i) : sout0_B_0 (F := Ideal) c i arg2 harg2 arg3 harg3 arg4 harg4 arg5 harg5 arg6 harg6 arg7 harg7 arg8 harg8 hc0 x0 x1 x2 x3 xs0 xs1
    = shiftIn xs0 x1 := by
  unfold sout0_B_0
  rw [View.read_writes_junk_eq_canon]
  exact canonB0 ..
/-- The value window a later step leaves. -/
theorem soutB1 (hc0 : ¬cond0_0 i) : sout0_B_1 (F := Ideal) c i arg2 harg2 arg3 harg3 arg4 harg4 arg5 harg5 arg6 harg6 arg7 harg7 arg8 harg8 hc0 x0 x1 x2 x3 xs0 xs1
    = shiftIn xs1 x2 := by
  unfold sout0_B_1
  rw [View.read_writes_junk_eq_canon]
  exact canonB1 ..
/-- The key window a first step leaves. -/
theorem soutA0 (hc0 : cond0_0 i) : sout0_A_0 (F := Ideal) c i arg2 harg2 arg3 harg3 arg4 harg4 arg5 harg5 arg6 harg6 arg7 harg7 arg8 harg8 hc0 x0 x1 x2 x3
    = shiftIn (fun _ => (0 : EReal)) x1 := by
  unfold sout0_A_0
  rw [View.read_writes_junk_eq_canon]
  exact canonA0 ..
/-- The value window a first step leaves. -/
theorem soutA1 (hc0 : cond0_0 i) : sout0_A_1 (F := Ideal) c i arg2 harg2 arg3 harg3 arg4 harg4 arg5 harg5 arg6 harg6 arg7 harg7 arg8 harg8 hc0 x0 x1 x2 x3
    = shiftIn (fun _ => (0 : EReal)) x2 := by
  unfold sout0_A_1
  rw [View.read_writes_junk_eq_canon]
  exact canonA1 ..

/-- The score of slot `x` for head `h` at row `r` of the block: the scaled query against the window's key on the head's 64
    lanes, plus the bias, where the slot holds a key of the sequence. -/
def bandScore (s : ℕ) (q : Vec Ideal S1x128x512 .f32) (kw : Vec Ideal S640x512 .bf16) (b : Vec Ideal S4x256x640 .f32)
    (h : Fin 8) (r : Fin 128) (x : Fin 640) : EReal :=
  if 512 ≤ 128 * s + x.val then
    (∑ d : Fin 64, q (ix3 0 r ⟨64 * h.val + d.val, by omega⟩) * Ideal.ofBits .f32 0x3E000000#32
      * kw (ix2 x ⟨64 * h.val + d.val, by omega⟩)) + b (ix3 ⟨h.val / 2, by omega⟩ ⟨128 * (h.val % 2) + r.val, by omega⟩ x)
  else ⊥

/-- What a block's pass stores at row `r`, column `l`: head `l / 64`'s softmax-weighted sum of the window's values. -/
def bandOut (s : ℕ) (q : Vec Ideal S1x128x512 .f32) (kw : Vec Ideal S640x512 .bf16) (b : Vec Ideal S4x256x640 .f32)
    (vw : Vec Ideal S640x512 .bf16) (r : Fin 128) (l : Fin 512) : EReal :=
  soft (bandScore s q kw b ⟨l.val / 64, by omega⟩ r) (fun x => vw (ix2 x l))

/-- A load of 128 columns of the queries, read at an index. -/
theorem qld (q : Vec Ideal S1x128x512 .f32) (o : ℕ) (inb : ∀ a, (![0, 0, o] : Fin 3 → ℕ) a + S1x128x128.size a ≤ S1x128x512.size a)
    (r l : Fin 128) (l' : Fin 512) (hl : l'.val = o + l.val) :
    View.ld q (Rect.unit (s := S1x128x512) ![0, 0, o] S1x128x128.size inb) (ix3 0 r l) = q (ix3 0 r l') := by
  refine congrArg q (funext fun a => Fin.ext ?_)
  match a with
  | ⟨0, _⟩ => rfl
  | ⟨1, _⟩ => show 0 + 1 * r.val = r.val; omega
  | ⟨2, _⟩ => show o + 1 * l.val = l'.val; omega

/-- A load of 128 columns of a window, read at an index. -/
theorem kld (k : Vec Ideal S640x512 .bf16) (o : ℕ) (inb : ∀ a, (![0, o] : Fin 2 → ℕ) a + S640x128.size a ≤ S640x512.size a)
    (x : Fin 640) (l : Fin 128) (l' : Fin 512) (hl : l'.val = o + l.val) :
    View.ld k (Rect.unit (s := S640x512) ![0, o] S640x128.size inb) (ix2 x l) = k (ix2 x l') := by
  refine congrArg k (funext fun a => Fin.ext ?_)
  match a with
  | ⟨0, _⟩ => show 0 + 1 * x.val = x.val; omega
  | ⟨1, _⟩ => show o + 1 * l.val = l'.val; omega

/-- A load of one pair's bias table, read at an index. -/
theorem bld (b : Vec Ideal S4x256x640 .f32) (o : ℕ) (inb : ∀ a, (![o, 0, 0] : Fin 3 → ℕ) a + S1x256x640.size a ≤ S4x256x640.size a)
    (r r' : Fin 256) (hr : r' = r) (x : Fin 640) (o' : Fin 4) (ho : o'.val = o) :
    View.ld b (Rect.unit (s := S4x256x640) ![o, 0, 0] S1x256x640.size inb) (ix3 0 r x) = b (ix3 o' r' x) := by
  subst hr
  refine congrArg b (funext fun a => Fin.ext ?_)
  match a with
  | ⟨0, _⟩ => exact ho.symm
  | ⟨1, _⟩ => show 0 + 1 * r'.val = r'.val; omega
  | ⟨2, _⟩ => show 0 + 1 * x.val = x.val; omega

/-- A pair's stored block is its columns of the pass's output. -/
theorem pair_block (s : Fin 128) (q : Vec Ideal S1x128x512 .f32) (kw : Vec Ideal S640x512 .bf16) (b : Vec Ideal S4x256x640 .f32)
    (vw : Vec Ideal S640x512 .bf16) (p o : ℕ) (hp : p < 4) (ho : o = 128 * p)
    (iq : ∀ a, (![0, 0, o] : Fin 3 → ℕ) a + S1x128x128.size a ≤ S1x128x512.size a)
    (ik : ∀ a, (![0, o] : Fin 2 → ℕ) a + S640x128.size a ≤ S640x512.size a)
    (ib : ∀ a, (![p, 0, 0] : Fin 3 → ℕ) a + S1x256x640.size a ≤ S4x256x640.size a) (r l : Fin 128) :
    pairOut (okSlots (BitVec.ofNat 32 s.val)) (View.ld q (Rect.unit (s := S1x128x512) ![0, 0, o] S1x128x128.size iq))
        (View.ld kw (Rect.unit (s := S640x512) ![0, o] S640x128.size ik))
        (View.ld b (Rect.unit (s := S4x256x640) ![p, 0, 0] S1x256x640.size ib))
        (View.ld vw (Rect.unit (s := S640x512) ![0, o] S640x128.size ik)) (ix3 0 r l)
      = bandOut s.val q kw b vw r ⟨o + l.val, by omega⟩ := by
  subst ho
  rw [pairOut_apply _ (fun x => 512 ≤ 128 * s.val + x.val) (fun r x => okSlots_apply s r x)]
  unfold bandOut
  congr 1
  · funext x
    unfold score bandScore
    refine if_congr Iff.rfl (congrArg₂ (· + ·) (Finset.sum_congr rfl fun d _ => congrArg₂ (· * ·) (congrArg (· * _) ?_) ?_) ?_) rfl
    · exact qld q _ iq _ _ _ (by show 64 * ((128 * p + l.val) / 64) + d.val = 128 * p + (64 * (l.val / 64) + d.val); omega)
    · exact kld kw _ ik _ _ _ (by show 64 * ((128 * p + l.val) / 64) + d.val = 128 * p + (64 * (l.val / 64) + d.val); omega)
    · exact bld b _ ib _ _ (Fin.ext (by show 128 * ((128 * p + l.val) / 64 % 2) + r.val = 128 * (l.val / 64) + r.val; omega)) _ _ (by show (128 * p + l.val) / 64 / 2 = p; omega)
  · funext x
    exact kld vw _ ik _ _ _ rfl

/-- The same at any index of the block, as the output's block of columns. -/
theorem pair_piece (s : Fin 128) (q : Vec Ideal S1x128x512 .f32) (kw : Vec Ideal S640x512 .bf16) (b : Vec Ideal S4x256x640 .f32)
    (vw : Vec Ideal S640x512 .bf16) (p o : ℕ) (hp : p < 4) (ho : o = 128 * p)
    (iq : ∀ a, (![0, 0, o] : Fin 3 → ℕ) a + S1x128x128.size a ≤ S1x128x512.size a)
    (ik : ∀ a, (![0, o] : Fin 2 → ℕ) a + S640x128.size a ≤ S640x512.size a)
    (ib : ∀ a, (![p, 0, 0] : Fin 3 → ℕ) a + S1x256x640.size a ≤ S4x256x640.size a) (j : S1x128x128.Idx) :
    pairOut (okSlots (BitVec.ofNat 32 s.val)) (View.ld q (Rect.unit (s := S1x128x512) ![0, 0, o] S1x128x128.size iq))
        (View.ld kw (Rect.unit (s := S640x512) ![0, o] S640x128.size ik))
        (View.ld b (Rect.unit (s := S4x256x640) ![p, 0, 0] S1x256x640.size ib))
        (View.ld vw (Rect.unit (s := S640x512) ![0, o] S640x128.size ik)) j
      = (fun y : S1x128x512.Idx => bandOut s.val q kw b vw (y 1) (y 2)) ((Rect.unit (s := S1x128x512) ![0, 0, o] S1x128x128.size iq).emb j) := by
  have e1 : (((Rect.unit (s := S1x128x512) ![0, 0, o] S1x128x128.size iq).emb j) 1).val = (j 1).val := by
    rw [Rect.emb_apply]; simp
  have e2 : (((Rect.unit (s := S1x128x512) ![0, 0, o] S1x128x128.size iq).emb j) 2).val = o + (j 2).val := by
    rw [Rect.emb_apply]; simp
  generalize (Rect.unit (s := S1x128x512) ![0, 0, o] S1x128x128.size iq).emb j = y at e1 e2
  have hl : (j 2).val < 128 := (j 2).isLt
  have hj : j = ix3 0 (j 1) (j 2) := by
    funext a
    match a with
    | ⟨0, _⟩ => exact Fin.ext (by have := (j 0).isLt; change (j 0).val < 1 at this; show (j 0).val = 0; omega)
    | ⟨1, _⟩ => rfl
    | ⟨2, _⟩ => rfl
  refine (congrArg _ hj).trans ((pair_block s q kw b vw p o hp ho iq ik ib (j 1) (j 2)).trans ?_)
  show bandOut s.val q kw b vw (j 1) ⟨o + (j 2).val, _⟩ = bandOut s.val q kw b vw (y 1) (y 2)
  congr 1
  · exact Fin.ext e1.symm
  · exact Fin.ext e2.symm

/-- Four column blocks of a block leave it. -/
theorem canon4 (G : Vec Ideal S1x128x512 .f32) (p3 p2 p1 p0 : S1x128x128.Idx → EReal)
    (h3 : ∀ j, p3 j = G ((Rect.unit (s := S1x128x512) ![0, 0, 384] S1x128x128.size inb_S1x128x512_S1x128x128_0_0_384).emb j))
    (h2 : ∀ j, p2 j = G ((Rect.unit (s := S1x128x512) ![0, 0, 256] S1x128x128.size inb_S1x128x512_S1x128x128_0_0_256).emb j))
    (h1 : ∀ j, p1 j = G ((Rect.unit (s := S1x128x512) ![0, 0, 128] S1x128x128.size inb_S1x128x512_S1x128x128_0_0_128).emb j))
    (h0 : ∀ j, p0 j = G ((Rect.unit (s := S1x128x512) ![0, 0, 0] S1x128x128.size inb_S1x128x512_S1x128x128_0_0_0).emb j)) :
    View.canon (Val := Elt Ideal) (e := .f32)
      [⟨Rect.unit (s := S1x128x512) ![0, 0, 384] S1x128x128.size inb_S1x128x512_S1x128x128_0_0_384, p3⟩,
        ⟨Rect.unit (s := S1x128x512) ![0, 0, 256] S1x128x128.size inb_S1x128x512_S1x128x128_0_0_256, p2⟩,
        ⟨Rect.unit (s := S1x128x512) ![0, 0, 128] S1x128x128.size inb_S1x128x512_S1x128x128_0_0_128, p1⟩,
        ⟨Rect.unit (s := S1x128x512) ![0, 0, 0] S1x128x128.size inb_S1x128x512_S1x128x128_0_0_0, p0⟩] = G := by
  funext y
  refine View.canon_apply_of_pieces (Val := Elt Ideal) (e := .f32) G _ ?_ y
    (View.cover_of_tiledL (s := S1x128x512) _ S1x128x128.size (by sl_kernel_rfl) y)
  simp only [List.forall_mem_cons]
  exact ⟨h3, h2, h1, h0, fun _ h => absurd h List.not_mem_nil⟩

/-- A load of a window after its stores reads what they leave. -/
theorem read_win {sig : RefSig} {κ : Kind} {sp : Space} {s : Shape} (v : View sig κ sp s .bf16) (L : List (View.Piece (Elt Ideal) s .bf16))
    (r : Rect s) (X : Vec Ideal s .bf16) (hL : View.canon L = X) : v.readCov L r.toLoadRect = View.ld X r := by
  rw [View.readCov_eq_canon', hL]

/-- The block a later step stores is the band's attention, at every row and column. -/
theorem outB (hc0 : ¬cond0_0 i) : out0_B_4 (F := Ideal) c i arg2 harg2 arg3 harg3 arg4 harg4 arg5 harg5 arg6 harg6 arg7 harg7 arg8 harg8 hc0 x0 x1 x2 x3 xs0 xs1
    = fun y => bandOut (i 1).val x0 (shiftIn xs0 x1) x3 (shiftIn xs1 x2) (y 1) (y 2) := by
  unfold out0_B_4
  rw [View.read_writes_junk_eq_canon]
  have hk := canonB0 c arg3 harg3 arg7 harg7 x1 xs0
  have hv := canonB1 c arg4 harg4 arg8 harg8 x2 xs1
  unfold kernelRun0_B
  dsimp only
  refine canon4 _ _ _ _ _ ?_ ?_ ?_ ?_
  · refine fun j => Eq.trans (congrFun ?_ j) (pair_piece (i 1) x0 (shiftIn xs0 x1) x3 (shiftIn xs1 x2) 3 384 (by decide) (by decide)
      inb_S1x128x512_S1x128x128_0_0_384 inb_S640x512_S640x128_0_384 inb_S4x256x640_S1x256x640_3_0_0 j)
    rw [← read_win arg7.view _ _ _ hk, ← read_win arg8.view _ _ _ hv]
    conv_rhs => rw [← harg2.read_unread x0, ← harg5.read_unread x3, ← View.readAt_eq_ld, ← View.readAt_eq_ld]
    rfl
  · refine fun j => Eq.trans (congrFun ?_ j) (pair_piece (i 1) x0 (shiftIn xs0 x1) x3 (shiftIn xs1 x2) 2 256 (by decide) (by decide)
      inb_S1x128x512_S1x128x128_0_0_256 inb_S640x512_S640x128_0_256 inb_S4x256x640_S1x256x640_2_0_0 j)
    rw [← read_win arg7.view _ _ _ hk, ← read_win arg8.view _ _ _ hv]
    conv_rhs => rw [← harg2.read_unread x0, ← harg5.read_unread x3, ← View.readAt_eq_ld, ← View.readAt_eq_ld]
    rfl
  · refine fun j => Eq.trans (congrFun ?_ j) (pair_piece (i 1) x0 (shiftIn xs0 x1) x3 (shiftIn xs1 x2) 1 128 (by decide) (by decide)
      inb_S1x128x512_S1x128x128_0_0_128 inb_S640x512_S640x128_0_128 inb_S4x256x640_S1x256x640_1_0_0 j)
    rw [← read_win arg7.view _ _ _ hk, ← read_win arg8.view _ _ _ hv]
    conv_rhs => rw [← harg2.read_unread x0, ← harg5.read_unread x3, ← View.readAt_eq_ld, ← View.readAt_eq_ld]
    rfl
  · refine fun j => Eq.trans (congrFun ?_ j) (pair_piece (i 1) x0 (shiftIn xs0 x1) x3 (shiftIn xs1 x2) 0 0 (by decide) (by decide)
      inb_S1x128x512_S1x128x128_0_0_0 inb_S640x512_S640x128_0_0 inb_S4x256x640_S1x256x640_0_0_0 j)
    rw [← read_win arg7.view _ _ _ hk, ← read_win arg8.view _ _ _ hv]
    conv_rhs => rw [← harg2.read_unread x0, ← harg5.read_unread x3, ← View.readAt_eq_ld, ← View.readAt_eq_ld]
    rfl

/-- The block a first step stores is the band's attention, at every row and column. -/
theorem outA (hc0 : cond0_0 i) : out0_A_4 (F := Ideal) c i arg2 harg2 arg3 harg3 arg4 harg4 arg5 harg5 arg6 harg6 arg7 harg7 arg8 harg8 hc0 x0 x1 x2 x3
    = fun y => bandOut (i 1).val x0 (shiftIn (fun _ => (0 : EReal)) x1) x3 (shiftIn (fun _ => (0 : EReal)) x2) (y 1) (y 2) := by
  unfold out0_A_4
  rw [View.read_writes_junk_eq_canon]
  have hk := canonA0 c arg3 harg3 arg7 x1
  have hv := canonA1 c arg4 harg4 arg8 x2
  unfold kernelRun0_A
  dsimp only
  refine canon4 _ _ _ _ _ ?_ ?_ ?_ ?_
  · refine fun j => Eq.trans (congrFun ?_ j) (pair_piece (i 1) x0 (shiftIn (fun _ => (0 : EReal)) x1) x3 (shiftIn (fun _ => (0 : EReal)) x2) 3 384 (by decide) (by decide)
      inb_S1x128x512_S1x128x128_0_0_384 inb_S640x512_S640x128_0_384 inb_S4x256x640_S1x256x640_3_0_0 j)
    rw [← read_win arg7.view _ _ _ hk, ← read_win arg8.view _ _ _ hv]
    conv_rhs => rw [← harg2.read_unread x0, ← harg5.read_unread x3, ← View.readAt_eq_ld, ← View.readAt_eq_ld]
    rfl
  · refine fun j => Eq.trans (congrFun ?_ j) (pair_piece (i 1) x0 (shiftIn (fun _ => (0 : EReal)) x1) x3 (shiftIn (fun _ => (0 : EReal)) x2) 2 256 (by decide) (by decide)
      inb_S1x128x512_S1x128x128_0_0_256 inb_S640x512_S640x128_0_256 inb_S4x256x640_S1x256x640_2_0_0 j)
    rw [← read_win arg7.view _ _ _ hk, ← read_win arg8.view _ _ _ hv]
    conv_rhs => rw [← harg2.read_unread x0, ← harg5.read_unread x3, ← View.readAt_eq_ld, ← View.readAt_eq_ld]
    rfl
  · refine fun j => Eq.trans (congrFun ?_ j) (pair_piece (i 1) x0 (shiftIn (fun _ => (0 : EReal)) x1) x3 (shiftIn (fun _ => (0 : EReal)) x2) 1 128 (by decide) (by decide)
      inb_S1x128x512_S1x128x128_0_0_128 inb_S640x512_S640x128_0_128 inb_S4x256x640_S1x256x640_1_0_0 j)
    rw [← read_win arg7.view _ _ _ hk, ← read_win arg8.view _ _ _ hv]
    conv_rhs => rw [← harg2.read_unread x0, ← harg5.read_unread x3, ← View.readAt_eq_ld, ← View.readAt_eq_ld]
    rfl
  · refine fun j => Eq.trans (congrFun ?_ j) (pair_piece (i 1) x0 (shiftIn (fun _ => (0 : EReal)) x1) x3 (shiftIn (fun _ => (0 : EReal)) x2) 0 0 (by decide) (by decide)
      inb_S1x128x512_S1x128x128_0_0_0 inb_S640x512_S640x128_0_0 inb_S4x256x640_S1x256x640_0_0_0 j)
    rw [← read_win arg7.view _ _ _ hk, ← read_win arg8.view _ _ _ hv]
    conv_rhs => rw [← harg2.read_unread x0, ← harg5.read_unread x3, ← View.readAt_eq_ld, ← View.readAt_eq_ld]
    rfl

end Cert.KernelIdeal.Band
end
-- ==== Proof.Sweep.lean ====
module
public import proofs.«01_k».proof.Proof.Step
public import proofs.«01_k».proof.Proof.Gen.KernelIdeal.Value
@[expose] public section
set_option maxRecDepth 16384
noncomputable section
namespace Cert.KernelIdeal.Band
open Idealize.ShloMosaic Idealize.ShloMosaic.TcCoe Cert.KernelIdeal Cert.KernelIdeal.Gen

/-! # What the kernel's array holds after the run, index by index

The two scratch windows slide along the sequence: after the block `s` of the row `b` they hold the keys and the values of
the five blocks up to `s` (zero in front of the sequence). -/

variable (m : (ℓ : Loc nD τ sig) → Buf (Elt Ideal) ℓ) (c : Dev nD)

/-- The queries, keys and values of a token side by side: the first argument as launched. -/
abbrev argA : S2x16384x1536.Idx → EReal := m ((c : Thread nD τ).loc main_arg0)

/-- The grid point's second coordinate is its place in the row of 128. -/
theorem coord1 : ∀ t : Fin cfg0.N, (grid0.coords t 1).val = t.val % 128 :=
  (by decide +kernel : ∀ t : Fin grid0.N, _)

/-- The block of the queries at a point. -/
theorem idx0 : ∀ t : Fin cfg0.N, win0_0.index t (0 : Fin 3) = t.val / 128 ∧ win0_0.index t (1 : Fin 3) = t.val % 128
    ∧ win0_0.index t (2 : Fin 3) = 0 :=
  (by decide +kernel : ∀ t : Fin grid0.N, _)

/-- The block of the keys at a point. -/
theorem idx1 : ∀ t : Fin cfg0.N, win0_1.index t (0 : Fin 3) = t.val / 128 ∧ win0_1.index t (1 : Fin 3) = t.val % 128
    ∧ win0_1.index t (2 : Fin 3) = 1 :=
  (by decide +kernel : ∀ t : Fin grid0.N, _)

/-- The block of the values at a point. -/
theorem idx2 : ∀ t : Fin cfg0.N, win0_2.index t (0 : Fin 3) = t.val / 128 ∧ win0_2.index t (1 : Fin 3) = t.val % 128
    ∧ win0_2.index t (2 : Fin 3) = 2 :=
  (by decide +kernel : ∀ t : Fin grid0.N, _)

/-- The bias table is one block. -/
theorem idx3 : ∀ t : Fin cfg0.N, win0_3.index t (0 : Fin 3) = 0 ∧ win0_3.index t (1 : Fin 3) = 0
    ∧ win0_3.index t (2 : Fin 3) = 0 :=
  (by decide +kernel : ∀ t : Fin grid0.N, _)

/-- The block `s` of 128 rows of the row `b`, 512 columns from the column `o` on. -/
def rowsAt (A : S2x16384x1536.Idx → EReal) (o : ℕ) (ho : o + 512 ≤ 1536) (b : Fin 2) (s : Fin 128) : S1x128x512.Idx → EReal :=
  fun y => A (ix3 b ⟨128 * s.val + (y 1).val, by have h1 : (y 1).val < 128 := (y 1).isLt; have := s.isLt; omega⟩
    ⟨o + (y 2).val, by have h2 : (y 2).val < 512 := (y 2).isLt; omega⟩)

/-- The row and the block of a grid point. -/
abbrev rowOf (t : Fin cfg0.N) : Fin 2 := ⟨t.val / 128, by have := lt_of_lt_of_eq t.isLt (show cfg0.N = 256 from N_0); omega⟩
/-- The band of a grid point. -/
abbrev stepOf (t : Fin cfg0.N) : Fin 128 := ⟨t.val % 128, Nat.mod_lt _ (by decide)⟩

/-- The queries' block. -/
theorem blk0 (t : Fin cfg0.N) : iblk m c 0 t = rowsAt (argA m c) 0 (by decide) (rowOf t) (stepOf t) := by
  funext y
  show V m c main_arg0 (((cfg0.win 0).blk t).view.emb y) = _
  rw [V_main_arg0]
  obtain ⟨e0, e1, e2⟩ := idx0 t
  have hy0 : (y 0).val < 1 := (y 0).isLt
  refine congrArg (argA m c) (funext fun a => Fin.ext ?_)
  match a with
  | ⟨0, _⟩ => show win0_0.index t (0 : Fin 3) * 1 + 1 * (y 0).val = t.val / 128; omega
  | ⟨1, _⟩ => show win0_0.index t (1 : Fin 3) * 128 + 1 * (y 1).val = 128 * (t.val % 128) + (y 1).val; omega
  | ⟨2, _⟩ => show win0_0.index t (2 : Fin 3) * 512 + 1 * (y 2).val = 0 + (y 2).val; omega

/-- The keys' block. -/
theorem blk1 (t : Fin cfg0.N) : iblk m c 1 t = rowsAt (argA m c) 512 (by decide) (rowOf t) (stepOf t) := by
  funext y
  show V m c main_arg0 (((cfg0.win 1).blk t).view.emb y) = _
  rw [V_main_arg0]
  obtain ⟨e0, e1, e2⟩ := idx1 t
  have hy0 : (y 0).val < 1 := (y 0).isLt
  refine congrArg (argA m c) (funext fun a => Fin.ext ?_)
  match a with
  | ⟨0, _⟩ => show win0_1.index t (0 : Fin 3) * 1 + 1 * (y 0).val = t.val / 128; omega
  | ⟨1, _⟩ => show win0_1.index t (1 : Fin 3) * 128 + 1 * (y 1).val = 128 * (t.val % 128) + (y 1).val; omega
  | ⟨2, _⟩ => show win0_1.index t (2 : Fin 3) * 512 + 1 * (y 2).val = 512 + (y 2).val; omega

/-- The values' block. -/
theorem blk2 (t : Fin cfg0.N) : iblk m c 2 t = rowsAt (argA m c) 1024 (by decide) (rowOf t) (stepOf t) := by
  funext y
  show V m c main_arg0 (((cfg0.win 2).blk t).view.emb y) = _
  rw [V_main_arg0]
  obtain ⟨e0, e1, e2⟩ := idx2 t
  have hy0 : (y 0).val < 1 := (y 0).isLt
  refine congrArg (argA m c) (funext fun a => Fin.ext ?_)
  match a with
  | ⟨0, _⟩ => show win0_2.index t (0 : Fin 3) * 1 + 1 * (y 0).val = t.val / 128; omega
  | ⟨1, _⟩ => show win0_2.index t (1 : Fin 3) * 128 + 1 * (y 1).val = 128 * (t.val % 128) + (y 1).val; omega
  | ⟨2, _⟩ => show win0_2.index t (2 : Fin 3) * 512 + 1 * (y 2).val = 1024 + (y 2).val; omega

/-- The bias table's block is the table. -/
theorem blk3 (t : Fin cfg0.N) : iblk m c 3 t = V m c main_v33 := by
  funext y
  show V m c main_v33 (((cfg0.win 3).blk t).view.emb y) = _
  obtain ⟨e0, e1, e2⟩ := idx3 t
  refine congrArg (V m c main_v33) (funext fun a => Fin.ext ?_)
  match a with
  | ⟨0, _⟩ => show win0_3.index t (0 : Fin 3) * 4 + 1 * (y 0).val = (y 0).val; omega
  | ⟨1, _⟩ => show win0_3.index t (1 : Fin 3) * 256 + 1 * (y 1).val = (y 1).val; omega
  | ⟨2, _⟩ => show win0_3.index t (2 : Fin 3) * 640 + 1 * (y 2).val = (y 2).val; omega

/-- A row `r` and a lane `l` of the window of five blocks up to the block `s` of the row `b`, 512 columns from the column `o`
    on; zero in front of the sequence. -/
def winRow (A : S2x16384x1536.Idx → EReal) (o : ℕ) (ho : o + 512 ≤ 1536) (b : Fin 2) (s : Fin 128) (r : Fin 640) (l : Fin 512) : EReal :=
  if h : 512 ≤ 128 * s.val + r.val then A (ix3 b ⟨128 * s.val + r.val - 512, by omega⟩ ⟨o + l.val, by omega⟩) else 0

/-- The window itself. -/
def winAt (A : S2x16384x1536.Idx → EReal) (o : ℕ) (ho : o + 512 ≤ 1536) (b : Fin 2) (s : Fin 128) : Vec Ideal S640x512 .bf16 :=
  fun y => winRow A o ho b s (y 0) (y 1)

/-- The last 128 rows of a window are its newest block. -/
theorem winRow_new (A : S2x16384x1536.Idx → EReal) (o : ℕ) (ho : o + 512 ≤ 1536) (b : Fin 2) (s : Fin 128) (r : Fin 640) (l : Fin 512)
    (h : ¬ r.val < 512) : A (ix3 b ⟨128 * s.val + (r.val - 512), by omega⟩ ⟨o + l.val, by omega⟩) = winRow A o ho b s r l := by
  unfold winRow
  rw [dif_pos (by omega)]
  exact congrArg (fun k => A (ix3 b k ⟨o + l.val, by omega⟩)) (Fin.ext (by show 128 * s.val + (r.val - 512) = 128 * s.val + r.val - 512; omega))

/-- The other rows are the rows of the window before, 128 on. -/
theorem winRow_old (A : S2x16384x1536.Idx → EReal) (o : ℕ) (ho : o + 512 ≤ 1536) (b : Fin 2) (s s' : Fin 128) (hs : s'.val + 1 = s.val)
    (r : Fin 640) (l : Fin 512) (h : r.val < 512) : winRow A o ho b s' ⟨r.val + 128, by omega⟩ l = winRow A o ho b s r l := by
  unfold winRow
  by_cases h' : 512 ≤ 128 * s.val + r.val
  · rw [dif_pos h', dif_pos (show 512 ≤ 128 * s'.val + (r.val + 128) by omega)]
    exact congrArg (fun k => A (ix3 b k ⟨o + l.val, by omega⟩)) (Fin.ext (by show 128 * s'.val + (r.val + 128) - 512 = 128 * s.val + r.val - 512; omega))
  · rw [dif_neg h', dif_neg (show ¬ 512 ≤ 128 * s'.val + (r.val + 128) by omega)]

/-- A row in front of the sequence is zero. -/
theorem winRow_front (A : S2x16384x1536.Idx → EReal) (o : ℕ) (ho : o + 512 ≤ 1536) (b : Fin 2) (s : Fin 128) (r : Fin 640) (l : Fin 512)
    (h : ¬ 512 ≤ 128 * s.val + r.val) : (0 : EReal) = winRow A o ho b s r l := by
  unfold winRow; rw [dif_neg h]

/-- The first window of a row: its first block behind zeros. -/
theorem shift_first (A : S2x16384x1536.Idx → EReal) (o : ℕ) (ho : o + 512 ≤ 1536) (b : Fin 2) (s : Fin 128) (hs : s.val = 0) :
    shiftIn (fun _ => (0 : EReal)) (rowsAt A o ho b s) = winAt A o ho b s := by
  funext y
  unfold shiftIn
  by_cases h : (y 0).val < 512
  · rw [dif_pos h]; exact winRow_front A o ho b s (y 0) (y 1) (by omega)
  · rw [dif_neg h]; exact winRow_new A o ho b s (y 0) (y 1) h

/-- The next window: the one before moved by a block. -/
theorem shift_next (A : S2x16384x1536.Idx → EReal) (o : ℕ) (ho : o + 512 ≤ 1536) (b : Fin 2) (s s' : Fin 128) (hs : s'.val + 1 = s.val) :
    shiftIn (winAt A o ho b s') (rowsAt A o ho b s) = winAt A o ho b s := by
  funext y
  unfold shiftIn
  by_cases h : (y 0).val < 512
  · rw [dif_pos h]; exact winRow_old A o ho b s s' hs (y 0) (y 1) h
  · rw [dif_neg h]; exact winRow_new A o ho b s (y 0) (y 1) h

/-- After a point the two scratch windows hold the five blocks up to the point's. -/
theorem windows : ∀ (n : ℕ) (hn : n < cfg0.N),
    (outsAt0 m c n hn).2.1 = winAt (argA m c) 512 (by decide) (rowOf ⟨n, hn⟩) (stepOf ⟨n, hn⟩)
    ∧ (outsAt0 m c n hn).2.2 = winAt (argA m c) 1024 (by decide) (rowOf ⟨n, hn⟩) (stepOf ⟨n, hn⟩) := by
  intro n
  induction n using Nat.strong_induction_on with
  | _ n ih =>
    intro hn
    by_cases h0 : n % 128 = 0
    · rw [outsAt0_A m c ⟨n, hn⟩ h0]
      dsimp only
      rw [soutA0, soutA1, blk1, blk2]
      exact ⟨shift_first _ _ _ _ _ h0, shift_first _ _ _ _ _ h0⟩
    · rw [outsAt0_B m c ⟨n, hn⟩ h0]
      dsimp only
      rw [soutB0, soutB1, blk1, blk2]
      obtain ⟨e0, e1⟩ := ih (n - 1) (by omega) (by omega)
      rw [e0, e1]
      have hr : rowOf ⟨n - 1, by omega⟩ = rowOf ⟨n, hn⟩ := Fin.ext (by show (n - 1) / 128 = n / 128; omega)
      have hs : (stepOf ⟨n - 1, by omega⟩).val + 1 = (stepOf ⟨n, hn⟩).val := by show (n - 1) % 128 + 1 = n % 128; omega
      rw [hr]
      exact ⟨shift_next _ _ _ _ _ _ hs, shift_next _ _ _ _ _ _ hs⟩

/-- What a point leaves in the output's block: the band attention of its queries on its windows. -/
theorem point_out (t : Fin cfg0.N) :
    (outsAt0 m c t.val t.isLt).1 = fun y => bandOut (stepOf t).val (rowsAt (argA m c) 0 (by decide) (rowOf t) (stepOf t))
      (winAt (argA m c) 512 (by decide) (rowOf t) (stepOf t)) (V m c main_v33)
      (winAt (argA m c) 1024 (by decide) (rowOf t) (stepOf t)) (y 1) (y 2) := by
  by_cases h0 : t.val % 128 = 0
  · rw [outsAt0_A m c t h0]
    dsimp only
    rw [outA, blk0, blk1, blk2, blk3, shift_first _ _ _ _ _ h0, shift_first _ _ _ _ _ h0, coord1]
  · rw [outsAt0_B m c t h0]
    dsimp only
    obtain ⟨e0, e1⟩ := windows m c (t.val - 1) (by have := t.isLt; omega)
    rw [outB, blk0, blk1, blk2, blk3, e0, e1]
    have hr : rowOf ⟨t.val - 1, by have := t.isLt; omega⟩ = rowOf t := Fin.ext (by show (t.val - 1) / 128 = t.val / 128; omega)
    have hs : (stepOf ⟨t.val - 1, by have := t.isLt; omega⟩).val + 1 = (stepOf t).val := by
      show (t.val - 1) % 128 + 1 = t.val % 128; omega
    rw [hr, shift_next _ _ _ _ _ _ hs, shift_next _ _ _ _ _ _ hs, coord1]

/-- The result array at the row `b` and the token `128·s + r`. -/
theorem result_at (b : Fin 2) (s : Fin 128) (r : Fin 128) (l : Fin 512) :
    Value.G4 m c (ix3 b ⟨128 * s.val + r.val, by have := s.isLt; have := r.isLt; omega⟩ l)
      = bandOut s.val (rowsAt (argA m c) 0 (by decide) b s) (winAt (argA m c) 512 (by decide) b s) (V m c main_v33)
          (winAt (argA m c) 1024 (by decide) b s) r l := by
  have hs := s.isLt
  have hr := r.isLt
  have hb := b.isLt
  have hl := l.isLt
  generalize hi : (ix3 b ⟨128 * s.val + r.val, by omega⟩ l : S2x16384x512.Idx) = i
  have i0 : (i 0).val = b.val := by rw [← hi]; rfl
  have i1 : (i 1).val = 128 * s.val + r.val := by rw [← hi]; rfl
  have i2 : (i 2).val = l.val := by rw [← hi]; rfl
  have hp : Value.pt4Of i = 128 * b.val + s.val := by
    show 128 * ((i 0).val / 1 - 0) + 1 * ((i 1).val / 128 - 0) + 1 * ((i 2).val / 512 - 0) = _
    rw [i0, i1, i2]; omega
  have hlt : Value.pt4Of i < cfg0.N := by rw [hp]; exact lt_of_lt_of_eq (by omega) N_0.symm
  unfold Value.G4
  rw [dif_pos hlt, ← Value.outsAt0_sweep m c _ hlt, point_out m c ⟨Value.pt4Of i, hlt⟩]
  have hrow : rowOf ⟨Value.pt4Of i, hlt⟩ = b := Fin.ext (by show Value.pt4Of i / 128 = b.val; rw [hp]; omega)
  have hstep : stepOf ⟨Value.pt4Of i, hlt⟩ = s := Fin.ext (by show Value.pt4Of i % 128 = s.val; rw [hp]; omega)
  rw [hrow, hstep]
  have l1 : (Value.loc4Of i) 1 = r := Fin.ext (by show (i 1).val % 128 = r.val; rw [i1]; omega)
  have l2 : (Value.loc4Of i) 2 = l := Fin.ext (by show (i 2).val % 512 = l.val; rw [i2]; omega)
  show bandOut _ _ _ _ _ ((Value.loc4Of i) 1) ((Value.loc4Of i) 2) = _
  rw [l1, l2]

end Cert.KernelIdeal.Band
-- ==== Proof.Bias.lean ====
module
public import proofs.«01_k».proof.Proof.Gen.KernelIdeal.Frame
public import Idealize.ShloMosaic.Lib.Pointwise
@[expose] public section
set_option maxRecDepth 16384
noncomputable section
namespace Cert.KernelIdeal.Band
open Idealize.ShloMosaic Idealize.ShloMosaic.TcCoe Cert.KernelIdeal Cert.KernelIdeal.Gen

/-! # The bias table the host prepares -/

/-- The bias without its leading axis. -/
def tab0 (a : FVec Ideal S1x8x513 .f32) : FVec Ideal S8x513 .f32 := shapeCast S8x513 a shapeCasts_S1x8x513_S8x513
/-- The extended row: the last entry 383 times, then the entries from the last back to the 129th. -/
def tab11 (a : FVec Ideal S1x8x513 .f32) : FVec Ideal S8x767 .f32 :=
  concatenate S8x767 1 [⟨S8x383, (broadcastInDim S8x383 ![0, 1] bcast_S8x1_S8x383_0_1 (extractStridedSlice S8x1 ![0, 512] (tab0 a) slices_S8x513_S8x1_0_512) : FVec Ideal S8x383 .f32)⟩,
    ⟨S8x384, (Host.reverse [1] (extractStridedSlice S8x384 ![0, 129] (tab0 a) slices_S8x513_S8x384_0_129) : FVec Ideal S8x384 .f32)⟩,
    ⟨S8x0, (broadcastInDim S8x0 ![0, 1] bcast_S8x1_S8x0_0_1 (extractStridedSlice S8x1 ![0, 0] (tab0 a) slices_S8x513_S8x1_0_0) : FVec Ideal S8x0 .f32)⟩] concatenates_S8x383_S8x384_S8x0_S8x767_d1
/-- Each row 129 times, one after another. -/
def tab15 (e : FVec Ideal S8x767 .f32) (z : IVec S_ 32) : FVec Ideal S8x99072 .f32 :=
  shapeCast S8x99072 (broadcastInDim S1x8x129x768 ![0, 1, 2, 3] bcast_S1x8x1x768_S1x8x129x768_0_1_2_3
    (shapeCast S1x8x1x768 (pad S8x768 ![0, 0] ![0, 1] ![0, 0] e (sitofp .f32 z) pads_S8x767_S8x768_000_010 h_S_) shapeCasts_S8x768_S1x8x1x768 : FVec Ideal S1x8x1x768 .f32)) shapeCasts_S1x8x129x768_S8x99072
/-- The bands: rows cut at a length one more than the repeated row's, the first 640 of each, upside down. -/
def tab19 (e : FVec Ideal S8x767 .f32) (z : IVec S_ 32) : FVec Ideal S8x128x640 .f32 :=
  Host.reverse [1] (extractStridedSlice S8x128x640 ![0, 0, 0] (shapeCast S8x128x769 (extractStridedSlice S8x98432 ![0, 0] (tab15 e z) slices_S8x99072_S8x98432_0_0) shapeCasts_S8x98432_S8x128x769 : FVec Ideal S8x128x769 .f32) slices_S8x128x769_S8x128x640_0_0_0)
/-- The quotient rounded down, as the host writes it. -/
def fdiv (s : Shape) (h : S_.BroadcastsInDim s ![]) (x : IVec s 32) (y : IVec S_ 32) : IVec s 32 :=
  select (andi (cmpi .ne (signi x) (broadcastInDim s ![] h (signi y))) (cmpi .ne (Host.remsi x (broadcastInDim s ![] h y)) (broadcastInDim s ![] h (constantI S_ 32 0#32))))
    (subi (Host.divsi x (broadcastInDim s ![] h y)) (broadcastInDim s ![] h (constantI S_ 32 1#32))) (Host.divsi x (broadcastInDim s ![] h y))
/-- The slots a row of the band may attend to. -/
def tab30 (r : IVec S128x1 32) (x : IVec S1x640 32) : IVec S128x640 1 :=
  andi (cmpi .sge (broadcastInDim S128x640 ![0, 1] bcast_S1x640_S128x640_0_1 x) (broadcastInDim S128x640 ![0, 1] bcast_S128x1_S128x640_0_1 r))
    (cmpi .sle (broadcastInDim S128x640 ![0, 1] bcast_S1x640_S128x640_0_1 x)
      (broadcastInDim S128x640 ![0, 1] bcast_S128x1_S128x640_0_1 (addi r (broadcastInDim S128x1 ![] bcast_S_S128x1 (constantI S_ 32 8#32)))))
/-- The table: the bands where a slot may be attended to, elsewhere the bottom. -/
def tab33 (k : IVec S128x640 1) (b : FVec Ideal S8x128x640 .f32) : FVec Ideal S4x256x640 .f32 :=
  shapeCast S4x256x640 (select (broadcastInDim S8x128x640 ![0, 1, 2] bcast_S1x128x640_S8x128x640_0_1_2 (broadcastInDim S1x128x640 ![1, 2] bcast_S128x640_S1x128x640_1_2 k))
    b (broadcastInDim S8x128x640 ![] bcast_S_S8x128x640 (constant S_ .f32 0xFF800000#32)) : FVec Ideal S8x128x640 .f32) shapeCasts_S8x128x640_S4x256x640

variable (W : Valuation τ sig (Elt Ideal))

/-- After the first operations: the extended row of biases. -/
theorem stage0 : StableHlo.after hostOps0 W (Proc.devRef .tc main_v11) = tab11 (W (Proc.devRef .tc main_arg1)) := by
  simp only [hostOps0]
  after_results_simp
  rfl
/-- After the first operations: the zero that pads the row. -/
theorem stage0_c : StableHlo.after hostOps0 W (Proc.devRef .tc main_c) = constantI S_ 32 0#32 := by
  simp only [hostOps0]
  after_results_simp
/-- After the first operations: the row numbers. -/
theorem stage0_2 : StableHlo.after hostOps0 W (Proc.devRef .tc main_v2) = broadcastInDim S128x1 ![0] bcast_S128_S128x1_0 (iotaInDim S128 32 0) := by
  simp only [hostOps0]
  after_results_simp
/-- After the first operations: the slot numbers. -/
theorem stage0_4 : StableHlo.after hostOps0 W (Proc.devRef .tc main_v4) = broadcastInDim S1x640 ![1] bcast_S640_S1x640_1 (iotaInDim S640 32 0) := by
  simp only [hostOps0]
  after_results_simp
/-- After the second group: the bands cut from the repeated rows. -/
theorem stage1 : StableHlo.after (hostOps0_1 ++ hostOps0_2) W (Proc.devRef .tc main_v19) = tab19 (W (Proc.devRef .tc main_v11)) (W (Proc.devRef .tc main_c)) := by
  simp only [hostOps0_1, hostOps0_2, List.cons_append, List.nil_append]
  after_results_simp
  rfl
/-- The second group leaves the row numbers. -/
theorem stage1_2 : StableHlo.after (hostOps0_1 ++ hostOps0_2) W (Proc.devRef .tc main_v2) = W (Proc.devRef .tc main_v2) := by
  simp only [hostOps0_1, hostOps0_2, List.cons_append, List.nil_append]
  after_results_simp
/-- The second group leaves the slot numbers. -/
theorem stage1_4 : StableHlo.after (hostOps0_1 ++ hostOps0_2) W (Proc.devRef .tc main_v4) = W (Proc.devRef .tc main_v4) := by
  simp only [hostOps0_1, hostOps0_2, List.cons_append, List.nil_append]
  after_results_simp
/-- After the second group: the chunk length. -/
theorem stage1_c : StableHlo.after (hostOps0_1 ++ hostOps0_2) W (Proc.devRef .tc main_c_0) = constantI S_ 32 64#32 := by
  simp only [hostOps0_1, hostOps0_2, List.cons_append, List.nil_append]
  after_results_simp
/-- After the third group: the rows' chunk numbers. -/
theorem stage2 : StableHlo.after (hostOps0_3 ++ hostOps0_4) W (Proc.devRef .tc main_v20) = fdiv S128x1 bcast_S_S128x1 (W (Proc.devRef .tc main_v2)) (W (Proc.devRef .tc main_c_0)) := by
  simp only [hostOps0_3, hostOps0_4, List.cons_append, List.nil_append]
  after_results_simp
  rfl
/-- The third group leaves the slot numbers. -/
theorem stage2_4 : StableHlo.after (hostOps0_3 ++ hostOps0_4) W (Proc.devRef .tc main_v4) = W (Proc.devRef .tc main_v4) := by
  simp only [hostOps0_3, hostOps0_4, List.cons_append, List.nil_append]
  after_results_simp
/-- The third group leaves the bands. -/
theorem stage2_19 : StableHlo.after (hostOps0_3 ++ hostOps0_4) W (Proc.devRef .tc main_v19) = W (Proc.devRef .tc main_v19) := by
  simp only [hostOps0_3, hostOps0_4, List.cons_append, List.nil_append]
  after_results_simp
/-- After the third group: the chunk length again. -/
theorem stage2_c : StableHlo.after (hostOps0_3 ++ hostOps0_4) W (Proc.devRef .tc main_c_1) = constantI S_ 32 64#32 := by
  simp only [hostOps0_3, hostOps0_4, List.cons_append, List.nil_append]
  after_results_simp
/-- After the fourth group: the slots' chunk numbers. -/
theorem stage3 : StableHlo.after hostOps0_5 W (Proc.devRef .tc main_v21) = fdiv S1x640 bcast_S_S1x640 (W (Proc.devRef .tc main_v4)) (W (Proc.devRef .tc main_c_1)) := by
  simp only [hostOps0_5, List.cons_append, List.nil_append]
  after_results_simp
  rfl
/-- The fourth group leaves the bands. -/
theorem stage3_19 : StableHlo.after hostOps0_5 W (Proc.devRef .tc main_v19) = W (Proc.devRef .tc main_v19) := by
  simp only [hostOps0_5, List.cons_append, List.nil_append]
  after_results_simp
/-- The fourth group leaves the rows' chunk numbers. -/
theorem stage3_20 : StableHlo.after hostOps0_5 W (Proc.devRef .tc main_v20) = W (Proc.devRef .tc main_v20) := by
  simp only [hostOps0_5, List.cons_append, List.nil_append]
  after_results_simp
/-- After the last group: the masked table. -/
theorem stage4 : StableHlo.after (hostOps0_6 ++ hostOps0_7 ++ hostOps0_8) W (Proc.devRef .tc main_v33)
    = tab33 (tab30 (W (Proc.devRef .tc main_v20)) (W (Proc.devRef .tc main_v21))) (W (Proc.devRef .tc main_v19)) := by
  simp only [hostOps0_6, hostOps0_7, hostOps0_8, List.cons_append, List.nil_append]
  after_results_simp
  rfl

variable (m : (ℓ : Loc nD τ sig) → Buf (Elt Ideal) ℓ) (c : Dev nD)

/-- The bias table when the kernel starts, from the second argument as launched. -/
theorem table_eq : V m c main_v33 = tab33 (tab30 (fdiv S128x1 bcast_S_S128x1 (broadcastInDim S128x1 ![0] bcast_S128_S128x1_0 (iotaInDim S128 32 0)) (constantI S_ 32 64#32))
      (fdiv S1x640 bcast_S_S1x640 (broadcastInDim S1x640 ![1] bcast_S640_S1x640_1 (iotaInDim S640 32 0)) (constantI S_ 32 64#32)))
    (tab19 (tab11 (m ((c : Thread nD τ).loc main_arg1))) (constantI S_ 32 0#32)) := by
  show StableHlo.after (List.flatten [hostOps0, hostOps0_1, hostOps0_2, hostOps0_3, hostOps0_4, hostOps0_5, hostOps0_6, hostOps0_7, hostOps0_8]) (fun b => m (c, b)) (Proc.devRef .tc main_v33) = _
  have e : (List.flatten [hostOps0, hostOps0_1, hostOps0_2, hostOps0_3, hostOps0_4, hostOps0_5, hostOps0_6, hostOps0_7, hostOps0_8] : List (HloOp τ sig (Elt Ideal)))
      = hostOps0 ++ ((hostOps0_1 ++ hostOps0_2) ++ ((hostOps0_3 ++ hostOps0_4) ++ (hostOps0_5 ++ (hostOps0_6 ++ hostOps0_7 ++ hostOps0_8)))) := rfl
  rw [e, StableHlo.after_append, StableHlo.after_append, StableHlo.after_append, StableHlo.after_append,
    stage4, stage3, stage3_19, stage3_20, stage2, stage2_19, stage2_4, stage2_c, stage1, stage1_2, stage1_4, stage1_c, stage0, stage0_2, stage0_4, stage0_c]
end Cert.KernelIdeal.Band
-- ==== Proof.Table.lean ====
module
public import proofs.«01_k».proof.Proof.Bias
public import proofs.«01_k».proof.Proof.Pair
public import Idealize.ShloMosaic.Lib.KernelVsHost
public import Idealize.ShloMosaic.Lib.Pipeline.Value
@[expose] public section
set_option maxRecDepth 16384
noncomputable section
namespace Cert.KernelIdeal.Band
open Idealize.ShloMosaic Idealize.ShloMosaic.TcCoe Cert.KernelIdeal Cert.KernelIdeal.Gen

/-! # The bias table, entry by entry -/

/-- The repeated rows at row `h`, repetition `rr`, place `x`. -/
theorem tab15_apply (e : FVec Ideal S8x767 .f32) (z : IVec S_ 32) (h : Fin 8) (rr : Fin 129) (x : Fin 767) :
    tab15 e z (ix2 h ⟨768 * rr.val + x.val, by omega⟩) = e (ix2 h x) := by
  unfold tab15
  rw [shapeCast_apply _ _ _ (ix4 0 h rr ⟨x.val, by omega⟩) (by
    rw [Shape.rowMajor_val_four, Shape.rowMajor_val_two]
    show ((0 * 8 + h.val) * 129 + rr.val) * 768 + x.val = h.val * 99072 + (768 * rr.val + x.val); omega)]
  rw [broadcastInDim_apply _ _ _ _ (ix4 0 h 0 ⟨x.val, by omega⟩) (fun a => by fin_cases a <;> rfl)]
  rw [shapeCast_apply _ _ _ (ix2 h ⟨x.val, by omega⟩) (by
    rw [Shape.rowMajor_val_four, Shape.rowMajor_val_two]
    show h.val * 768 + x.val = ((0 * 8 + h.val) * 1 + 0) * 768 + x.val; omega)]
  refine pad_apply_of_inside _ _ _ _ _ _ _ _ (ix2 h x) ?_
  intro a; fin_cases a <;> simp <;> rfl

/-- The bands at head `h`, row `i`, slot `x`: the extended row's entry `127 - i + x`. -/
theorem tab19_apply (e : FVec Ideal S8x767 .f32) (z : IVec S_ 32) (h : Fin 8) (i : Fin 128) (x : Fin 640) :
    tab19 e z (ix3 h i x) = e (ix2 h ⟨127 - i.val + x.val, by omega⟩) := by
  rw [← tab15_apply e z h ⟨127 - i.val, by omega⟩ ⟨127 - i.val + x.val, by omega⟩]
  unfold tab19
  trans (shapeCast S8x128x769 (extractStridedSlice S8x98432 ![0, 0] (tab15 e z) slices_S8x99072_S8x98432_0_0) shapeCasts_S8x98432_S8x128x769 : FVec Ideal S8x128x769 .f32) (ix3 h ⟨127 - i.val, by omega⟩ ⟨x.val, by omega⟩)
  · generalize (shapeCast S8x128x769 (extractStridedSlice S8x98432 ![0, 0] (tab15 e z) slices_S8x99072_S8x98432_0_0) shapeCasts_S8x98432_S8x128x769 : FVec Ideal S8x128x769 .f32) = v
    pointwise
    refine congrArg v (funext fun a => Fin.ext ?_)
    match a with
    | ⟨0, _⟩ => rfl
    | ⟨1, _⟩ => show 128 - (i.val + 1) = 127 - i.val; omega
    | ⟨2, _⟩ => rfl
  rw [shapeCast_apply _ _ _ (ix2 h ⟨769 * (127 - i.val) + x.val, by omega⟩) (by
    rw [Shape.rowMajor_val_three, Shape.rowMajor_val_two]
    show h.val * 98432 + (769 * (127 - i.val) + x.val) = (h.val * 128 + (127 - i.val)) * 769 + x.val; omega)]
  generalize tab15 e z = v
  pointwise
  refine congrArg v (funext fun a => Fin.ext ?_)
  match a with
  | ⟨0, _⟩ => rfl
  | ⟨1, _⟩ => show 769 * (127 - i.val) + x.val = 768 * (127 - i.val) + (127 - i.val + x.val); omega

/-- The extended row's entry `y`. -/
theorem tab11_apply (a : FVec Ideal S1x8x513 .f32) (h : Fin 8) (y : Fin 767) :
    tab11 a (ix2 h y) = a (ix3 0 h ⟨if y.val < 383 then 512 else 895 - y.val, by split <;> omega⟩) := by
  unfold tab11
  by_cases hy : y.val < 383
  · pointwise [tab0]
    simp [hy]
  · pointwise [tab0]
    simp [hy]
    rw [dif_pos (show y.val - 383 < 384 by omega)]
    exact congrArg (fun k => a (ix3 0 h k)) (Fin.ext (by show 129 + (383 - (y.val - 383)) = 895 - y.val; omega))

/-- The word quotients by 64 of the rows and of the slots. -/
theorem fdiv_rows : ∀ i : Fin 128, fdiv S128x1 bcast_S_S128x1 (broadcastInDim S128x1 ![0] bcast_S128_S128x1_0 (iotaInDim S128 32 0)) (constantI S_ 32 64#32) (ix2 i 0)
    = BitVec.ofNat 32 (i.val / 64) := by
  decide +kernel
/-- The word quotients by 64 of the slots. -/
theorem fdiv_slots : ∀ x : Fin 640, fdiv S1x640 bcast_S_S1x640 (broadcastInDim S1x640 ![1] bcast_S640_S1x640_1 (iotaInDim S640 32 0)) (constantI S_ 32 64#32) (ix2 0 x)
    = BitVec.ofNat 32 (x.val / 64) := by
  decide +kernel
/-- Two chunk numbers compared as words: the slot's chunk lies in the nine chunks from the row's on. -/
theorem band_word : ∀ (i : Fin 2) (x : Fin 10), IntOp.andi (IntOp.cmpi .sge (BitVec.ofNat 32 x.val) (BitVec.ofNat 32 i.val))
    (IntOp.cmpi .sle (BitVec.ofNat 32 x.val) (IntOp.addi (BitVec.ofNat 32 i.val) 8#32)) = if i.val ≤ x.val ∧ x.val ≤ i.val + 8 then 1#1 else 0#1 := by
  decide +kernel
/-- The mask of the table at row `i`, slot `x`. -/
theorem tab30_apply (i : Fin 128) (x : Fin 640) (r : IVec S128x1 32) (v : IVec S1x640 32)
    (hr : r (ix2 i 0) = BitVec.ofNat 32 (i.val / 64)) (hv : v (ix2 0 x) = BitVec.ofNat 32 (x.val / 64)) :
    tab30 r v (ix2 i x) = if i.val / 64 ≤ x.val / 64 ∧ x.val / 64 ≤ i.val / 64 + 8 then 1#1 else 0#1 := by
  rw [← band_word ⟨i.val / 64, by omega⟩ ⟨x.val / 64, by omega⟩]
  pointwise [tab30]
  rw [hr, hv]
/-- The table at head `h`, row `i`, slot `x`: the bands where the mask is set, elsewhere the bottom. -/
theorem tab33_apply (k : IVec S128x640 1) (b : FVec Ideal S8x128x640 .f32) (h : Fin 8) (i : Fin 128) (x : Fin 640) :
    tab33 k b (ix3 ⟨h.val / 2, by omega⟩ ⟨128 * (h.val % 2) + i.val, by omega⟩ x) = if k (ix2 i x) = 1#1 then b (ix3 h i x) else ⊥ := by
  unfold tab33
  rw [shapeCast_apply _ _ _ (ix3 h i x) (by
    rw [Shape.rowMajor_val_three, Shape.rowMajor_val_three]
    show (h.val * 128 + i.val) * 640 + x.val = (h.val / 2 * 256 + (128 * (h.val % 2) + i.val)) * 640 + x.val; omega)]
  pointwise
  rw [ofBits_neg_inf, select_ite]

variable (m : (ℓ : Loc nD τ sig) → Buf (Elt Ideal) ℓ) (c : Dev nD)

/-- The bias of head `h` for the second argument as launched. -/
abbrev argB : S1x8x513.Idx → EReal := m ((c : Thread nD τ).loc main_arg1)

/-- The bias table when the kernel starts at head `h`, row `i`, slot `x`. -/
theorem table_at (h : Fin 8) (i : Fin 128) (x : Fin 640) :
    V m c main_v33 (ix3 ⟨h.val / 2, by omega⟩ ⟨128 * (h.val % 2) + i.val, by omega⟩ x)
      = if i.val / 64 ≤ x.val / 64 ∧ x.val / 64 ≤ i.val / 64 + 8 then
          argB m c (ix3 0 h ⟨if 127 - i.val + x.val < 383 then 512 else 895 - (127 - i.val + x.val), by split <;> omega⟩)
        else ⊥ := by
  rw [table_eq, tab33_apply, tab30_apply i x _ _ (fdiv_rows i) (fdiv_slots x), tab19_apply, tab11_apply]
  by_cases hh : i.val / 64 ≤ x.val / 64 ∧ x.val / 64 ≤ i.val / 64 + 8
  · rw [if_pos hh, if_pos rfl, if_pos hh]
  · rw [if_neg hh, if_neg (by decide), if_neg hh]
end Cert.KernelIdeal.Band
-- ==== Proof.Value.lean ====
module
public import proofs.«01_k».proof.Proof.Ref
public import proofs.«01_k».proof.Proof.Sweep
public import proofs.«01_k».proof.Proof.Table
public import proofs.«01_k».proof.Pre_finite
@[expose] public section
set_option maxRecDepth 16384
noncomputable section
namespace Cert.KernelIdeal.Band
open Idealize.ShloMosaic Idealize.ShloMosaic.TcCoe Cert.KernelIdeal Cert.KernelIdeal.Gen
open Cert.ReferenceIdeal.Whole (v63_at)

/-! # The kernel's result is the reference's, on finite queries, keys and biases -/

variable (m : (ℓ : Loc nD τ sig) → Buf (Elt Ideal) ℓ) (c : Dev nD)

/-- A real factor `1/8`, as the word the scores are scaled by. -/
theorem eighth : Ideal.ofBits .f32 0x3E000000#32 = (((1:ℝ)/8 : ℝ) : EReal) := by
  simp [Ideal.ofBits, Ideal.ieee, -EReal.coe_mul]; norm_num

/-- What the condition says: the columns of the queries and keys are reals, and so is the bias. -/
structure Real0 (A : S2x16384x1536.Idx → EReal) (B : S1x8x513.Idx → EReal) : Prop where
  qk : ∀ (b : Fin 2) (n : Fin 16384) (l : Fin 1024), ∃ r : ℝ, A (ix3 b n ⟨l.val, by omega⟩) = r
  bias : ∀ (h : Fin 8) (y : Fin 513), ∃ r : ℝ, B (ix3 0 h y) = r

/-- The slot `x` of band `s` that row `r` attends to. -/
def okSlot (s r : Fin 128) (x : Fin 640) : Prop :=
  512 ≤ 128 * s.val + x.val ∧ (r.val / 64 ≤ x.val / 64 ∧ x.val / 64 ≤ r.val / 64 + 8)
/-- The key a slot of band `s` holds. -/
def keyOf (s : Fin 128) (x : Fin 640) : Fin 16384 := ⟨128 * s.val + x.val - 512, by omega⟩

/-- On a slot in use the band's score is the reference's score of its key. -/
theorem score_ok (A : S2x16384x1536.Idx → EReal) (B : S1x8x513.Idx → EReal) (hR : Real0 A B) (T : S4x256x640.Idx → EReal)
    (hT : ∀ (h : Fin 8) (i : Fin 128) (x : Fin 640), T (ix3 ⟨h.val / 2, by omega⟩ ⟨128 * (h.val % 2) + i.val, by omega⟩ x)
      = if i.val / 64 ≤ x.val / 64 ∧ x.val / 64 ≤ i.val / 64 + 8 then B (ix3 0 h ⟨if 127 - i.val + x.val < 383 then 512 else 895 - (127 - i.val + x.val), by split <;> omega⟩) else ⊥)
    (b : Fin 2) (s r : Fin 128) (h : Fin 8) (x : Fin 640) (hx : okSlot s r x) :
    bandScore s.val (rowsAt A 0 (by decide) b s) (winAt A 512 (by decide) b s) T h r x
      = Cert.ReferenceIdeal.Whole.score A B b h ⟨128 * s.val + r.val, by omega⟩ (keyOf s x) ∧ ∃ y : ℝ, bandScore s.val (rowsAt A 0 (by decide) b s) (winAt A 512 (by decide) b s) T h r x = y := by
  obtain ⟨h1, h2⟩ := hx
  have hm : (keyOf s x).val = 128 * s.val + x.val - 512 := rfl
  have hcond : (keyOf s x).val / 64 ≤ (128 * s.val + r.val) / 64 ∧ (128 * s.val + r.val) / 64 ≤ (keyOf s x).val / 64 + 8 := by
    rw [hm]; omega
  unfold bandScore Cert.ReferenceIdeal.Whole.score
  rw [if_pos h1, if_pos hcond, hT h r x, if_pos h2, eighth]
  have hw : ∀ d : Fin 64, winAt A 512 (by decide) b s (ix2 x ⟨64 * h.val + d.val, by omega⟩) = A (ix3 b (keyOf s x) ⟨512 + (64 * h.val + d.val), by omega⟩) := fun d => dif_pos h1
  have hq : ∀ d : Fin 64, rowsAt A 0 (by decide) b s (ix3 0 r ⟨64 * h.val + d.val, by omega⟩) = A (ix3 b ⟨128 * s.val + r.val, by omega⟩ ⟨64 * h.val + d.val, by omega⟩) := fun d =>
    congrArg (fun k => A (ix3 b ⟨128 * s.val + r.val, by omega⟩ k)) (Fin.ext (by show 0 + (64 * h.val + d.val) = 64 * h.val + d.val; omega))
  choose f hf using hR.qk
  have hqf : ∀ d : Fin 64, A (ix3 b ⟨128 * s.val + r.val, by omega⟩ ⟨64 * h.val + d.val, by omega⟩) = (f b ⟨128 * s.val + r.val, by omega⟩ ⟨64 * h.val + d.val, by omega⟩ : EReal) := fun d =>
    hf b ⟨128 * s.val + r.val, by omega⟩ ⟨64 * h.val + d.val, by omega⟩
  have hkf : ∀ d : Fin 64, A (ix3 b (keyOf s x) ⟨512 + (64 * h.val + d.val), by omega⟩) = (f b (keyOf s x) ⟨512 + (64 * h.val + d.val), by omega⟩ : EReal) := fun d =>
    hf b (keyOf s x) ⟨512 + (64 * h.val + d.val), by omega⟩
  obtain ⟨β, hβ⟩ := hR.bias h ⟨min (128 * s.val + r.val + 256 - (keyOf s x).val) 512, by omega⟩
  have hrow : B (ix3 0 h ⟨if 127 - r.val + x.val < 383 then 512 else 895 - (127 - r.val + x.val), by split <;> omega⟩) = (β : EReal) := by
    rw [← hβ]
    exact congrArg (fun k => B (ix3 0 h k)) (Fin.ext (by
      show (if 127 - r.val + x.val < 383 then 512 else 895 - (127 - r.val + x.val)) = min (128 * s.val + r.val + 256 - (keyOf s x).val) 512
      rw [hm]; split_ifs <;> omega))
  have hsum : (∑ d : Fin 64, rowsAt A 0 (by decide) b s (ix3 0 r ⟨64 * h.val + d.val, by omega⟩) * (((1:ℝ)/8 : ℝ) : EReal) * winAt A 512 (by decide) b s (ix2 x ⟨64 * h.val + d.val, by omega⟩))
      = ((∑ d : Fin 64, f b ⟨128 * s.val + r.val, by omega⟩ ⟨64 * h.val + d.val, by omega⟩ * (1/8) * f b (keyOf s x) ⟨512 + (64 * h.val + d.val), by omega⟩ : ℝ) : EReal) := by
    rw [← sum_coe]
    refine Finset.sum_congr rfl fun d _ => ?_
    rw [hq d, hw d, hqf d, hkf d, ← EReal.coe_mul, ← EReal.coe_mul]
  have hsum' : (∑ d : Fin 64, A (ix3 b ⟨128 * s.val + r.val, by omega⟩ ⟨64 * h.val + d.val, by omega⟩) * A (ix3 b (keyOf s x) ⟨512 + (64 * h.val + d.val), by omega⟩))
      = ((∑ d : Fin 64, f b ⟨128 * s.val + r.val, by omega⟩ ⟨64 * h.val + d.val, by omega⟩ * f b (keyOf s x) ⟨512 + (64 * h.val + d.val), by omega⟩ : ℝ) : EReal) := by
    rw [← sum_coe]
    refine Finset.sum_congr rfl fun d _ => ?_
    rw [hqf d, hkf d, ← EReal.coe_mul]
  rw [hrow, hsum, hsum', ← EReal.coe_add]
  refine ⟨?_, _, rfl⟩
  show _ = _ + B (ix3 0 h ⟨min (128 * s.val + r.val + 256 - (keyOf s x).val) 512, _⟩)
  rw [hβ, ← EReal.coe_mul, ← EReal.coe_add, Finset.sum_mul]
  refine congrArg (fun z : ℝ => ((z + β : ℝ) : EReal)) (Finset.sum_congr rfl fun d _ => ?_)
  ring

/-- On a slot not in use the band's score is the bottom. -/
theorem score_no (A : S2x16384x1536.Idx → EReal) (B : S1x8x513.Idx → EReal) (T : S4x256x640.Idx → EReal)
    (hT : ∀ (h : Fin 8) (i : Fin 128) (x : Fin 640), T (ix3 ⟨h.val / 2, by omega⟩ ⟨128 * (h.val % 2) + i.val, by omega⟩ x)
      = if i.val / 64 ≤ x.val / 64 ∧ x.val / 64 ≤ i.val / 64 + 8 then B (ix3 0 h ⟨if 127 - i.val + x.val < 383 then 512 else 895 - (127 - i.val + x.val), by split <;> omega⟩) else ⊥)
    (q : S1x128x512.Idx → EReal) (kw : S640x512.Idx → EReal) (s r : Fin 128) (h : Fin 8) (x : Fin 640) (hx : ¬ okSlot s r x) :
    bandScore s.val q kw T h r x = ⊥ := by
  unfold bandScore
  by_cases h1 : 512 ≤ 128 * s.val + x.val
  · rw [if_pos h1, hT h r x, if_neg (fun h2 => hx ⟨h1, h2⟩), EReal.add_bot]
  · rw [if_neg h1]

/-- The band's attention is the reference's. -/
theorem band_eq (A : S2x16384x1536.Idx → EReal) (B : S1x8x513.Idx → EReal) (hR : Real0 A B) (T : S4x256x640.Idx → EReal)
    (hT : ∀ (h : Fin 8) (i : Fin 128) (x : Fin 640), T (ix3 ⟨h.val / 2, by omega⟩ ⟨128 * (h.val % 2) + i.val, by omega⟩ x)
      = if i.val / 64 ≤ x.val / 64 ∧ x.val / 64 ≤ i.val / 64 + 8 then B (ix3 0 h ⟨if 127 - i.val + x.val < 383 then 512 else 895 - (127 - i.val + x.val), by split <;> omega⟩) else ⊥)
    (b : Fin 2) (s r : Fin 128) (h : Fin 8) (d : Fin 64) :
    soft (bandScore s.val (rowsAt A 0 (by decide) b s) (winAt A 512 (by decide) b s) T h r) (fun x => winAt A 1024 (by decide) b s (ix2 x ⟨64 * h.val + d.val, by omega⟩))
      = plain (Cert.ReferenceIdeal.Whole.score A B b h ⟨128 * s.val + r.val, by omega⟩) (fun k => A (ix3 b k ⟨1024 + (64 * h.val + d.val), by omega⟩)) := by
  refine soft_eq_plain _ _ _ _ (okSlot s r) (keyOf s) (fun x y hx hy hxy => ?_) (fun x hx => (score_ok A B hR T hT b s r h x hx).1) (fun x hx => dif_pos hx.1)
    (fun x hx => (score_ok A B hR T hT b s r h x hx).2) (fun x hx => score_no A B T hT _ _ s r h x hx) (fun k hk => ?_) ⟨512 + r.val, by omega⟩ ⟨by show 512 ≤ 128 * s.val + (512 + r.val); omega, by show r.val / 64 ≤ (512 + r.val) / 64 ∧ (512 + r.val) / 64 ≤ r.val / 64 + 8; constructor <;> omega⟩
  · have e : 128 * s.val + x.val - 512 = 128 * s.val + y.val - 512 := congrArg Fin.val hxy
    have h1 := hx.1
    have h2 := hy.1
    exact Fin.ext (by omega)
  · unfold Cert.ReferenceIdeal.Whole.score
    refine if_neg fun hc => ?_
    have hc1 : k.val / 64 ≤ (128 * s.val + r.val) / 64 := hc.1
    have hc2 : (128 * s.val + r.val) / 64 ≤ k.val / 64 + 8 := hc.2
    refine hk ⟨k.val + 512 - 128 * s.val, by omega⟩ ⟨by show 512 ≤ 128 * s.val + (k.val + 512 - 128 * s.val); omega, ?_⟩ (Fin.ext ?_)
    · show r.val / 64 ≤ (k.val + 512 - 128 * s.val) / 64 ∧ (k.val + 512 - 128 * s.val) / 64 ≤ r.val / 64 + 8
      omega
    · show 128 * s.val + (k.val + 512 - 128 * s.val) - 512 = k.val
      omega

/-- The two programs' results are the same array. -/
theorem value_eq (hR : Real0 (argA m c) (argB m c)) :
    (Value.G4 m c : S2x16384x512.Idx → EReal) = Cert.ReferenceIdeal.Read.val_main_v63 (F := Ideal) (argA m c) (argB m c) := by
  funext j
  obtain ⟨b, n, l, rfl⟩ : ∃ (b : Fin 2) (n : Fin 16384) (l : Fin 512), j = ix3 b n l :=
    ⟨j 0, j 1, j 2, funext fun a => by match a with | ⟨0, _⟩ => rfl | ⟨1, _⟩ => rfl | ⟨2, _⟩ => rfl⟩
  have hl : l.val = 64 * (l.val / 64) + l.val % 64 := by omega
  have hn : n.val = 128 * (n.val / 128) + n.val % 128 := by omega
  have e1 : (ix3 b n l : S2x16384x512.Idx) = ix3 b n ⟨64 * (⟨l.val / 64, by omega⟩ : Fin 8).val + (⟨l.val % 64, by omega⟩ : Fin 64).val, by show 64 * (l.val / 64) + l.val % 64 < 512; omega⟩ :=
    congrArg (fun k => (ix3 b n k : S2x16384x512.Idx)) (Fin.ext hl)
  have e2 : (ix3 b n l : S2x16384x512.Idx) = ix3 b ⟨128 * (⟨n.val / 128, by omega⟩ : Fin 128).val + (⟨n.val % 128, by omega⟩ : Fin 128).val, by show 128 * (n.val / 128) + n.val % 128 < 16384; omega⟩ l :=
    congrArg (fun k => (ix3 b k l : S2x16384x512.Idx)) (Fin.ext hn)
  have hk := result_at m c b ⟨n.val / 128, by omega⟩ ⟨n.val % 128, by omega⟩ l
  have hr := v63_at (argA m c) (argB m c) b n ⟨l.val / 64, by omega⟩ ⟨l.val % 64, by omega⟩
  refine ((congrArg (Value.G4 m c) e2).trans hk).trans (Eq.trans ?_ ((congrArg (Cert.ReferenceIdeal.Read.val_main_v63 (F := Ideal) (argA m c) (argB m c)) e1).trans hr).symm)
  have hb := band_eq (argA m c) (argB m c) hR (V m c main_v33) (fun h i x => table_at m c h i x) b ⟨n.val / 128, by omega⟩ ⟨n.val % 128, by omega⟩ ⟨l.val / 64, by omega⟩ ⟨l.val % 64, by omega⟩
  have e3 : (⟨64 * (⟨l.val / 64, by omega⟩ : Fin 8).val + (⟨l.val % 64, by omega⟩ : Fin 64).val, by show 64 * (l.val / 64) + l.val % 64 < 512; omega⟩ : Fin 512) = l := Fin.ext hl.symm
  have e4 : (⟨128 * (⟨n.val / 128, by omega⟩ : Fin 128).val + (⟨n.val % 128, by omega⟩ : Fin 128).val, by show 128 * (n.val / 128) + n.val % 128 < 16384; omega⟩ : Fin 16384) = n := Fin.ext hn.symm
  rw [e3, e4] at hb
  exact hb

/-- An absolute value below the top makes a real. -/
theorem real_of_lt (x : EReal) (h : FloatOps.cmpf (F := Ideal) (φ := .f32) .olt (FloatOps.hostAbsf (F := Ideal) (φ := .f32) x) (Ideal.ofBits .f32 0x7F800000#32) = 1#1) : ∃ r : ℝ, x = r := by
  have ht : Ideal.ofBits .f32 0x7F800000#32 = (⊤ : EReal) := by simp [Ideal.ofBits, Ideal.ieee]
  rw [ht] at h
  have h' : BitVec.ofBool (decide (max x (-x) < (⊤ : EReal))) = 1#1 := h
  have hlt : max x (-x) < (⊤ : EReal) := by
    by_contra hc
    rw [decide_eq_false hc] at h'
    exact absurd h' (by decide)
  have h1 : x ≠ ⊤ := fun e => by rw [e] at hlt; exact absurd hlt (by simp)
  have h2 : x ≠ ⊥ := fun e => by rw [e] at hlt; exact absurd hlt (by simp)
  exact ⟨x.toReal, (EReal.coe_toReal h1 h2).symm⟩

/-- The named condition makes the queries, the keys and the bias real. -/
theorem real_of_pre [Cert.Pre_finite.Facts] (A : S2x16384x1536.Idx → EReal) (B : S1x8x513.Idx → EReal)
    (h1 : (Cert.Pre_finite.fn (F := Ideal) A B).1 = fun _ => 1#1) (h2 : (Cert.Pre_finite.fn (F := Ideal) A B).2 = fun _ => 1#1) : Real0 A B where
  qk b n l := by
    have h := congrFun h1 (ix3 b n l)
    refine real_of_lt _ (Eq.trans ?_ h)
    unfold Cert.Pre_finite.fn
    show _ = FloatOps.cmpf (F := Ideal) (φ := .f32) .olt (FloatOps.hostAbsf (F := Ideal) (φ := .f32) (A _)) (Ideal.ofBits .f32 0x7F800000#32)
    refine congrArg (fun z : EReal => FloatOps.cmpf (F := Ideal) (φ := .f32) .olt (FloatOps.hostAbsf (F := Ideal) (φ := .f32) z) (Ideal.ofBits .f32 0x7F800000#32)) ?_
    exact congrArg A (funext fun a => Fin.ext (by
      match a with
      | ⟨0, _⟩ => show b.val = 0 + b.val; omega
      | ⟨1, _⟩ => show n.val = 0 + n.val; omega
      | ⟨2, _⟩ => show l.val = 0 + l.val; omega))
  bias h y := real_of_lt _ (congrFun h2 (ix3 0 h y))

end Cert.KernelIdeal.Band
end
end
-- ==== Proof.ProjForm.lean ====
/- The formulas of the input projection, shared by the two programs: a normed row, a product, a head's norm. -/
module

public import Idealize.ShloMosaic.Lib.Pointwise
public import Idealize.ShloMosaic.Lib.KernelVsHost

@[expose] public section

set_option maxRecDepth 16384

noncomputable section

namespace Cert.Proj

open Idealize.ShloMosaic

/-- A row divided by its root mean square, times a gain. -/
def unitRow (x g : Fin 1024 → EReal) (j : Fin 1024) : EReal :=
  x j * Ideal.rsqrt (Ideal.div (∑ i, x i * x i) (Ideal.ofBits .f32 1149239296#32) + Ideal.ofBits .f32 897988541#32) * g j

/-- A row times a column. -/
def along (h w : Fin 1024 → EReal) : EReal := ∑ j, h j * w j

/-- A head's entry of the row `y`, divided by the root mean square of the head that the table `b` picks out, times a gain. -/
def headRow (y : Fin 512 → EReal) (b : Fin 512 → EReal) (k : Fin 512) (g : EReal) : EReal :=
  y k * Ideal.rsqrt ((∑ j, y j * y j * b j) * Ideal.ofBits .f32 1015021568#32 + Ideal.ofBits .f32 897988541#32) * g

/-- A head's entry divided by the head's root mean square, times a gain. -/
def headMean (y : Fin 64 → EReal) (d : Fin 64) (g : EReal) : EReal :=
  y d * Ideal.rsqrt (Ideal.div (∑ i, y i * y i) (Ideal.ofBits .f32 1115684864#32) + Ideal.ofBits .f32 897988541#32) * g

/-- The word of 1/64 denotes it. -/
theorem ofBits_inv : Ideal.ofBits .f32 1015021568#32 = ((1 / 64 : ℝ) : EReal) := by
  simp [Ideal.ofBits, Ideal.ieee, -EReal.coe_mul]; norm_num
/-- The word of 64 denotes it. -/
theorem ofBits_len : Ideal.ofBits .f32 1115684864#32 = ((64 : ℝ) : EReal) := by
  simp [Ideal.ofBits, Ideal.ieee, -EReal.coe_mul]; norm_num

/-- The column of a head's lane. -/
def laneAt (h : Fin 8) (d : Fin 64) : Fin 512 := ⟨64 * h.val + d.val, by omega⟩

/-- A sum over 512 columns that counts one head's only is the sum over the head. -/
theorem sum_head (f : Fin 512 → EReal) (b : Fin 512 → EReal) (h : Fin 8)
    (hb : ∀ j : Fin 512, b j = if j.val / 64 = h.val then 1 else 0) :
    ∑ j, f j * b j = ∑ d : Fin 64, f (laneAt h d) := by
  rw [← Equiv.sum_comp (finProdFinEquiv : Fin 8 × Fin 64 ≃ Fin (8 * 64)) (fun j : Fin 512 => f j * b j), Fintype.sum_prod_type]
  rw [Finset.sum_eq_single h]
  · refine Finset.sum_congr rfl fun d _ => ?_
    have e : (finProdFinEquiv (h, d) : Fin (8 * 64)) = laneAt h d := Fin.ext (by show d.val + 64 * h.val = 64 * h.val + d.val; omega)
    show f (finProdFinEquiv (h, d) : Fin (8 * 64)) * b (finProdFinEquiv (h, d) : Fin (8 * 64)) = _
    rw [e, hb, if_pos (by show (64 * h.val + d.val) / 64 = h.val; omega), mul_one]
  · intro e _ he
    refine Finset.sum_eq_zero fun d _ => ?_
    show f (finProdFinEquiv (e, d) : Fin (8 * 64)) * b (finProdFinEquiv (e, d) : Fin (8 * 64)) = 0
    rw [hb, if_neg, mul_zero]
    intro h'
    have h'' : (d.val + 64 * e.val) / 64 = h.val := h'
    exact he (Fin.ext (by omega))
  · intro hh; exact absurd (Finset.mem_univ h) hh

/-- With the table of equal heads, the picked-out norm is the head's own. -/
theorem headRow_eq (y : Fin 512 → EReal) (b : Fin 512 → EReal) (h : Fin 8) (d : Fin 64) (g : EReal)
    (hb : ∀ j : Fin 512, b j = if j.val / 64 = h.val then 1 else 0) :
    headRow y b (laneAt h d) g = headMean (fun i => y (laneAt h i)) d g := by
  unfold headRow headMean
  rw [sum_head (fun j => y j * y j) b h hb, ofBits_inv, ofBits_len, Ideal.div_coe (by norm_num)]

/-- A row along a column of zeros is zero. -/
theorem along_zero (h w : Fin 1024 → EReal) (hw : ∀ i, w i = 0) : along h w = 0 :=
  Finset.sum_eq_zero fun i _ => by rw [hw i, mul_zero]

/-- The row of the flat rows that a batch's row is. -/
def flatRow (b : Fin 2) (s : Fin 16384) : Fin 32768 := ⟨16384 * b.val + s.val, by omega⟩

/-- The same for the rows of the sample. -/
def sampleRow (b : Fin 32) (s : Fin 32) : Fin 1024 := ⟨32 * b.val + s.val, by omega⟩

end Cert.Proj

end
-- ==== Proof.ProjBlock.lean ====
/- One block of 512 rows of the input projection: what the three stores of the body hold, entry by entry. -/
module

public import proofs.«01_k».proof.Proof.Gen.Kernel3Ideal.Value
public import proofs.«01_k».proof.Proof.ProjForm
public import Idealize.ShloMosaic.Lib.Pointwise
public import Idealize.ShloMosaic.Lib.KernelVsHost
public import Idealize.ShloMosaic.Lib.Pipeline.CanonAppend

@[expose] public section

set_option maxRecDepth 16384

noncomputable section

namespace Cert.Kernel3Ideal.Proj

open Cert.Kernel3Ideal Cert.Kernel3Ideal.Gen Cert.Proj Idealize.ShloMosaic Idealize.ShloMosaic.TcCoe

/-- The normed rows at an index. -/
theorem pay4_apply (x : Vec Ideal S512x1024 .f32) (g : Vec Ideal S1x1024 .f32) (r : Fin 512) (k : Fin 1024) :
    k0_pay4 (F := Ideal) x g (ix2 r k) = unitRow (fun j => x (ix2 r j)) (fun j => g (ix2 0 j)) k := by
  pointwise [k0_pay4]
  rfl
/-- The first product at an index. -/
theorem pay5_apply (x : Vec Ideal S512x1024 .f32) (g : Vec Ideal S1x1024 .f32) (w : Vec Ideal S1024x2048 .bf16) (r : Fin 512) (k : Fin 2048) :
    k0_pay5 (F := Ideal) x g w (ix2 r k) = along (unitRow (fun j => x (ix2 r j)) (fun j => g (ix2 0 j))) (fun j => w (ix2 j k)) := by
  pointwise [k0_pay5]
  exact Finset.sum_congr rfl fun j _ => congrArg (· * _) (pay4_apply x g r j)
/-- The second product at an index. -/
theorem pay6_apply (x : Vec Ideal S512x1024 .f32) (g : Vec Ideal S1x1024 .f32) (w : Vec Ideal S1024x128 .bf16) (r : Fin 512) (k : Fin 128) :
    k0_pay6 (F := Ideal) x g w (ix2 r k) = along (unitRow (fun j => x (ix2 r j)) (fun j => g (ix2 0 j))) (fun j => w (ix2 j k)) := by
  pointwise [k0_pay6]
  exact Finset.sum_congr rfl fun j _ => congrArg (· * _) (pay4_apply x g r j)
/-- The third product at an index. -/
theorem pay7_apply (x : Vec Ideal S512x1024 .f32) (g : Vec Ideal S1x1024 .f32) (w : Vec Ideal S1024x1536 .bf16) (r : Fin 512) (k : Fin 1536) :
    k0_pay7 (F := Ideal) x g w (ix2 r k) = along (unitRow (fun j => x (ix2 r j)) (fun j => g (ix2 0 j))) (fun j => w (ix2 j k)) := by
  pointwise [k0_pay7]
  exact Finset.sum_congr rfl fun j _ => congrArg (· * _) (pay4_apply x g r j)
/-- The queries' store at an index. -/
theorem pay1_apply (b : FVec Ideal S512x512 .bf16) (y : FVec Ideal S512x512 .f32) (g : FVec Ideal S1x512 .f32) (r : Fin 512) (k : Fin 512) :
    k0_pay1 (F := Ideal) b y g (ix2 r k) = headRow (fun j => y (ix2 r j)) (fun j => b (ix2 j k)) k (g (ix2 0 k)) := by
  pointwise [k0_pay1]
  rfl
/-- The keys' store at an index. -/
theorem pay2_apply (v : FVec Ideal S512x1536 .f32) (b : FVec Ideal S512x512 .bf16) (g : FVec Ideal S1x512 .f32) (r : Fin 512) (k : Fin 512) :
    k0_pay2 (F := Ideal) v b g (ix2 r k) = headRow (fun j => v (ix2 r ⟨512 + j.val, by omega⟩)) (fun j => b (ix2 j k)) k (g (ix2 0 k)) := by
  pointwise [k0_pay2]
  rfl
/-- The values' store at an index. -/
theorem pay3_apply (v : FVec Ideal S512x1536 .f32) (r : Fin 512) (k : Fin 512) :
    k0_pay3 (F := Ideal) v (ix2 r k) = v (ix2 r ⟨1024 + k.val, by omega⟩) := by
  pointwise [k0_pay3]

theorem hz : (![0, 0] : Fin 2 → Nat) = fun _ => 0 := funext fun a => by fin_cases a <;> rfl

/-- The first output's block at an index. -/
theorem out8_apply (x0 : Vec Ideal S512x1024 .f32) (x1 : Vec Ideal S1x1024 .f32) (x2 : Vec Ideal S1024x2048 .bf16) (x3 : Vec Ideal S1024x128 .bf16) (x4 : Vec Ideal S1024x1536 .bf16) (x5 : Vec Ideal S512x512 .bf16) (x6 x7 : Vec Ideal S1x512 .f32) (r : Fin 512) (k : Fin 2048) :
    out0_8 (F := Ideal) x0 x1 x2 x3 x4 x5 x6 x7 (ix2 r k) = along (unitRow (fun j => x0 (ix2 r j)) (fun j => x1 (ix2 0 j))) (fun j => x2 (ix2 j k)) := by
  unfold out0_8
  rw [View.canon_unit_zero hz, View.ld_unit_zero hz, View.ld_unit_zero hz, View.ld_unit_zero hz]
  exact pay5_apply _ _ _ _ _
/-- The second output's block at an index. -/
theorem out9_apply (x0 : Vec Ideal S512x1024 .f32) (x1 : Vec Ideal S1x1024 .f32) (x2 : Vec Ideal S1024x2048 .bf16) (x3 : Vec Ideal S1024x128 .bf16) (x4 : Vec Ideal S1024x1536 .bf16) (x5 : Vec Ideal S512x512 .bf16) (x6 x7 : Vec Ideal S1x512 .f32) (r : Fin 512) (k : Fin 128) :
    out0_9 (F := Ideal) x0 x1 x2 x3 x4 x5 x6 x7 (ix2 r k) = along (unitRow (fun j => x0 (ix2 r j)) (fun j => x1 (ix2 0 j))) (fun j => x3 (ix2 j k)) := by
  unfold out0_9
  rw [View.canon_unit_zero hz, View.ld_unit_zero hz, View.ld_unit_zero hz, View.ld_unit_zero hz]
  exact pay6_apply _ _ _ _ _

/-- Three blocks of 512 columns side by side. -/
def beside (p0 p1 p2 : S512x512.Idx → EReal) : S512x1536.Idx → EReal := fun y =>
  if h : (y 1).val < 512 then p0 (ix2 (y 0) ⟨(y 1).val, h⟩)
  else if h' : (y 1).val < 1024 then p1 (ix2 (y 0) ⟨(y 1).val - 512, by omega⟩)
  else p2 (ix2 (y 0) ⟨(y 1).val - 1024, by have : (y 1).val < 1536 := (y 1).isLt; omega⟩)

/-- The first of the three blocks. -/
theorem beside_0 (p0 p1 p2 : S512x512.Idx → EReal) (r k : Fin 512) : beside p0 p1 p2 (ix2 r ⟨k.val, by omega⟩) = p0 (ix2 r k) :=
  dif_pos (show k.val < 512 from k.isLt)
/-- The second of the three blocks. -/
theorem beside_1 (p0 p1 p2 : S512x512.Idx → EReal) (r k : Fin 512) : beside p0 p1 p2 (ix2 r ⟨512 + k.val, by omega⟩) = p1 (ix2 r k) :=
  ((dif_neg (show ¬ 512 + k.val < 512 by omega)).trans (dif_pos (show 512 + k.val < 1024 by omega))).trans
    (congrArg (fun z => p1 (ix2 r z)) (Fin.ext (by show 512 + k.val - 512 = k.val; omega)))
/-- The third of the three blocks. -/
theorem beside_2 (p0 p1 p2 : S512x512.Idx → EReal) (r k : Fin 512) : beside p0 p1 p2 (ix2 r ⟨1024 + k.val, by omega⟩) = p2 (ix2 r k) :=
  ((dif_neg (show ¬ 1024 + k.val < 512 by omega)).trans (dif_neg (show ¬ 1024 + k.val < 1024 by omega))).trans
    (congrArg (fun z => p2 (ix2 r z)) (Fin.ext (by show 1024 + k.val - 1024 = k.val; omega)))

/-- The stores of three blocks of 512 columns leave them side by side. -/
theorem canon3 (p0 p1 p2 : S512x512.Idx → EReal) :
    View.canon (Val := Elt Ideal) (e := .f32) [⟨r0_11, p2⟩, ⟨r0_10, p1⟩, ⟨r0_9, p0⟩] = beside p0 p1 p2 := by
  funext y
  refine View.canon_append_of_pieces (Val := Elt Ideal) (e := .f32) (beside p0 p1 p2) [] [⟨r0_11, p2⟩, ⟨r0_10, p1⟩, ⟨r0_9, p0⟩] ?_ y
    (cover0_10 (F := Ideal) p2 p1 p0 y)
  simp only [List.forall_mem_cons]
  refine ⟨?_, ?_, ?_, fun _ h => absurd h List.not_mem_nil⟩ <;> intro j
  · obtain ⟨a, b, rfl⟩ : ∃ a b, j = ix2 a b := ⟨j 0, j 1, funext fun a => by match a with | 0 => rfl | 1 => rfl⟩
    have e1 : (r0_11.emb (ix2 a b) 1).val = 1024 + b.val := by show 1024 + 1 * b.val = _; omega
    have e0 : r0_11.emb (ix2 a b) 0 = a := Fin.ext (by show 0 + 1 * a.val = _; omega)
    show p2 (ix2 a b) = beside p0 p1 p2 (r0_11.emb (ix2 a b))
    unfold beside
    rw [dif_neg (by omega), dif_neg (by omega)]
    exact congrArg p2 (funext fun z => by match z with | 0 => exact e0.symm | 1 => exact Fin.ext (by show b.val = (r0_11.emb (ix2 a b) 1).val - 1024; omega))
  · obtain ⟨a, b, rfl⟩ : ∃ a b, j = ix2 a b := ⟨j 0, j 1, funext fun a => by match a with | 0 => rfl | 1 => rfl⟩
    have e1 : (r0_10.emb (ix2 a b) 1).val = 512 + b.val := by show 512 + 1 * b.val = _; omega
    have e0 : r0_10.emb (ix2 a b) 0 = a := Fin.ext (by show 0 + 1 * a.val = _; omega)
    have hb : b.val < 512 := b.isLt
    show p1 (ix2 a b) = beside p0 p1 p2 (r0_10.emb (ix2 a b))
    unfold beside
    rw [dif_neg (by omega), dif_pos (by omega)]
    exact congrArg p1 (funext fun z => by match z with | 0 => exact e0.symm | 1 => exact Fin.ext (by show b.val = (r0_10.emb (ix2 a b) 1).val - 512; omega))
  · obtain ⟨a, b, rfl⟩ : ∃ a b, j = ix2 a b := ⟨j 0, j 1, funext fun a => by match a with | 0 => rfl | 1 => rfl⟩
    have e1 : (r0_9.emb (ix2 a b) 1).val = b.val := by show 0 + 1 * b.val = _; omega
    have e0 : r0_9.emb (ix2 a b) 0 = a := Fin.ext (by show 0 + 1 * a.val = _; omega)
    have hb : b.val < 512 := b.isLt
    show p0 (ix2 a b) = beside p0 p1 p2 (r0_9.emb (ix2 a b))
    unfold beside
    rw [dif_pos (by omega)]
    exact congrArg p0 (funext fun z => by match z with | 0 => exact e0.symm | 1 => exact Fin.ext (by show b.val = (r0_9.emb (ix2 a b) 1).val; omega))

section
variable (x0 : Vec Ideal S512x1024 .f32) (x1 : Vec Ideal S1x1024 .f32) (x2 : Vec Ideal S1024x2048 .bf16) (x3 : Vec Ideal S1024x128 .bf16) (x4 : Vec Ideal S1024x1536 .bf16) (x5 : Vec Ideal S512x512 .bf16) (x6 x7 : Vec Ideal S1x512 .f32)

/-- The third output's block: queries, keys and values side by side. -/
theorem out10_eq : out0_10 (F := Ideal) x0 x1 x2 x3 x4 x5 x6 x7 = beside (k0_pay1 (F := Ideal) x5 (k0_pay9 x0 x1 x4) x6) (k0_pay2 (F := Ideal) (k0_pay7 x0 x1 x4) x5 x7) (k0_pay3 (F := Ideal) (k0_pay7 x0 x1 x4)) := by
  unfold out0_10
  rw [canon3]
  unfold k0_pay11 k0_pay12 k0_pay8 k0_pay10
  have e0 : View.ld x0 r0_0 = x0 := View.ld_unit_zero hz _ _
  have e1 : View.ld x1 r0_1 = x1 := View.ld_unit_zero hz _ _
  have e4 : View.ld x4 r0_6 = x4 := View.ld_unit_zero hz _ _
  have e5 : View.ld x5 r0_7 = x5 := View.ld_unit_zero hz _ _
  have e6 : View.ld x6 r0_8 = x6 := View.ld_unit_zero hz _ _
  have e7 : View.ld x7 r0_8 = x7 := View.ld_unit_zero hz _ _
  rw [e0, e1, e4, e5, e6, e7]
  simp only [shapeCast_self]

/-- The queries of the third output's block. -/
theorem out10_q (r k : Fin 512) : out0_10 (F := Ideal) x0 x1 x2 x3 x4 x5 x6 x7 (ix2 r ⟨k.val, by omega⟩)
    = headRow (fun j => along (unitRow (fun i => x0 (ix2 r i)) (fun i => x1 (ix2 0 i))) (fun i => x4 (ix2 i ⟨j.val, by omega⟩))) (fun j => x5 (ix2 j k)) k (x6 (ix2 0 k)) := by
  rw [out10_eq, beside_0]
  refine (pay1_apply x5 _ x6 r k).trans ?_
  unfold k0_pay9
  congr 1
  funext j
  refine Eq.trans ?_ (pay7_apply x0 x1 x4 r ⟨j.val, by omega⟩)
  pointwise
/-- The keys of the third output's block. -/
theorem out10_k (r k : Fin 512) : out0_10 (F := Ideal) x0 x1 x2 x3 x4 x5 x6 x7 (ix2 r ⟨512 + k.val, by omega⟩)
    = headRow (fun j => along (unitRow (fun i => x0 (ix2 r i)) (fun i => x1 (ix2 0 i))) (fun i => x4 (ix2 i ⟨512 + j.val, by omega⟩))) (fun j => x5 (ix2 j k)) k (x7 (ix2 0 k)) := by
  rw [out10_eq, beside_1]
  refine (pay2_apply _ x5 x7 r k).trans ?_
  congr 1
  funext j
  exact pay7_apply x0 x1 x4 r ⟨512 + j.val, by omega⟩
/-- The values of the third output's block. -/
theorem out10_v (r k : Fin 512) : out0_10 (F := Ideal) x0 x1 x2 x3 x4 x5 x6 x7 (ix2 r ⟨1024 + k.val, by omega⟩)
    = along (unitRow (fun i => x0 (ix2 r i)) (fun i => x1 (ix2 0 i))) (fun i => x4 (ix2 i ⟨1024 + k.val, by omega⟩)) := by
  rw [out10_eq, beside_2]
  exact (pay3_apply _ r k).trans (pay7_apply x0 x1 x4 r ⟨1024 + k.val, by omega⟩)
end

/-! ## The windows' blocks, and the arrays -/

theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx_9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx_10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

variable (m : (ℓ : Loc nD τ sig) → Buf (Elt Ideal) ℓ) (c : Dev nD)

/-- The row of the array that a block's row is. -/
def rowAt (t : Fin cfg0.N) (r : Fin 512) : Fin 32768 :=
  ⟨512 * t.val + r.val, by have : t.val < 64 := t.isLt; have := r.isLt; omega⟩

/-- The rows' block. -/
theorem in_0 (t : Fin cfg0.N) (r : Fin 512) (k : Fin 1024) : iblk m c 0 t (ix2 r k) = V m c main_v28 (ix2 (rowAt t r) k) := by
  show V m c main_v28 (((cfg0.win 0).blk t).view.emb (ix2 r k)) = _
  obtain ⟨e0, e1⟩ := idx_0 t
  refine congrArg (V m c main_v28) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega
/-- The gain's block is the gain. -/
theorem in_1 (t : Fin cfg0.N) : iblk m c 1 t = V m c main_v27 := by
  funext y
  show V m c main_v27 (((cfg0.win 1).blk t).view.emb y) = _
  obtain ⟨e0, e1⟩ := idx_1 t
  refine congrArg (V m c main_v27) (funext fun a => Fin.ext ?_)
  match a with
  | ⟨0, _⟩ => show win0_1.index t (0 : Fin 2) * 1 + 1 * (y 0).val = (y 0).val; omega
  | ⟨1, _⟩ => show win0_1.index t (1 : Fin 2) * 1024 + 1 * (y 1).val = (y 1).val; omega
/-- The first weights' block is the array. -/
theorem in_2 (t : Fin cfg0.N) : iblk m c 2 t = V m c main_v2 := by
  funext y
  show V m c main_v2 (((cfg0.win 2).blk t).view.emb y) = _
  obtain ⟨e0, e1⟩ := idx_2 t
  refine congrArg (V m c main_v2) (funext fun a => Fin.ext ?_)
  match a with
  | ⟨0, _⟩ => show win0_2.index t (0 : Fin 2) * 1024 + 1 * (y 0).val = (y 0).val; omega
  | ⟨1, _⟩ => show win0_2.index t (1 : Fin 2) * 2048 + 1 * (y 1).val = (y 1).val; omega
/-- The second weights' block is the array. -/
theorem in_3 (t : Fin cfg0.N) : iblk m c 3 t = V m c main_v5 := by
  funext y
  show V m c main_v5 (((cfg0.win 3).blk t).view.emb y) = _
  obtain ⟨e0, e1⟩ := idx_3 t
  refine congrArg (V m c main_v5) (funext fun a => Fin.ext ?_)
  match a with
  | ⟨0, _⟩ => show win0_3.index t (0 : Fin 2) * 1024 + 1 * (y 0).val = (y 0).val; omega
  | ⟨1, _⟩ => show win0_3.index t (1 : Fin 2) * 128 + 1 * (y 1).val = (y 1).val; omega
/-- The third weights' block is the array. -/
theorem in_4 (t : Fin cfg0.N) : iblk m c 4 t = V m c main_v7 := by
  funext y
  show V m c main_v7 (((cfg0.win 4).blk t).view.emb y) = _
  obtain ⟨e0, e1⟩ := idx_4 t
  refine congrArg (V m c main_v7) (funext fun a => Fin.ext ?_)
  match a with
  | ⟨0, _⟩ => show win0_4.index t (0 : Fin 2) * 1024 + 1 * (y 0).val = (y 0).val; omega
  | ⟨1, _⟩ => show win0_4.index t (1 : Fin 2) * 1536 + 1 * (y 1).val = (y 1).val; omega
/-- The heads' table's block is the table. -/
theorem in_5 (t : Fin cfg0.N) : iblk m c 5 t = V m c main_v15 := by
  funext y
  show V m c main_v15 (((cfg0.win 5).blk t).view.emb y) = _
  obtain ⟨e0, e1⟩ := idx_5 t
  refine congrArg (V m c main_v15) (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega
/-- The queries' gain's block is the gain. -/
theorem in_6 (t : Fin cfg0.N) : iblk m c 6 t = V m c main_v20 := by
  funext y
  show V m c main_v20 (((cfg0.win 6).blk t).view.emb y) = _
  obtain ⟨e0, e1⟩ := idx_6 t
  refine congrArg (V m c main_v20) (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega
/-- The keys' gain's block is the gain. -/
theorem in_7 (t : Fin cfg0.N) : iblk m c 7 t = V m c main_v25 := by
  funext y
  show V m c main_v25 (((cfg0.win 7).blk t).view.emb y) = _
  obtain ⟨e0, e1⟩ := idx_7 t
  refine congrArg (V m c main_v25) (funext fun a => Fin.ext ?_)
  match a with
  | ⟨0, _⟩ => show win0_7.index t (0 : Fin 2) * 1 + 1 * (y 0).val = (y 0).val; omega
  | ⟨1, _⟩ => show win0_7.index t (1 : Fin 2) * 512 + 1 * (y 1).val = (y 1).val; omega

/-- The first output array at an index: the block's value there. -/
theorem at_8 (t : Fin cfg0.N) (r : Fin 512) (k : Fin 2048) :
    (dats m 0 c).arrAt 8 cfg0.N (ix2 (rowAt t r) k) = out0_8 (F := Ideal) (iblk m c 0 t) (iblk m c 1 t) (iblk m c 2 t) (iblk m c 3 t) (iblk m c 4 t) (iblk m c 5 t) (iblk m c 6 t) (iblk m c 7 t) (ix2 r k) := by
  have h := congrFun ((Value.blocks8 m c t (flush0_8 t)).trans (Value.flushed8 m c t)) (ix2 r k)
  refine Eq.trans ?_ h
  show _ = (dats m 0 c).arrAt 8 cfg0.N (((cfg0.win 8).blk t).view.emb (ix2 r k))
  obtain ⟨e0, e1⟩ := idx_8 t
  refine congrArg ((dats m 0 c).arrAt 8 cfg0.N) (funext fun a => Fin.ext ?_)
  match a with
  | ⟨0, _⟩ => show 512 * t.val + r.val = win0_8.index t (0 : Fin 2) * 512 + 1 * r.val; omega
  | ⟨1, _⟩ => show k.val = win0_8.index t (1 : Fin 2) * 2048 + 1 * k.val; omega
/-- The second output array at an index: the block's value there. -/
theorem at_9 (t : Fin cfg0.N) (r : Fin 512) (k : Fin 128) :
    (dats m 0 c).arrAt 9 cfg0.N (ix2 (rowAt t r) k) = out0_9 (F := Ideal) (iblk m c 0 t) (iblk m c 1 t) (iblk m c 2 t) (iblk m c 3 t) (iblk m c 4 t) (iblk m c 5 t) (iblk m c 6 t) (iblk m c 7 t) (ix2 r k) := by
  have h := congrFun ((Value.blocks9 m c t (flush0_9 t)).trans (Value.flushed9 m c t)) (ix2 r k)
  refine Eq.trans ?_ h
  show _ = (dats m 0 c).arrAt 9 cfg0.N (((cfg0.win 9).blk t).view.emb (ix2 r k))
  obtain ⟨e0, e1⟩ := idx_9 t
  refine congrArg ((dats m 0 c).arrAt 9 cfg0.N) (funext fun a => Fin.ext ?_)
  match a with
  | ⟨0, _⟩ => show 512 * t.val + r.val = win0_9.index t (0 : Fin 2) * 512 + 1 * r.val; omega
  | ⟨1, _⟩ => show k.val = win0_9.index t (1 : Fin 2) * 128 + 1 * k.val; omega
/-- The third output array at an index: the block's value there. -/
theorem at_10 (t : Fin cfg0.N) (r : Fin 512) (k : Fin 1536) :
    (dats m 0 c).arrAt 10 cfg0.N (ix2 (rowAt t r) k) = out0_10 (F := Ideal) (iblk m c 0 t) (iblk m c 1 t) (iblk m c 2 t) (iblk m c 3 t) (iblk m c 4 t) (iblk m c 5 t) (iblk m c 6 t) (iblk m c 7 t) (ix2 r k) := by
  have h := congrFun ((Value.blocks10 m c t (flush0_10 t)).trans (Value.flushed10 m c t)) (ix2 r k)
  refine Eq.trans ?_ h
  show _ = (dats m 0 c).arrAt 10 cfg0.N (((cfg0.win 10).blk t).view.emb (ix2 r k))
  obtain ⟨e0, e1⟩ := idx_10 t
  refine congrArg ((dats m 0 c).arrAt 10 cfg0.N) (funext fun a => Fin.ext ?_)
  match a with
  | ⟨0, _⟩ => show 512 * t.val + r.val = win0_10.index t (0 : Fin 2) * 512 + 1 * r.val; omega
  | ⟨1, _⟩ => show k.val = win0_10.index t (1 : Fin 2) * 1536 + 1 * k.val; omega

end Cert.Kernel3Ideal.Proj

end
-- ==== Proof.ProjHost.lean ====
/- The arrays the host packs for the input projection, entry by entry. -/
module

public import proofs.«01_k».proof.Proof.Gen.Kernel3Ideal.Frame
public import Idealize.ShloMosaic.Lib.Pointwise
public import proofs.«01_k».proof.Proof.ProjForm
public import Idealize.ShloMosaic.Lib.KernelVsHost

@[expose] public section

set_option maxRecDepth 16384

noncomputable section

namespace Cert.Kernel3Ideal.Proj

open Idealize.ShloMosaic Idealize.ShloMosaic.TcCoe Cert.Kernel3Ideal Cert.Kernel3Ideal.Gen Cert.Proj

variable (m : (ℓ : Loc nD τ sig) → Buf (Elt Ideal) ℓ) (c : Dev nD)

/-- The rows as launched. -/
def argX : S2x16384x1024.Idx → EReal := m ((c : Thread nD τ).loc main_arg0)
/-- The rows' gain as launched. -/
def argG : S1x1024.Idx → EReal := m ((c : Thread nD τ).loc main_arg1)
/-- The weights as launched. -/
def argW : S1x1024x3592.Idx → EReal := m ((c : Thread nD τ).loc main_arg2)
/-- The queries' gain as launched. -/
def argQ : S1x64.Idx → EReal := m ((c : Thread nD τ).loc main_arg3)
/-- The keys' gain as launched. -/
def argK : S1x64.Idx → EReal := m ((c : Thread nD τ).loc main_arg4)

/-- The weights without their leading axis. -/
def flatW (w : FVec Ideal S1x1024x3592 .f32) : FVec Ideal S1024x3592 .f32 := shapeCast S1024x3592 w shapeCasts_S1x1024x3592_S1024x3592
/-- The weights without their leading axis, at an index. -/
theorem flatW_apply (w : FVec Ideal S1x1024x3592 .f32) (i : Fin 1024) (k : Fin 3592) : flatW w (ix2 i k) = w (ix3 0 i k) := by
  unfold flatW
  exact shapeCast_apply _ _ _ _ (by
    rw [Shape.rowMajor_val_three, Shape.rowMajor_val_two]
    show (0 * 1024 + i.val) * 3592 + k.val = i.val * 3592 + k.val; omega)
/-- A head's gain repeated for the eight heads. -/
def tiled (g : FVec Ideal S1x64 .f32) : FVec Ideal S1x512 .f32 :=
  broadcastInDim S1x512 ![1] bcast_S512_S1x512_1 (shapeCast S512 (broadcastInDim S8x64 ![0, 1] bcast_S1x64_S8x64_0_1
    (shapeCast S1x64 (shapeCast S64 g shapeCasts_S1x64_S64 : FVec Ideal S64 .f32) shapeCasts_S64_S1x64 : FVec Ideal S1x64 .f32) : FVec Ideal S8x64 .f32) shapeCasts_S8x64_S512 : FVec Ideal S512 .f32)
/-- A head's gain repeated, at an index. -/
theorem tiled_apply (g : FVec Ideal S1x64 .f32) (h : Fin 8) (d : Fin 64) : tiled g (ix2 0 ⟨64 * h.val + d.val, by omega⟩) = g (ix2 0 d) := by
  unfold tiled
  rw [broadcastInDim_apply _ bcast_S512_S1x512_1 _ _ (ix1 (⟨64 * h.val + d.val, by omega⟩ : Fin 512)) (fun a => match a with
    | ⟨0, _⟩ => by show 64 * h.val + d.val = if (512 : Nat) = 1 then 0 else 64 * h.val + d.val; rw [if_neg (by decide)])]
  rw [shapeCast_apply _ _ _ (ix2 h d) (by
    rw [Shape.rowMajor_val_two, Shape.rowMajor_val_one]
    show h.val * 64 + d.val = 64 * h.val + d.val; omega)]
  rw [broadcastInDim_apply _ bcast_S1x64_S8x64_0_1 _ _ (ix2 (0 : Fin 1) d) (fun a => match a with
    | ⟨0, _⟩ => by show 0 = if (1 : Nat) = 1 then 0 else h.val; rw [if_pos rfl]
    | ⟨1, _⟩ => by show d.val = if (64 : Nat) = 1 then 0 else d.val; rw [if_neg (by decide)])]
  rw [shapeCast_apply _ _ _ (ix1 d) (by
    rw [Shape.rowMajor_val_two, Shape.rowMajor_val_one]
    show d.val = 0 * 64 + d.val; omega)]
  exact shapeCast_apply _ _ _ _ (by
    rw [Shape.rowMajor_val_two, Shape.rowMajor_val_one]
    show 0 * 64 + d.val = d.val; omega)
/-- The quotient rounded down, as the host writes it. -/
def fdiv (x : IVec S512 32) (y : IVec S_ 32) : IVec S512 32 :=
  select (andi (cmpi .ne (signi x) (broadcastInDim S512 ![] bcast_S_S512 (signi y))) (cmpi .ne (Host.remsi x (broadcastInDim S512 ![] bcast_S_S512 y)) (broadcastInDim S512 ![] bcast_S_S512 (constantI S_ 32 0#32))))
    (subi (Host.divsi x (broadcastInDim S512 ![] bcast_S_S512 y)) (broadcastInDim S512 ![] bcast_S_S512 (constantI S_ 32 1#32))) (Host.divsi x (broadcastInDim S512 ![] bcast_S_S512 y))
/-- The table of equal heads. -/
def equalHeads : FVec Ideal S512x512 .bf16 :=
  uitofp .bf16 (cmpi .eq
    (broadcastInDim S512x512 ![0, 1] bcast_S512x1_S512x512_0_1 (broadcastInDim S512x1 ![0] bcast_S512_S512x1_0 (fdiv (iotaInDim S512 32 0) (constantI S_ 32 64#32))))
    (broadcastInDim S512x512 ![0, 1] bcast_S1x512_S512x512_0_1 (broadcastInDim S1x512 ![1] bcast_S512_S1x512_1 (fdiv (iotaInDim S512 32 0) (constantI S_ 32 64#32)))))
theorem fdiv_apply (j : Fin 512) : fdiv (iotaInDim S512 32 0) (constantI S_ 32 64#32) (ix1 j) = BitVec.ofNat 32 (j.val / 64) := by
  revert j
  decide +kernel
theorem equalHeads_apply (j k : Fin 512) : equalHeads (ix2 j k) = if j.val / 64 = k.val / 64 then 1 else 0 := by
  unfold equalHeads
  generalize hf : fdiv (iotaInDim S512 32 0) (constantI S_ 32 64#32) = f
  pointwise
  rw [← hf, fdiv_apply, fdiv_apply]
  by_cases h : j.val / 64 = k.val / 64
  · rw [h, if_pos rfl]
    show ((((BitVec.ofBool (BitVec.ofNat 32 (k.val / 64) == BitVec.ofNat 32 (k.val / 64))).toNat : ℝ)) : EReal) = 1
    rw [beq_self_eq_true]
    simp
  · have hne : BitVec.ofNat 32 (j.val / 64) ≠ BitVec.ofNat 32 (k.val / 64) := fun e => h (by
      have e' := congrArg BitVec.toNat e
      rw [BitVec.toNat_ofNat, BitVec.toNat_ofNat, Nat.mod_eq_of_lt (by omega), Nat.mod_eq_of_lt (by omega)] at e'
      exact e')
    rw [if_neg h]
    show ((((BitVec.ofBool (BitVec.ofNat 32 (j.val / 64) == BitVec.ofNat 32 (k.val / 64))).toNat : ℝ)) : EReal) = 0
    rw [beq_eq_false_iff_ne.mpr hne]
    simp

/-- The rows when the kernel starts. -/
theorem V_v28 : V m c main_v28 = shapeCast S32768x1024 (argX m c) shapeCasts_S2x16384x1024_S32768x1024 := by
  show StableHlo.after (List.flatten [hostOps0, hostOps0_1, hostOps0_2, hostOps0_3, hostOps0_4]) (fun b => m (c, b)) (Proc.devRef .tc main_v28) = _
  simp only [hostOps0, hostOps0_1, hostOps0_2, hostOps0_3, hostOps0_4, List.flatten_cons, List.flatten_nil, List.append_nil, List.cons_append, List.nil_append]
  after_results_simp
  rfl
/-- The gain when the kernel starts. -/
theorem V_v27 : V m c main_v27 = broadcastInDim S1x1024 ![1] bcast_S1024_S1x1024_1 (shapeCast S1024 (argG m c) shapeCasts_S1x1024_S1024 : FVec Ideal S1024 .f32) := by
  show StableHlo.after (List.flatten [hostOps0, hostOps0_1, hostOps0_2, hostOps0_3, hostOps0_4]) (fun b => m (c, b)) (Proc.devRef .tc main_v27) = _
  simp only [hostOps0, hostOps0_1, hostOps0_2, hostOps0_3, hostOps0_4, List.flatten_cons, List.flatten_nil, List.append_nil, List.cons_append, List.nil_append]
  after_results_simp
  rfl
/-- The first weights when the kernel starts. -/
theorem V_v2 : V m c main_v2 = truncf .bf16 (extractStridedSlice S1024x2048 ![0, 0] (flatW (argW m c)) slices_S1024x3592_S1024x2048_0_0 : FVec Ideal S1024x2048 .f32) bitsLt_bf16_f32 := by
  show StableHlo.after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append]
  after_results_simp
  rfl
/-- The second weights when the kernel starts. -/
theorem V_v5 : V m c main_v5 = truncf .bf16 (pad S1024x128 ![0, 0] ![0, 120] ![0, 0] (extractStridedSlice S1024x8 ![0, 2048] (flatW (argW m c)) slices_S1024x3592_S1024x8_0_2048 : FVec Ideal S1024x8 .f32) (sitofp .f32 (constantI S_ 32 0#32)) pads_S1024x8_S1024x128_000_01200 h_S_ : FVec Ideal S1024x128 .f32) bitsLt_bf16_f32 := by
  show StableHlo.after (List.flatten [hostOps0, hostOps0_1, hostOps0_2, hostOps0_3, hostOps0_4]) (fun b => m (c, b)) (Proc.devRef .tc main_v5) = _
  simp only [hostOps0, hostOps0_1, hostOps0_2, hostOps0_3, hostOps0_4, List.flatten_cons, List.flatten_nil, List.append_nil, List.cons_append, List.nil_append]
  after_results_simp
  rfl
/-- The third weights when the kernel starts. -/
theorem V_v7 : V m c main_v7 = truncf .bf16 (extractStridedSlice S1024x1536 ![0, 2056] (flatW (argW m c)) slices_S1024x3592_S1024x1536_0_2056 : FVec Ideal S1024x1536 .f32) bitsLt_bf16_f32 := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append, List.nil_append]
  after_results_simp
  rfl
/-- The table when the kernel starts. -/
theorem V_v15 : V m c main_v15 = equalHeads := by
  show StableHlo.after (List.flatten [hostOps0, hostOps0_1, hostOps0_2, hostOps0_3, hostOps0_4]) (fun b => m (c, b)) (Proc.devRef .tc main_v15) = _
  simp only [hostOps0, hostOps0_1, hostOps0_2, hostOps0_3, hostOps0_4, List.flatten_cons, List.flatten_nil, List.append_nil, List.cons_append, List.nil_append]
  after_results_simp
  rfl
/-- The queries' gain when the kernel starts. -/
theorem V_v20 : V m c main_v20 = tiled (argQ m c) := by
  show StableHlo.after (List.flatten [hostOps0, hostOps0_1, hostOps0_2, hostOps0_3, hostOps0_4]) (fun b => m (c, b)) (Proc.devRef .tc main_v20) = _
  simp only [hostOps0, hostOps0_1, hostOps0_2, hostOps0_3, hostOps0_4, List.flatten_cons, List.flatten_nil, List.append_nil, List.cons_append, List.nil_append]
  after_results_simp
  rfl
/-- The keys' gain when the kernel starts. -/
theorem V_v25 : V m c main_v25 = tiled (argK m c) := by
  show StableHlo.after (List.flatten [hostOps0, hostOps0_1, hostOps0_2, hostOps0_3, hostOps0_4]) (fun b => m (c, b)) (Proc.devRef .tc main_v25) = _
  simp only [hostOps0, hostOps0_1, hostOps0_2, hostOps0_3, hostOps0_4, List.flatten_cons, List.flatten_nil, List.append_nil, List.cons_append, List.nil_append]
  after_results_simp
  rfl

/-! ## The same, entry by entry -/

/-- The rows, at an index. -/
theorem x_apply (b : Fin 2) (s : Fin 16384) (j : Fin 1024) : V m c main_v28 (ix2 (flatRow b s) j) = argX m c (ix3 b s j) := by
  rw [V_v28]
  exact shapeCast_apply _ _ _ _ (by
    rw [Shape.rowMajor_val_three, Shape.rowMajor_val_two]
    show (b.val * 16384 + s.val) * 1024 + j.val = (16384 * b.val + s.val) * 1024 + j.val; omega)
/-- The gain, at an index. -/
theorem g_apply (j : Fin 1024) : V m c main_v27 (ix2 0 j) = argG m c (ix2 0 j) := by
  rw [V_v27]
  rw [broadcastInDim_apply _ bcast_S1024_S1x1024_1 _ _ (ix1 j) (fun a => match a with
    | ⟨0, _⟩ => by show j.val = if (1024 : Nat) = 1 then 0 else j.val; rw [if_neg (by decide)])]
  exact shapeCast_apply _ _ _ _ (by
    rw [Shape.rowMajor_val_two, Shape.rowMajor_val_one]
    show 0 * 1024 + j.val = j.val; omega)
/-- The first weights, at an index. -/
theorem wa_apply (i : Fin 1024) (k : Fin 2048) : V m c main_v2 (ix2 i k) = argW m c (ix3 0 i ⟨k.val, by omega⟩) := by
  rw [V_v2]
  refine Eq.trans ?_ (flatW_apply _ i ⟨k.val, by omega⟩)
  generalize flatW (argW m c) = w
  pointwise
/-- The third weights, at an index. -/
theorem wb_apply (i : Fin 1024) (k : Fin 1536) : V m c main_v7 (ix2 i k) = argW m c (ix3 0 i ⟨2056 + k.val, by omega⟩) := by
  rw [V_v7]
  refine Eq.trans ?_ (flatW_apply _ i ⟨2056 + k.val, by omega⟩)
  generalize flatW (argW m c) = w
  pointwise
/-- The second weights, at an index that is not padding. -/
theorem wba_apply (i : Fin 1024) (k : Fin 128) (hk : k.val < 8) : V m c main_v5 (ix2 i k) = argW m c (ix3 0 i ⟨2048 + k.val, by omega⟩) := by
  rw [V_v5]
  refine Eq.trans ?_ (flatW_apply _ i ⟨2048 + k.val, by omega⟩)
  generalize flatW (argW m c) = w
  refine (pad_apply_of_inside _ _ _ _ _ pads_S1024x8_S1024x128_000_01200 h_S_ (ix2 i k) (ix2 i (⟨k.val, hk⟩ : Fin 8)) (fun a => match a with
    | ⟨0, _⟩ => by show i.val = 0 + i.val * (0 + 1); omega
    | ⟨1, _⟩ => by show k.val = 0 + k.val * (0 + 1); omega)).trans ?_
  pointwise
/-- The second weights, at padding. -/
theorem wba_zero (i : Fin 1024) (k : Fin 128) (hk : ¬ k.val < 8) : V m c main_v5 (ix2 i k) = (0 : EReal) := by
  rw [V_v5]
  generalize flatW (argW m c) = w
  refine (pad_apply_of_not_inside _ _ _ _ _ pads_S1024x8_S1024x128_000_01200 h_S_ (ix2 i k) (1 : Fin 2) (by
    show ¬(0 ≤ k.val ∧ (k.val - 0) % (0 + 1) = 0 ∧ (k.val - 0) / (0 + 1) < 8); omega)).trans ?_
  show ((((0#32 : BitVec 32).toInt : ℤ) : ℝ) : EReal) = 0
  simp
/-- The queries' gain, at an index. -/
theorem gq_apply (h : Fin 8) (d : Fin 64) : V m c main_v20 (ix2 0 ⟨64 * h.val + d.val, by omega⟩) = argQ m c (ix2 0 d) := by
  rw [V_v20]; exact tiled_apply _ h d
/-- The keys' gain, at an index. -/
theorem gk_apply (h : Fin 8) (d : Fin 64) : V m c main_v25 (ix2 0 ⟨64 * h.val + d.val, by omega⟩) = argK m c (ix2 0 d) := by
  rw [V_v25]; exact tiled_apply _ h d

end Cert.Kernel3Ideal.Proj

end
-- ==== Proof.ProjRef.lean ====
/- The reference projection, entry by entry. -/
module

public import proofs.«01_k».proof.Proof.Gen.Reference3Ideal.Read
public import proofs.«01_k».proof.Proof.ProjForm

@[expose] public section

set_option maxRecDepth 16384

noncomputable section

namespace Cert.Reference3Ideal.Proj

open Idealize.ShloMosaic Idealize.ShloMosaic.TcCoe Cert.Reference3Ideal Cert.Reference3Ideal.Gen Cert.Reference3Ideal.Read Cert.Proj

variable (x0 : S2x16384x1024.Idx → EReal) (x1 : S1x1024.Idx → EReal) (x2 : S1x1024x3592.Idx → EReal) (x3 x4 : S1x64.Idx → EReal)

/-- The normed row of the reference. -/
def hrow (b : Fin 2) (s : Fin 16384) : Fin 1024 → EReal := unitRow (fun i => x0 (ix3 b s i)) (fun i => x1 (ix2 0 i))
/-- The projected row of the reference. -/
def yrow (b : Fin 2) (s : Fin 16384) (k : Fin 3592) : EReal := along (hrow x0 x1 b s) (fun i => x2 (ix3 0 i k))

/-- The sum of a row's squares. -/
theorem v2_at (b : Fin 2) (s : Fin 16384) : val_main_v2 (F := Ideal) x0 (ix2 b s) = ∑ i, x0 (ix3 b s i) * x0 (ix3 b s i) := by
  rw [val_main_v2_apply]
  have e : val_main_cst (F := Ideal) (Shape.Idx.first h_S_) = 0 := Ideal.ofBits_zero_f32
  rw [e, zero_add]
  refine Finset.sum_congr rfl fun i _ => ?_
  have e : idx_main_v2 (ix2 b s) i = ix3 b s i := funext fun a => match a with | 0 => rfl | 1 => rfl | 2 => rfl
  rw [e]; rfl
/-- The normed rows. -/
theorem v13_at (b : Fin 2) (s : Fin 16384) (j : Fin 1024) : val_main_v13 (F := Ideal) x0 x1 (ix3 b s j) = hrow x0 x1 b s j := by
  have e9 : val_main_v9 (F := Ideal) x0 (ix3 b s j) = Ideal.rsqrt (Ideal.div (∑ i, x0 (ix3 b s i) * x0 (ix3 b s i)) (Ideal.ofBits .f32 1149239296#32) + Ideal.ofBits .f32 897988541#32) := by
    rw [val_main_v9_apply, val_main_v8_apply, val_main_v7_apply, val_main_v5_apply, val_main_v3_apply, val_main_v4_apply, val_main_v6_apply]
    have e : idx_main_v3 (idx_main_v9 (ix3 b s j)) = ix2 b s := funext fun a => match a with | 0 => rfl | 1 => rfl
    rw [e, v2_at]; rfl
  have e12 : val_main_v12 (F := Ideal) x1 (ix3 b s j) = x1 (ix2 0 j) := by
    rw [val_main_v12_apply, val_main_v11_apply, val_main_v0_apply]
    refine congrArg x1 (funext fun a => Fin.ext ?_)
    match a with
    | 0 => rfl
    | 1 => show j.val % 1024 = j.val; omega
  rw [val_main_v13_apply, val_main_v10_apply, e9, e12]; rfl
/-- The projected rows. -/
theorem v15_at (b : Fin 2) (s : Fin 16384) (k : Fin 3592) : val_main_v15 (F := Ideal) x0 x1 x2 (ix3 b s k) = yrow x0 x1 x2 b s k := by
  rw [val_main_v15_apply]
  show _ = ∑ i : Fin 1024, hrow x0 x1 b s i * x2 (ix3 0 i k)
  refine Finset.sum_congr rfl fun i _ => ?_
  have e : lidx_main_v15 (ix3 b s k) i = ix3 b s i := funext fun a => match a with | 0 => rfl | 1 => rfl | 2 => rfl
  rw [e, v13_at, val_main_v14_apply]
  refine congrArg (fun z => _ * x2 z) (funext fun a => Fin.ext ?_)
  match a with
  | 0 => rfl
  | 1 => show (i.val * 3592 + k.val) / 3592 % 1024 = i.val; omega
  | 2 => show (i.val * 3592 + k.val) % 3592 = k.val; omega
/-- The queries by heads. -/
theorem v23_at (b : Fin 2) (s : Fin 16384) (h : Fin 8) (d : Fin 64) :
    val_main_v23 (F := Ideal) x0 x1 x2 (ix4 b s h d) = yrow x0 x1 x2 b s ⟨2056 + (64 * h.val + d.val), by omega⟩ := by
  unfold val_main_v23
  rw [shapeCast_apply _ _ _ (ix3 b s ⟨64 * h.val + d.val, by omega⟩) (by
    rw [Shape.rowMajor_val_three, Shape.rowMajor_val_four]
    show (b.val * 16384 + s.val) * 512 + (64 * h.val + d.val) = ((b.val * 16384 + s.val) * 8 + h.val) * 64 + d.val; omega)]
  rw [val_main_v20_apply, ← v15_at]
  exact congrArg (val_main_v15 (F := Ideal) x0 x1 x2) (funext fun a => Fin.ext (match a with | 0 => rfl | 1 => rfl | 2 => rfl))
/-- The keys by heads. -/
theorem v38_at (b : Fin 2) (s : Fin 16384) (h : Fin 8) (d : Fin 64) :
    val_main_v38 (F := Ideal) x0 x1 x2 (ix4 b s h d) = yrow x0 x1 x2 b s ⟨2568 + (64 * h.val + d.val), by omega⟩ := by
  unfold val_main_v38
  rw [shapeCast_apply _ _ _ (ix3 b s ⟨64 * h.val + d.val, by omega⟩) (by
    rw [Shape.rowMajor_val_three, Shape.rowMajor_val_four]
    show (b.val * 16384 + s.val) * 512 + (64 * h.val + d.val) = ((b.val * 16384 + s.val) * 8 + h.val) * 64 + d.val; omega)]
  rw [val_main_v21_apply, ← v15_at]
  exact congrArg (val_main_v15 (F := Ideal) x0 x1 x2) (funext fun a => Fin.ext (match a with | 0 => rfl | 1 => rfl | 2 => rfl))
/-- The normed queries. -/
theorem v37_at (b : Fin 2) (s : Fin 16384) (h : Fin 8) (d : Fin 64) :
    val_main_v37 (F := Ideal) x0 x1 x2 x3 (ix4 b s h d)
      = headMean (fun i => yrow x0 x1 x2 b s ⟨2056 + (64 * h.val + i.val), by omega⟩) d (x3 (ix2 0 d)) := by
  have e33 : val_main_v33 (F := Ideal) x0 x1 x2 (ix4 b s h d) = Ideal.rsqrt (Ideal.div (∑ i : Fin 64, yrow x0 x1 x2 b s ⟨2056 + (64 * h.val + i.val), by omega⟩ * yrow x0 x1 x2 b s ⟨2056 + (64 * h.val + i.val), by omega⟩) (Ideal.ofBits .f32 1115684864#32) + Ideal.ofBits .f32 897988541#32) := by
    rw [val_main_v33_apply, val_main_v32_apply, val_main_v31_apply, val_main_v29_apply, val_main_v27_apply, val_main_v28_apply, val_main_v30_apply, val_main_v26_apply]
    have e : val_main_cst_2 (F := Ideal) (Shape.Idx.first h_S_) = 0 := Ideal.ofBits_zero_f32
    rw [e, zero_add]
    have es : ∀ i : Fin 64, val_main_v25 (F := Ideal) x0 x1 x2 (idx_main_v26 (idx_main_v27 (idx_main_v33 (ix4 b s h d))) i)
        = yrow x0 x1 x2 b s ⟨2056 + (64 * h.val + i.val), by omega⟩ * yrow x0 x1 x2 b s ⟨2056 + (64 * h.val + i.val), by omega⟩ := fun i => by
      have e : idx_main_v26 (idx_main_v27 (idx_main_v33 (ix4 b s h d))) i = ix4 b s h i := funext fun a => match a with | 0 => rfl | 1 => rfl | 2 => rfl | 3 => rfl
      rw [e, val_main_v25_apply, v23_at]; rfl
    simp only [es]; rfl
  have e36 : val_main_v36 (F := Ideal) x3 (ix4 b s h d) = x3 (ix2 0 d) := by
    rw [val_main_v36_apply, val_main_v35_apply, val_main_v24_apply]
    refine congrArg x3 (funext fun a => Fin.ext ?_)
    match a with
    | 0 => rfl
    | 1 => show d.val % 64 = d.val; omega
  rw [val_main_v37_apply, val_main_v34_apply, e33, e36, v23_at]; rfl
/-- The normed keys. -/
theorem v52_at (b : Fin 2) (s : Fin 16384) (h : Fin 8) (d : Fin 64) :
    val_main_v52 (F := Ideal) x0 x1 x2 x4 (ix4 b s h d)
      = headMean (fun i => yrow x0 x1 x2 b s ⟨2568 + (64 * h.val + i.val), by omega⟩) d (x4 (ix2 0 d)) := by
  have e48 : val_main_v48 (F := Ideal) x0 x1 x2 (ix4 b s h d) = Ideal.rsqrt (Ideal.div (∑ i : Fin 64, yrow x0 x1 x2 b s ⟨2568 + (64 * h.val + i.val), by omega⟩ * yrow x0 x1 x2 b s ⟨2568 + (64 * h.val + i.val), by omega⟩) (Ideal.ofBits .f32 1115684864#32) + Ideal.ofBits .f32 897988541#32) := by
    rw [val_main_v48_apply, val_main_v47_apply, val_main_v46_apply, val_main_v44_apply, val_main_v42_apply, val_main_v43_apply, val_main_v45_apply, val_main_v41_apply]
    have e : val_main_cst_5 (F := Ideal) (Shape.Idx.first h_S_) = 0 := Ideal.ofBits_zero_f32
    rw [e, zero_add]
    have es : ∀ i : Fin 64, val_main_v40 (F := Ideal) x0 x1 x2 (idx_main_v41 (idx_main_v42 (idx_main_v48 (ix4 b s h d))) i)
        = yrow x0 x1 x2 b s ⟨2568 + (64 * h.val + i.val), by omega⟩ * yrow x0 x1 x2 b s ⟨2568 + (64 * h.val + i.val), by omega⟩ := fun i => by
      have e : idx_main_v41 (idx_main_v42 (idx_main_v48 (ix4 b s h d))) i = ix4 b s h i := funext fun a => match a with | 0 => rfl | 1 => rfl | 2 => rfl | 3 => rfl
      rw [e, val_main_v40_apply, v38_at]; rfl
    simp only [es]; rfl
  have e51 : val_main_v51 (F := Ideal) x4 (ix4 b s h d) = x4 (ix2 0 d) := by
    rw [val_main_v51_apply, val_main_v50_apply, val_main_v39_apply]
    refine congrArg x4 (funext fun a => Fin.ext ?_)
    match a with
    | 0 => rfl
    | 1 => show d.val % 64 = d.val; omega
  rw [val_main_v52_apply, val_main_v49_apply, e48, e51, v38_at]; rfl

/-- A three-axis array's rows laid out flat. -/
theorem rows_apply {n : ℕ} {α : Type} (y : (⟨3, ![2, 16384, n]⟩ : Shape).Idx → α) (hc : (⟨3, ![2, 16384, n]⟩ : Shape).ShapeCasts ⟨2, ![32768, n]⟩)
    (b : Fin 2) (s : Fin 16384) (k : Fin n) : shapeCast ⟨2, ![32768, n]⟩ y hc (ix2 (flatRow b s) k) = y (ix3 b s k) :=
  shapeCast_apply _ _ _ _ (by
    rw [Shape.rowMajor_val_three, Shape.rowMajor_val_two]
    show (b.val * 16384 + s.val) * n + k.val = (16384 * b.val + s.val) * n + k.val
    rw [Nat.mul_comm 16384])
/-- A four-axis array's rows laid out flat. -/
theorem heads_apply (y : S2x16384x8x64.Idx → EReal) (b : Fin 2) (s : Fin 16384) (h : Fin 8) (d : Fin 64) :
    shapeCast S32768x512 y shapeCasts_S2x16384x8x64_S32768x512 (ix2 (flatRow b s) (laneAt h d)) = y (ix4 b s h d) :=
  shapeCast_apply _ _ _ _ (by
    rw [Shape.rowMajor_val_four, Shape.rowMajor_val_two]
    show ((b.val * 16384 + s.val) * 8 + h.val) * 64 + d.val = (16384 * b.val + s.val) * 512 + (64 * h.val + d.val); omega)

/-- Two operands side by side. -/
theorem cat2 (y0 : FVec Ideal S32768x1536 .f32) (y1 : FVec Ideal S32768x512 .f32) (r : Fin 32768) (k : Fin 2048) :
    concatenate S32768x2048 1 [⟨S32768x1536, y0⟩, ⟨S32768x512, y1⟩] concatenates_S32768x1536_S32768x512_S32768x2048_d1 (ix2 r k)
      = if h : k.val < 1536 then y0 (ix2 r ⟨k.val, h⟩) else y1 (ix2 r ⟨k.val - 1536, by omega⟩) := by
  pointwise
/-- Three operands side by side. -/
theorem cat3 (y0 y1 : FVec Ideal S32768x4 .f32) (y2 : FVec Ideal S32768x120 .f32) (r : Fin 32768) (k : Fin 128) :
    concatenate S32768x128 1 [⟨S32768x4, y0⟩, ⟨S32768x4, y1⟩, ⟨S32768x120, y2⟩] concatenates_S32768x4_S32768x4_S32768x120_S32768x128_d1 (ix2 r k)
      = if h : k.val < 4 then y0 (ix2 r ⟨k.val, h⟩) else if h' : k.val < 8 then y1 (ix2 r ⟨k.val - 4, by omega⟩) else y2 (ix2 r ⟨k.val - 8, by omega⟩) := by
  pointwise
  refine dite_congr rfl (fun _ => rfl) fun h => dite_congr (propext (by omega)) (fun _ => rfl) fun h' => ?_
  exact congrArg (fun z => y2 (ix2 r z)) (Fin.ext (by show k.val - 4 - 4 = k.val - 8; omega))
/-- Three operands of a head's width side by side. -/
theorem cat3' (y0 y1 y2 : FVec Ideal S32768x512 .f32) (r : Fin 32768) (k : Fin 1536) :
    concatenate S32768x1536 1 [⟨S32768x512, y0⟩, ⟨S32768x512, y1⟩, ⟨S32768x512, y2⟩] concatenates_S32768x512_S32768x512_S32768x512_S32768x1536_d1 (ix2 r k)
      = if h : k.val < 512 then y0 (ix2 r ⟨k.val, h⟩) else if h' : k.val < 1024 then y1 (ix2 r ⟨k.val - 512, by omega⟩) else y2 (ix2 r ⟨k.val - 1024, by omega⟩) := by
  pointwise
  refine dite_congr rfl (fun _ => rfl) fun h => dite_congr (propext (by omega)) (fun _ => rfl) fun h' => ?_
  exact congrArg (fun z => y2 (ix2 r z)) (Fin.ext (by show k.val - 512 - 512 = k.val - 1024; omega))

/-- The first result: the first 2048 projected columns. -/
theorem v56_at (b : Fin 2) (s : Fin 16384) (k : Fin 2048) :
    val_main_v56 (F := Ideal) x0 x1 x2 (ix2 (flatRow b s) k) = yrow x0 x1 x2 b s ⟨k.val, by omega⟩ := by
  unfold val_main_v56 val_main_v54 val_main_v55
  rw [cat2]
  split
  · next hk =>
    refine (rows_apply (val_main_v16 (F := Ideal) x0 x1 x2) shapeCasts_S2x16384x1536_S32768x1536 b s ⟨k.val, hk⟩).trans ?_
    rw [val_main_v16_apply, ← v15_at]
    exact congrArg (val_main_v15 (F := Ideal) x0 x1 x2) (funext fun a => Fin.ext (match a with | 0 => rfl | 1 => rfl | 2 => rfl))
  · next hk =>
    refine (rows_apply (val_main_v17 (F := Ideal) x0 x1 x2) shapeCasts_S2x16384x512_S32768x512 b s ⟨k.val - 1536, by omega⟩).trans ?_
    rw [val_main_v17_apply, ← v15_at]
    refine congrArg (val_main_v15 (F := Ideal) x0 x1 x2) (funext fun a => Fin.ext (match a with | 0 => rfl | 1 => rfl | 2 => ?_))
    show 1536 + (k.val - 1536) = k.val; omega
/-- The second result: the next eight projected columns, then zeros. -/
theorem v60_at (b : Fin 2) (s : Fin 16384) (k : Fin 128) :
    val_main_v60 (F := Ideal) x0 x1 x2 (ix2 (flatRow b s) k) = if h : k.val < 8 then yrow x0 x1 x2 b s ⟨2048 + k.val, by omega⟩ else 0 := by
  unfold val_main_v60 val_main_v57 val_main_v58 val_main_v59
  rw [cat3]
  split
  · next hk =>
    rw [dif_pos (by omega)]
    refine (rows_apply (val_main_v18 (F := Ideal) x0 x1 x2) shapeCasts_S2x16384x4_S32768x4 b s ⟨k.val, hk⟩).trans ?_
    rw [val_main_v18_apply, ← v15_at]
    exact congrArg (val_main_v15 (F := Ideal) x0 x1 x2) (funext fun a => Fin.ext (match a with | 0 => rfl | 1 => rfl | 2 => rfl))
  · next hk =>
    split
    · next hk' =>
      refine (rows_apply (val_main_v19 (F := Ideal) x0 x1 x2) shapeCasts_S2x16384x4_S32768x4 b s ⟨k.val - 4, by omega⟩).trans ?_
      rw [val_main_v19_apply, ← v15_at]
      refine congrArg (val_main_v15 (F := Ideal) x0 x1 x2) (funext fun a => Fin.ext (match a with | 0 => rfl | 1 => rfl | 2 => ?_))
      show 2052 + (k.val - 4) = 2048 + k.val; omega
    · next hk' =>
      refine (rows_apply (val_main_v53 (F := Ideal)) shapeCasts_S2x16384x120_S32768x120 b s ⟨k.val - 8, by omega⟩).trans ?_
      rw [val_main_v53_apply]
      exact Ideal.ofBits_zero_f32
/-- The third result's queries. -/
theorem v64_q (b : Fin 2) (s : Fin 16384) (h : Fin 8) (d : Fin 64) :
    val_main_v64 (F := Ideal) x0 x1 x2 x3 x4 (ix2 (flatRow b s) ⟨(laneAt h d).val, by have := (laneAt h d).isLt; omega⟩)
      = headMean (fun i => yrow x0 x1 x2 b s ⟨2056 + (64 * h.val + i.val), by omega⟩) d (x3 (ix2 0 d)) := by
  unfold val_main_v64 val_main_v61
  rw [cat3', dif_pos (show (laneAt h d).val < 512 from (laneAt h d).isLt)]
  exact (heads_apply _ b s h d).trans (v37_at x0 x1 x2 x3 b s h d)
/-- The third result's keys. -/
theorem v64_k (b : Fin 2) (s : Fin 16384) (h : Fin 8) (d : Fin 64) :
    val_main_v64 (F := Ideal) x0 x1 x2 x3 x4 (ix2 (flatRow b s) ⟨512 + (laneAt h d).val, by have := (laneAt h d).isLt; omega⟩)
      = headMean (fun i => yrow x0 x1 x2 b s ⟨2568 + (64 * h.val + i.val), by omega⟩) d (x4 (ix2 0 d)) := by
  have hl := (laneAt h d).isLt
  unfold val_main_v64 val_main_v62
  rw [cat3', dif_neg (show ¬ 512 + (laneAt h d).val < 512 by omega), dif_pos (show 512 + (laneAt h d).val < 1024 by omega)]
  have e : (⟨512 + (laneAt h d).val - 512, by omega⟩ : Fin 512) = laneAt h d := Fin.ext (by show 512 + (laneAt h d).val - 512 = (laneAt h d).val; omega)
  refine (congrArg (fun z => shapeCast S32768x512 (val_main_v52 (F := Ideal) x0 x1 x2 x4) shapeCasts_S2x16384x8x64_S32768x512 (ix2 (flatRow b s) z)) e).trans ?_
  exact (heads_apply _ b s h d).trans (v52_at x0 x1 x2 x4 b s h d)
/-- The third result's values. -/
theorem v64_v (b : Fin 2) (s : Fin 16384) (l : Fin 512) :
    val_main_v64 (F := Ideal) x0 x1 x2 x3 x4 (ix2 (flatRow b s) ⟨1024 + l.val, by omega⟩)
      = yrow x0 x1 x2 b s ⟨3080 + l.val, by omega⟩ := by
  unfold val_main_v64 val_main_v63
  rw [cat3', dif_neg (show ¬ 1024 + l.val < 512 by omega), dif_neg (show ¬ 1024 + l.val < 1024 by omega)]
  refine (rows_apply (val_main_v22 (F := Ideal) x0 x1 x2) shapeCasts_S2x16384x512_S32768x512 b s ⟨1024 + l.val - 1024, by omega⟩).trans ?_
  rw [val_main_v22_apply, ← v15_at]
  refine congrArg (val_main_v15 (F := Ideal) x0 x1 x2) (funext fun a => Fin.ext (match a with | 0 => rfl | 1 => rfl | 2 => ?_))
  show 3080 + (1024 + l.val - 1024) = 3080 + l.val; omega

end Cert.Reference3Ideal.Proj

end
-- ==== Proof.ProjValue.lean ====
/- The kernel's projected arrays are the reference's. -/
module

public import proofs.«01_k».proof.Proof.ProjBlock
public import proofs.«01_k».proof.Proof.ProjHost
public import proofs.«01_k».proof.Proof.ProjRef

@[expose] public section

set_option maxRecDepth 16384

noncomputable section

namespace Cert.Kernel3Ideal.Proj

open Idealize.ShloMosaic Idealize.ShloMosaic.TcCoe Cert.Kernel3Ideal Cert.Kernel3Ideal.Gen Cert.Proj
open Cert.Reference3Ideal.Proj (hrow yrow v56_at v60_at v64_q v64_k v64_v)

variable (m : (ℓ : Loc nD τ sig) → Buf (Elt Ideal) ℓ) (c : Dev nD)

/-- Every row lies in a block. -/
theorem in_block (b : Fin 2) (s : Fin 16384) : ∃ (t : Fin cfg0.N) (r : Fin 512), rowAt t r = flatRow b s :=
  ⟨⟨(16384 * b.val + s.val) / 512, by show (16384 * b.val + s.val) / 512 < 64; omega⟩, ⟨(16384 * b.val + s.val) % 512, by omega⟩,
    Fin.ext (by show 512 * ((16384 * b.val + s.val) / 512) + (16384 * b.val + s.val) % 512 = 16384 * b.val + s.val; omega)⟩

/-- The normed row of a block is the normed row of the arguments. -/
theorem hrow_eq (b : Fin 2) (s : Fin 16384) (t : Fin cfg0.N) (r : Fin 512) (h : rowAt t r = flatRow b s) :
    unitRow (fun j => iblk m c 0 t (ix2 r j)) (fun j => iblk m c 1 t (ix2 0 j)) = hrow (argX m c) (argG m c) b s := by
  have e0 : (fun j => iblk m c 0 t (ix2 r j)) = fun j => argX m c (ix3 b s j) := funext fun j => by rw [in_0, h, x_apply]
  have e1 : (fun j => iblk m c 1 t (ix2 0 j)) = fun j => argG m c (ix2 0 j) := funext fun j => by rw [in_1, g_apply]
  unfold hrow
  rw [← e0, ← e1]

/-- The first array, at an index. -/
theorem arr8_at (b : Fin 2) (s : Fin 16384) (k : Fin 2048) :
    (dats m 0 c).arrAt 8 cfg0.N (ix2 (flatRow b s) k) = yrow (argX m c) (argG m c) (argW m c) b s ⟨k.val, by omega⟩ := by
  obtain ⟨t, r, h⟩ := in_block b s
  rw [← h, at_8, out8_apply, hrow_eq m c b s t r h]
  refine congrArg (along _) (funext fun i => ?_)
  rw [in_2, wa_apply]
/-- The second array, at an index. -/
theorem arr9_at (b : Fin 2) (s : Fin 16384) (k : Fin 128) :
    (dats m 0 c).arrAt 9 cfg0.N (ix2 (flatRow b s) k) = if h : k.val < 8 then yrow (argX m c) (argG m c) (argW m c) b s ⟨2048 + k.val, by omega⟩ else 0 := by
  obtain ⟨t, r, h⟩ := in_block b s
  rw [← h, at_9, out9_apply, hrow_eq m c b s t r h]
  split
  · next hk =>
    refine congrArg (along _) (funext fun i => ?_)
    rw [in_3, wba_apply m c i k hk]
  · next hk =>
    refine along_zero _ _ fun i => ?_
    rw [in_3, wba_zero m c i k hk]
/-- The projected columns of a block are those of the arguments. -/
theorem yrow_eq (b : Fin 2) (s : Fin 16384) (t : Fin cfg0.N) (o : ℕ) (ho : o + 512 ≤ 1536) (j : Fin 512) :
    along (hrow (argX m c) (argG m c) b s) (fun i => iblk m c 4 t (ix2 i ⟨o + j.val, by omega⟩)) = yrow (argX m c) (argG m c) (argW m c) b s ⟨2056 + (o + j.val), by omega⟩ :=
  congrArg (along _) (funext fun i => by rw [in_4, wb_apply])
/-- The third array's queries. -/
theorem arr10_q (b : Fin 2) (s : Fin 16384) (h : Fin 8) (d : Fin 64) :
    (dats m 0 c).arrAt 10 cfg0.N (ix2 (flatRow b s) ⟨(laneAt h d).val, by have := (laneAt h d).isLt; omega⟩)
      = headMean (fun i => yrow (argX m c) (argG m c) (argW m c) b s ⟨2056 + (64 * h.val + i.val), by omega⟩) d (argQ m c (ix2 0 d)) := by
  obtain ⟨t, r, hr⟩ := in_block b s
  rw [← hr, at_10, out10_q, hrow_eq m c b s t r hr]
  have ey : (fun j : Fin 512 => along (hrow (argX m c) (argG m c) b s) (fun i => iblk m c 4 t (ix2 i ⟨j.val, by omega⟩)))
      = fun j : Fin 512 => yrow (argX m c) (argG m c) (argW m c) b s ⟨2056 + j.val, by omega⟩ := funext fun j => congrArg (along _) (funext fun i => by rw [in_4, wb_apply])
  rw [ey, headRow_eq _ _ h d _ (fun j => by
    rw [in_5, V_v15, equalHeads_apply]
    have e : (laneAt h d).val / 64 = h.val := by show (64 * h.val + d.val) / 64 = h.val; omega
    rw [e])]
  refine congrArg (headMean _ d) ?_
  rw [in_6]
  exact gq_apply m c h d
/-- The third array's keys. -/
theorem arr10_k (b : Fin 2) (s : Fin 16384) (h : Fin 8) (d : Fin 64) :
    (dats m 0 c).arrAt 10 cfg0.N (ix2 (flatRow b s) ⟨512 + (laneAt h d).val, by have := (laneAt h d).isLt; omega⟩)
      = headMean (fun i => yrow (argX m c) (argG m c) (argW m c) b s ⟨2568 + (64 * h.val + i.val), by omega⟩) d (argK m c (ix2 0 d)) := by
  obtain ⟨t, r, hr⟩ := in_block b s
  rw [← hr, at_10, out10_k, hrow_eq m c b s t r hr]
  have ey : (fun j : Fin 512 => along (hrow (argX m c) (argG m c) b s) (fun i => iblk m c 4 t (ix2 i ⟨512 + j.val, by omega⟩)))
      = fun j : Fin 512 => yrow (argX m c) (argG m c) (argW m c) b s ⟨2568 + j.val, by omega⟩ := funext fun j =>
    (yrow_eq m c b s t 512 (by decide) j).trans (congrArg (yrow (argX m c) (argG m c) (argW m c) b s) (Fin.ext (by show 2056 + (512 + j.val) = 2568 + j.val; omega)))
  rw [ey, headRow_eq _ _ h d _ (fun j => by
    rw [in_5, V_v15, equalHeads_apply]
    have e : (laneAt h d).val / 64 = h.val := by show (64 * h.val + d.val) / 64 = h.val; omega
    rw [e])]
  refine congrArg (headMean _ d) ?_
  rw [in_7]
  exact gk_apply m c h d
/-- The third array's values. -/
theorem arr10_v (b : Fin 2) (s : Fin 16384) (l : Fin 512) :
    (dats m 0 c).arrAt 10 cfg0.N (ix2 (flatRow b s) ⟨1024 + l.val, by omega⟩) = yrow (argX m c) (argG m c) (argW m c) b s ⟨3080 + l.val, by omega⟩ := by
  obtain ⟨t, r, hr⟩ := in_block b s
  rw [← hr, at_10, out10_v, hrow_eq m c b s t r hr]
  exact (yrow_eq m c b s t 1024 (by decide) l).trans (congrArg (yrow (argX m c) (argG m c) (argW m c) b s) (Fin.ext (by show 2056 + (1024 + l.val) = 3080 + l.val; omega)))

/-- Every index of a flat array is a batch's row and a column. -/
theorem flat_index {n : ℕ} (j : (⟨2, ![32768, n]⟩ : Shape).Idx) : ∃ (b : Fin 2) (s : Fin 16384) (k : Fin n), j = ix2 (flatRow b s) k := by
  have h0 : (j 0).val < 32768 := (j 0).isLt
  refine ⟨⟨(j 0).val / 16384, by omega⟩, ⟨(j 0).val % 16384, by omega⟩, j 1, funext fun a => ?_⟩
  match a with
  | 0 => exact Fin.ext (by show (j 0).val = 16384 * ((j 0).val / 16384) + (j 0).val % 16384; omega)
  | 1 => rfl

/-- The first results are equal. -/
theorem first_eq : (dats m 0 c).arrAt 8 cfg0.N = Cert.Reference3Ideal.Read.val_main_v56 (F := Ideal) (argX m c) (argG m c) (argW m c) := by
  funext j
  obtain ⟨b, s, k, rfl⟩ := flat_index (n := 2048) j
  exact (arr8_at m c b s k).trans (v56_at (argX m c) (argG m c) (argW m c) b s k).symm
/-- The second results are equal. -/
theorem second_eq : (dats m 0 c).arrAt 9 cfg0.N = Cert.Reference3Ideal.Read.val_main_v60 (F := Ideal) (argX m c) (argG m c) (argW m c) := by
  funext j
  obtain ⟨b, s, k, rfl⟩ := flat_index (n := 128) j
  exact (arr9_at m c b s k).trans (v60_at (argX m c) (argG m c) (argW m c) b s k).symm
/-- The third results are equal. -/
theorem third_eq : (dats m 0 c).arrAt 10 cfg0.N = Cert.Reference3Ideal.Read.val_main_v64 (F := Ideal) (argX m c) (argG m c) (argW m c) (argQ m c) (argK m c) := by
  funext j
  obtain ⟨b, s, k, rfl⟩ := flat_index (n := 1536) j
  have hk := k.isLt
  by_cases h0 : k.val < 512
  · have e : k = ⟨(laneAt ⟨k.val / 64, by omega⟩ ⟨k.val % 64, by omega⟩).val, by have := (laneAt ⟨k.val / 64, by omega⟩ ⟨k.val % 64, by omega⟩).isLt; omega⟩ :=
      Fin.ext (by show k.val = 64 * (k.val / 64) + k.val % 64; omega)
    rw [e]
    exact (arr10_q m c b s _ _).trans (v64_q (argX m c) (argG m c) (argW m c) (argQ m c) (argK m c) b s _ _).symm
  · by_cases h1 : k.val < 1024
    · have e : k = ⟨512 + (laneAt ⟨(k.val - 512) / 64, by omega⟩ ⟨(k.val - 512) % 64, by omega⟩).val, by have := (laneAt ⟨(k.val - 512) / 64, by omega⟩ ⟨(k.val - 512) % 64, by omega⟩).isLt; omega⟩ :=
        Fin.ext (by show k.val = 512 + (64 * ((k.val - 512) / 64) + (k.val - 512) % 64); omega)
      rw [e]
      exact (arr10_k m c b s _ _).trans (v64_k (argX m c) (argG m c) (argW m c) (argQ m c) (argK m c) b s _ _).symm
    · have e : k = ⟨1024 + (⟨k.val - 1024, by omega⟩ : Fin 512).val, by show 1024 + (k.val - 1024) < 1536; omega⟩ :=
        Fin.ext (by show k.val = 1024 + (k.val - 1024); omega)
      rw [e]
      exact (arr10_v m c b s _).trans (v64_v (argX m c) (argG m c) (argW m c) (argQ m c) (argK m c) b s _).symm

end Cert.Kernel3Ideal.Proj

end
-- ==== Proof.SampBlock.lean ====
/- One block of 512 rows of the input projection of the sample: what the three stores of the body hold, entry by entry. -/
module

public import proofs.«01_k».proof.Proof.Gen.Kernel4Ideal.Value
public import proofs.«01_k».proof.Proof.ProjForm
public import Idealize.ShloMosaic.Lib.Pointwise
public import Idealize.ShloMosaic.Lib.KernelVsHost
public import Idealize.ShloMosaic.Lib.Pipeline.CanonAppend

@[expose] public section

set_option maxRecDepth 16384

noncomputable section

namespace Cert.Kernel4Ideal.Proj

open Cert.Kernel4Ideal Cert.Kernel4Ideal.Gen Cert.Proj Idealize.ShloMosaic Idealize.ShloMosaic.TcCoe

/-- The normed rows at an index. -/
theorem pay4_apply (x : Vec Ideal S512x1024 .f32) (g : Vec Ideal S1x1024 .f32) (r : Fin 512) (k : Fin 1024) :
    k0_pay4 (F := Ideal) x g (ix2 r k) = unitRow (fun j => x (ix2 r j)) (fun j => g (ix2 0 j)) k := by
  pointwise [k0_pay4]
  rfl
/-- The first product at an index. -/
theorem pay5_apply (x : Vec Ideal S512x1024 .f32) (g : Vec Ideal S1x1024 .f32) (w : Vec Ideal S1024x2048 .bf16) (r : Fin 512) (k : Fin 2048) :
    k0_pay5 (F := Ideal) x g w (ix2 r k) = along (unitRow (fun j => x (ix2 r j)) (fun j => g (ix2 0 j))) (fun j => w (ix2 j k)) := by
  pointwise [k0_pay5]
  exact Finset.sum_congr rfl fun j _ => congrArg (· * _) (pay4_apply x g r j)
/-- The second product at an index. -/
theorem pay6_apply (x : Vec Ideal S512x1024 .f32) (g : Vec Ideal S1x1024 .f32) (w : Vec Ideal S1024x128 .bf16) (r : Fin 512) (k : Fin 128) :
    k0_pay6 (F := Ideal) x g w (ix2 r k) = along (unitRow (fun j => x (ix2 r j)) (fun j => g (ix2 0 j))) (fun j => w (ix2 j k)) := by
  pointwise [k0_pay6]
  exact Finset.sum_congr rfl fun j _ => congrArg (· * _) (pay4_apply x g r j)
/-- The third product at an index. -/
theorem pay7_apply (x : Vec Ideal S512x1024 .f32) (g : Vec Ideal S1x1024 .f32) (w : Vec Ideal S1024x1536 .bf16) (r : Fin 512) (k : Fin 1536) :
    k0_pay7 (F := Ideal) x g w (ix2 r k) = along (unitRow (fun j => x (ix2 r j)) (fun j => g (ix2 0 j))) (fun j => w (ix2 j k)) := by
  pointwise [k0_pay7]
  exact Finset.sum_congr rfl fun j _ => congrArg (· * _) (pay4_apply x g r j)
/-- The queries' store at an index. -/
theorem pay1_apply (b : FVec Ideal S512x512 .bf16) (y : FVec Ideal S512x512 .f32) (g : FVec Ideal S1x512 .f32) (r : Fin 512) (k : Fin 512) :
    k0_pay1 (F := Ideal) b y g (ix2 r k) = headRow (fun j => y (ix2 r j)) (fun j => b (ix2 j k)) k (g (ix2 0 k)) := by
  pointwise [k0_pay1]
  rfl
/-- The keys' store at an index. -/
theorem pay2_apply (v : FVec Ideal S512x1536 .f32) (b : FVec Ideal S512x512 .bf16) (g : FVec Ideal S1x512 .f32) (r : Fin 512) (k : Fin 512) :
    k0_pay2 (F := Ideal) v b g (ix2 r k) = headRow (fun j => v (ix2 r ⟨512 + j.val, by omega⟩)) (fun j => b (ix2 j k)) k (g (ix2 0 k)) := by
  pointwise [k0_pay2]
  rfl
/-- The values' store at an index. -/
theorem pay3_apply (v : FVec Ideal S512x1536 .f32) (r : Fin 512) (k : Fin 512) :
    k0_pay3 (F := Ideal) v (ix2 r k) = v (ix2 r ⟨1024 + k.val, by omega⟩) := by
  pointwise [k0_pay3]

theorem hz : (![0, 0] : Fin 2 → Nat) = fun _ => 0 := funext fun a => by fin_cases a <;> rfl

/-- The first output's block at an index. -/
theorem out8_apply (x0 : Vec Ideal S512x1024 .f32) (x1 : Vec Ideal S1x1024 .f32) (x2 : Vec Ideal S1024x2048 .bf16) (x3 : Vec Ideal S1024x128 .bf16) (x4 : Vec Ideal S1024x1536 .bf16) (x5 : Vec Ideal S512x512 .bf16) (x6 x7 : Vec Ideal S1x512 .f32) (r : Fin 512) (k : Fin 2048) :
    out0_8 (F := Ideal) x0 x1 x2 x3 x4 x5 x6 x7 (ix2 r k) = along (unitRow (fun j => x0 (ix2 r j)) (fun j => x1 (ix2 0 j))) (fun j => x2 (ix2 j k)) := by
  unfold out0_8
  rw [View.canon_unit_zero hz, View.ld_unit_zero hz, View.ld_unit_zero hz, View.ld_unit_zero hz]
  exact pay5_apply _ _ _ _ _
/-- The second output's block at an index. -/
theorem out9_apply (x0 : Vec Ideal S512x1024 .f32) (x1 : Vec Ideal S1x1024 .f32) (x2 : Vec Ideal S1024x2048 .bf16) (x3 : Vec Ideal S1024x128 .bf16) (x4 : Vec Ideal S1024x1536 .bf16) (x5 : Vec Ideal S512x512 .bf16) (x6 x7 : Vec Ideal S1x512 .f32) (r : Fin 512) (k : Fin 128) :
    out0_9 (F := Ideal) x0 x1 x2 x3 x4 x5 x6 x7 (ix2 r k) = along (unitRow (fun j => x0 (ix2 r j)) (fun j => x1 (ix2 0 j))) (fun j => x3 (ix2 j k)) := by
  unfold out0_9
  rw [View.canon_unit_zero hz, View.ld_unit_zero hz, View.ld_unit_zero hz, View.ld_unit_zero hz]
  exact pay6_apply _ _ _ _ _

/-- Three blocks of 512 columns side by side. -/
def beside (p0 p1 p2 : S512x512.Idx → EReal) : S512x1536.Idx → EReal := fun y =>
  if h : (y 1).val < 512 then p0 (ix2 (y 0) ⟨(y 1).val, h⟩)
  else if h' : (y 1).val < 1024 then p1 (ix2 (y 0) ⟨(y 1).val - 512, by omega⟩)
  else p2 (ix2 (y 0) ⟨(y 1).val - 1024, by have : (y 1).val < 1536 := (y 1).isLt; omega⟩)

/-- The first of the three blocks. -/
theorem beside_0 (p0 p1 p2 : S512x512.Idx → EReal) (r k : Fin 512) : beside p0 p1 p2 (ix2 r ⟨k.val, by omega⟩) = p0 (ix2 r k) :=
  dif_pos (show k.val < 512 from k.isLt)
/-- The second of the three blocks. -/
theorem beside_1 (p0 p1 p2 : S512x512.Idx → EReal) (r k : Fin 512) : beside p0 p1 p2 (ix2 r ⟨512 + k.val, by omega⟩) = p1 (ix2 r k) :=
  ((dif_neg (show ¬ 512 + k.val < 512 by omega)).trans (dif_pos (show 512 + k.val < 1024 by omega))).trans
    (congrArg (fun z => p1 (ix2 r z)) (Fin.ext (by show 512 + k.val - 512 = k.val; omega)))
/-- The third of the three blocks. -/
theorem beside_2 (p0 p1 p2 : S512x512.Idx → EReal) (r k : Fin 512) : beside p0 p1 p2 (ix2 r ⟨1024 + k.val, by omega⟩) = p2 (ix2 r k) :=
  ((dif_neg (show ¬ 1024 + k.val < 512 by omega)).trans (dif_neg (show ¬ 1024 + k.val < 1024 by omega))).trans
    (congrArg (fun z => p2 (ix2 r z)) (Fin.ext (by show 1024 + k.val - 1024 = k.val; omega)))

/-- The stores of three blocks of 512 columns leave them side by side. -/
theorem canon3 (p0 p1 p2 : S512x512.Idx → EReal) :
    View.canon (Val := Elt Ideal) (e := .f32) [⟨r0_11, p2⟩, ⟨r0_10, p1⟩, ⟨r0_9, p0⟩] = beside p0 p1 p2 := by
  funext y
  refine View.canon_append_of_pieces (Val := Elt Ideal) (e := .f32) (beside p0 p1 p2) [] [⟨r0_11, p2⟩, ⟨r0_10, p1⟩, ⟨r0_9, p0⟩] ?_ y
    (cover0_10 (F := Ideal) p2 p1 p0 y)
  simp only [List.forall_mem_cons]
  refine ⟨?_, ?_, ?_, fun _ h => absurd h List.not_mem_nil⟩ <;> intro j
  · obtain ⟨a, b, rfl⟩ : ∃ a b, j = ix2 a b := ⟨j 0, j 1, funext fun a => by match a with | 0 => rfl | 1 => rfl⟩
    have e1 : (r0_11.emb (ix2 a b) 1).val = 1024 + b.val := by show 1024 + 1 * b.val = _; omega
    have e0 : r0_11.emb (ix2 a b) 0 = a := Fin.ext (by show 0 + 1 * a.val = _; omega)
    show p2 (ix2 a b) = beside p0 p1 p2 (r0_11.emb (ix2 a b))
    unfold beside
    rw [dif_neg (by omega), dif_neg (by omega)]
    exact congrArg p2 (funext fun z => by match z with | 0 => exact e0.symm | 1 => exact Fin.ext (by show b.val = (r0_11.emb (ix2 a b) 1).val - 1024; omega))
  · obtain ⟨a, b, rfl⟩ : ∃ a b, j = ix2 a b := ⟨j 0, j 1, funext fun a => by match a with | 0 => rfl | 1 => rfl⟩
    have e1 : (r0_10.emb (ix2 a b) 1).val = 512 + b.val := by show 512 + 1 * b.val = _; omega
    have e0 : r0_10.emb (ix2 a b) 0 = a := Fin.ext (by show 0 + 1 * a.val = _; omega)
    have hb : b.val < 512 := b.isLt
    show p1 (ix2 a b) = beside p0 p1 p2 (r0_10.emb (ix2 a b))
    unfold beside
    rw [dif_neg (by omega), dif_pos (by omega)]
    exact congrArg p1 (funext fun z => by match z with | 0 => exact e0.symm | 1 => exact Fin.ext (by show b.val = (r0_10.emb (ix2 a b) 1).val - 512; omega))
  · obtain ⟨a, b, rfl⟩ : ∃ a b, j = ix2 a b := ⟨j 0, j 1, funext fun a => by match a with | 0 => rfl | 1 => rfl⟩
    have e1 : (r0_9.emb (ix2 a b) 1).val = b.val := by show 0 + 1 * b.val = _; omega
    have e0 : r0_9.emb (ix2 a b) 0 = a := Fin.ext (by show 0 + 1 * a.val = _; omega)
    have hb : b.val < 512 := b.isLt
    show p0 (ix2 a b) = beside p0 p1 p2 (r0_9.emb (ix2 a b))
    unfold beside
    rw [dif_pos (by omega)]
    exact congrArg p0 (funext fun z => by match z with | 0 => exact e0.symm | 1 => exact Fin.ext (by show b.val = (r0_9.emb (ix2 a b) 1).val; omega))

section
variable (x0 : Vec Ideal S512x1024 .f32) (x1 : Vec Ideal S1x1024 .f32) (x2 : Vec Ideal S1024x2048 .bf16) (x3 : Vec Ideal S1024x128 .bf16) (x4 : Vec Ideal S1024x1536 .bf16) (x5 : Vec Ideal S512x512 .bf16) (x6 x7 : Vec Ideal S1x512 .f32)

/-- The third output's block: queries, keys and values side by side. -/
theorem out10_eq : out0_10 (F := Ideal) x0 x1 x2 x3 x4 x5 x6 x7 = beside (k0_pay1 (F := Ideal) x5 (k0_pay9 x0 x1 x4) x6) (k0_pay2 (F := Ideal) (k0_pay7 x0 x1 x4) x5 x7) (k0_pay3 (F := Ideal) (k0_pay7 x0 x1 x4)) := by
  unfold out0_10
  rw [canon3]
  unfold k0_pay11 k0_pay12 k0_pay8 k0_pay10
  have e0 : View.ld x0 r0_0 = x0 := View.ld_unit_zero hz _ _
  have e1 : View.ld x1 r0_1 = x1 := View.ld_unit_zero hz _ _
  have e4 : View.ld x4 r0_6 = x4 := View.ld_unit_zero hz _ _
  have e5 : View.ld x5 r0_7 = x5 := View.ld_unit_zero hz _ _
  have e6 : View.ld x6 r0_8 = x6 := View.ld_unit_zero hz _ _
  have e7 : View.ld x7 r0_8 = x7 := View.ld_unit_zero hz _ _
  rw [e0, e1, e4, e5, e6, e7]
  simp only [shapeCast_self]

/-- The queries of the third output's block. -/
theorem out10_q (r k : Fin 512) : out0_10 (F := Ideal) x0 x1 x2 x3 x4 x5 x6 x7 (ix2 r ⟨k.val, by omega⟩)
    = headRow (fun j => along (unitRow (fun i => x0 (ix2 r i)) (fun i => x1 (ix2 0 i))) (fun i => x4 (ix2 i ⟨j.val, by omega⟩))) (fun j => x5 (ix2 j k)) k (x6 (ix2 0 k)) := by
  rw [out10_eq, beside_0]
  refine (pay1_apply x5 _ x6 r k).trans ?_
  unfold k0_pay9
  congr 1
  funext j
  refine Eq.trans ?_ (pay7_apply x0 x1 x4 r ⟨j.val, by omega⟩)
  pointwise
/-- The keys of the third output's block. -/
theorem out10_k (r k : Fin 512) : out0_10 (F := Ideal) x0 x1 x2 x3 x4 x5 x6 x7 (ix2 r ⟨512 + k.val, by omega⟩)
    = headRow (fun j => along (unitRow (fun i => x0 (ix2 r i)) (fun i => x1 (ix2 0 i))) (fun i => x4 (ix2 i ⟨512 + j.val, by omega⟩))) (fun j => x5 (ix2 j k)) k (x7 (ix2 0 k)) := by
  rw [out10_eq, beside_1]
  refine (pay2_apply _ x5 x7 r k).trans ?_
  congr 1
  funext j
  exact pay7_apply x0 x1 x4 r ⟨512 + j.val, by omega⟩
/-- The values of the third output's block. -/
theorem out10_v (r k : Fin 512) : out0_10 (F := Ideal) x0 x1 x2 x3 x4 x5 x6 x7 (ix2 r ⟨1024 + k.val, by omega⟩)
    = along (unitRow (fun i => x0 (ix2 r i)) (fun i => x1 (ix2 0 i))) (fun i => x4 (ix2 i ⟨1024 + k.val, by omega⟩)) := by
  rw [out10_eq, beside_2]
  exact (pay3_apply _ r k).trans (pay7_apply x0 x1 x4 r ⟨1024 + k.val, by omega⟩)
end

/-! ## The windows' blocks, and the arrays -/

theorem idx_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem idx_9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem idx_10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)

variable (m : (ℓ : Loc nD τ sig) → Buf (Elt Ideal) ℓ) (c : Dev nD)

/-- The row of the array that a block's row is. -/
def rowAt (t : Fin cfg0.N) (r : Fin 512) : Fin 1024 :=
  ⟨512 * t.val + r.val, by have : t.val < 2 := t.isLt; have := r.isLt; omega⟩

/-- The rows' block. -/
theorem in_0 (t : Fin cfg0.N) (r : Fin 512) (k : Fin 1024) : iblk m c 0 t (ix2 r k) = V m c main_v28 (ix2 (rowAt t r) k) := by
  show V m c main_v28 (((cfg0.win 0).blk t).view.emb (ix2 r k)) = _
  obtain ⟨e0, e1⟩ := idx_0 t
  refine congrArg (V m c main_v28) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega
/-- The gain's block is the gain. -/
theorem in_1 (t : Fin cfg0.N) : iblk m c 1 t = V m c main_v27 := by
  funext y
  show V m c main_v27 (((cfg0.win 1).blk t).view.emb y) = _
  obtain ⟨e0, e1⟩ := idx_1 t
  refine congrArg (V m c main_v27) (funext fun a => Fin.ext ?_)
  match a with
  | ⟨0, _⟩ => show win0_1.index t (0 : Fin 2) * 1 + 1 * (y 0).val = (y 0).val; omega
  | ⟨1, _⟩ => show win0_1.index t (1 : Fin 2) * 1024 + 1 * (y 1).val = (y 1).val; omega
/-- The first weights' block is the array. -/
theorem in_2 (t : Fin cfg0.N) : iblk m c 2 t = V m c main_v2 := by
  funext y
  show V m c main_v2 (((cfg0.win 2).blk t).view.emb y) = _
  obtain ⟨e0, e1⟩ := idx_2 t
  refine congrArg (V m c main_v2) (funext fun a => Fin.ext ?_)
  match a with
  | ⟨0, _⟩ => show win0_2.index t (0 : Fin 2) * 1024 + 1 * (y 0).val = (y 0).val; omega
  | ⟨1, _⟩ => show win0_2.index t (1 : Fin 2) * 2048 + 1 * (y 1).val = (y 1).val; omega
/-- The second weights' block is the array. -/
theorem in_3 (t : Fin cfg0.N) : iblk m c 3 t = V m c main_v5 := by
  funext y
  show V m c main_v5 (((cfg0.win 3).blk t).view.emb y) = _
  obtain ⟨e0, e1⟩ := idx_3 t
  refine congrArg (V m c main_v5) (funext fun a => Fin.ext ?_)
  match a with
  | ⟨0, _⟩ => show win0_3.index t (0 : Fin 2) * 1024 + 1 * (y 0).val = (y 0).val; omega
  | ⟨1, _⟩ => show win0_3.index t (1 : Fin 2) * 128 + 1 * (y 1).val = (y 1).val; omega
/-- The third weights' block is the array. -/
theorem in_4 (t : Fin cfg0.N) : iblk m c 4 t = V m c main_v7 := by
  funext y
  show V m c main_v7 (((cfg0.win 4).blk t).view.emb y) = _
  obtain ⟨e0, e1⟩ := idx_4 t
  refine congrArg (V m c main_v7) (funext fun a => Fin.ext ?_)
  match a with
  | ⟨0, _⟩ => show win0_4.index t (0 : Fin 2) * 1024 + 1 * (y 0).val = (y 0).val; omega
  | ⟨1, _⟩ => show win0_4.index t (1 : Fin 2) * 1536 + 1 * (y 1).val = (y 1).val; omega
/-- The heads' table's block is the table. -/
theorem in_5 (t : Fin cfg0.N) : iblk m c 5 t = V m c main_v15 := by
  funext y
  show V m c main_v15 (((cfg0.win 5).blk t).view.emb y) = _
  obtain ⟨e0, e1⟩ := idx_5 t
  refine congrArg (V m c main_v15) (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega
/-- The queries' gain's block is the gain. -/
theorem in_6 (t : Fin cfg0.N) : iblk m c 6 t = V m c main_v20 := by
  funext y
  show V m c main_v20 (((cfg0.win 6).blk t).view.emb y) = _
  obtain ⟨e0, e1⟩ := idx_6 t
  refine congrArg (V m c main_v20) (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega
/-- The keys' gain's block is the gain. -/
theorem in_7 (t : Fin cfg0.N) : iblk m c 7 t = V m c main_v25 := by
  funext y
  show V m c main_v25 (((cfg0.win 7).blk t).view.emb y) = _
  obtain ⟨e0, e1⟩ := idx_7 t
  refine congrArg (V m c main_v25) (funext fun a => Fin.ext ?_)
  match a with
  | ⟨0, _⟩ => show win0_7.index t (0 : Fin 2) * 1 + 1 * (y 0).val = (y 0).val; omega
  | ⟨1, _⟩ => show win0_7.index t (1 : Fin 2) * 512 + 1 * (y 1).val = (y 1).val; omega

/-- The first output array at an index: the block's value there. -/
theorem at_8 (t : Fin cfg0.N) (r : Fin 512) (k : Fin 2048) :
    (dats m 0 c).arrAt 8 cfg0.N (ix2 (rowAt t r) k) = out0_8 (F := Ideal) (iblk m c 0 t) (iblk m c 1 t) (iblk m c 2 t) (iblk m c 3 t) (iblk m c 4 t) (iblk m c 5 t) (iblk m c 6 t) (iblk m c 7 t) (ix2 r k) := by
  have h := congrFun ((Value.blocks8 m c t (flush0_8 t)).trans (Value.flushed8 m c t)) (ix2 r k)
  refine Eq.trans ?_ h
  show _ = (dats m 0 c).arrAt 8 cfg0.N (((cfg0.win 8).blk t).view.emb (ix2 r k))
  obtain ⟨e0, e1⟩ := idx_8 t
  refine congrArg ((dats m 0 c).arrAt 8 cfg0.N) (funext fun a => Fin.ext ?_)
  match a with
  | ⟨0, _⟩ => show 512 * t.val + r.val = win0_8.index t (0 : Fin 2) * 512 + 1 * r.val; omega
  | ⟨1, _⟩ => show k.val = win0_8.index t (1 : Fin 2) * 2048 + 1 * k.val; omega
/-- The second output array at an index: the block's value there. -/
theorem at_9 (t : Fin cfg0.N) (r : Fin 512) (k : Fin 128) :
    (dats m 0 c).arrAt 9 cfg0.N (ix2 (rowAt t r) k) = out0_9 (F := Ideal) (iblk m c 0 t) (iblk m c 1 t) (iblk m c 2 t) (iblk m c 3 t) (iblk m c 4 t) (iblk m c 5 t) (iblk m c 6 t) (iblk m c 7 t) (ix2 r k) := by
  have h := congrFun ((Value.blocks9 m c t (flush0_9 t)).trans (Value.flushed9 m c t)) (ix2 r k)
  refine Eq.trans ?_ h
  show _ = (dats m 0 c).arrAt 9 cfg0.N (((cfg0.win 9).blk t).view.emb (ix2 r k))
  obtain ⟨e0, e1⟩ := idx_9 t
  refine congrArg ((dats m 0 c).arrAt 9 cfg0.N) (funext fun a => Fin.ext ?_)
  match a with
  | ⟨0, _⟩ => show 512 * t.val + r.val = win0_9.index t (0 : Fin 2) * 512 + 1 * r.val; omega
  | ⟨1, _⟩ => show k.val = win0_9.index t (1 : Fin 2) * 128 + 1 * k.val; omega
/-- The third output array at an index: the block's value there. -/
theorem at_10 (t : Fin cfg0.N) (r : Fin 512) (k : Fin 1536) :
    (dats m 0 c).arrAt 10 cfg0.N (ix2 (rowAt t r) k) = out0_10 (F := Ideal) (iblk m c 0 t) (iblk m c 1 t) (iblk m c 2 t) (iblk m c 3 t) (iblk m c 4 t) (iblk m c 5 t) (iblk m c 6 t) (iblk m c 7 t) (ix2 r k) := by
  have h := congrFun ((Value.blocks10 m c t (flush0_10 t)).trans (Value.flushed10 m c t)) (ix2 r k)
  refine Eq.trans ?_ h
  show _ = (dats m 0 c).arrAt 10 cfg0.N (((cfg0.win 10).blk t).view.emb (ix2 r k))
  obtain ⟨e0, e1⟩ := idx_10 t
  refine congrArg ((dats m 0 c).arrAt 10 cfg0.N) (funext fun a => Fin.ext ?_)
  match a with
  | ⟨0, _⟩ => show 512 * t.val + r.val = win0_10.index t (0 : Fin 2) * 512 + 1 * r.val; omega
  | ⟨1, _⟩ => show k.val = win0_10.index t (1 : Fin 2) * 1536 + 1 * k.val; omega

end Cert.Kernel4Ideal.Proj

end
-- ==== Proof.SampHost.lean ====
/- The arrays the host packs for the input projection of the sample, entry by entry. -/
module

public import proofs.«01_k».proof.Proof.Gen.Kernel4Ideal.Frame
public import Idealize.ShloMosaic.Lib.Pointwise
public import proofs.«01_k».proof.Proof.ProjForm
public import Idealize.ShloMosaic.Lib.KernelVsHost

@[expose] public section

set_option maxRecDepth 16384

noncomputable section

namespace Cert.Kernel4Ideal.Proj

open Idealize.ShloMosaic Idealize.ShloMosaic.TcCoe Cert.Kernel4Ideal Cert.Kernel4Ideal.Gen Cert.Proj

variable (m : (ℓ : Loc nD τ sig) → Buf (Elt Ideal) ℓ) (c : Dev nD)

/-- The rows as launched. -/
def argX : S32x32x1024.Idx → EReal := m ((c : Thread nD τ).loc main_arg0)
/-- The rows' gain as launched. -/
def argG : S1x1024.Idx → EReal := m ((c : Thread nD τ).loc main_arg1)
/-- The weights as launched. -/
def argW : S1x1024x3592.Idx → EReal := m ((c : Thread nD τ).loc main_arg2)
/-- The queries' gain as launched. -/
def argQ : S1x64.Idx → EReal := m ((c : Thread nD τ).loc main_arg3)
/-- The keys' gain as launched. -/
def argK : S1x64.Idx → EReal := m ((c : Thread nD τ).loc main_arg4)

/-- The weights without their leading axis. -/
def flatW (w : FVec Ideal S1x1024x3592 .f32) : FVec Ideal S1024x3592 .f32 := shapeCast S1024x3592 w shapeCasts_S1x1024x3592_S1024x3592
/-- The weights without their leading axis, at an index. -/
theorem flatW_apply (w : FVec Ideal S1x1024x3592 .f32) (i : Fin 1024) (k : Fin 3592) : flatW w (ix2 i k) = w (ix3 0 i k) := by
  unfold flatW
  exact shapeCast_apply _ _ _ _ (by
    rw [Shape.rowMajor_val_three, Shape.rowMajor_val_two]
    show (0 * 1024 + i.val) * 3592 + k.val = i.val * 3592 + k.val; omega)
/-- A head's gain repeated for the eight heads. -/
def tiled (g : FVec Ideal S1x64 .f32) : FVec Ideal S1x512 .f32 :=
  broadcastInDim S1x512 ![1] bcast_S512_S1x512_1 (shapeCast S512 (broadcastInDim S8x64 ![0, 1] bcast_S1x64_S8x64_0_1
    (shapeCast S1x64 (shapeCast S64 g shapeCasts_S1x64_S64 : FVec Ideal S64 .f32) shapeCasts_S64_S1x64 : FVec Ideal S1x64 .f32) : FVec Ideal S8x64 .f32) shapeCasts_S8x64_S512 : FVec Ideal S512 .f32)
/-- A head's gain repeated, at an index. -/
theorem tiled_apply (g : FVec Ideal S1x64 .f32) (h : Fin 8) (d : Fin 64) : tiled g (ix2 0 ⟨64 * h.val + d.val, by omega⟩) = g (ix2 0 d) := by
  unfold tiled
  rw [broadcastInDim_apply _ bcast_S512_S1x512_1 _ _ (ix1 (⟨64 * h.val + d.val, by omega⟩ : Fin 512)) (fun a => match a with
    | ⟨0, _⟩ => by show 64 * h.val + d.val = if (512 : Nat) = 1 then 0 else 64 * h.val + d.val; rw [if_neg (by decide)])]
  rw [shapeCast_apply _ _ _ (ix2 h d) (by
    rw [Shape.rowMajor_val_two, Shape.rowMajor_val_one]
    show h.val * 64 + d.val = 64 * h.val + d.val; omega)]
  rw [broadcastInDim_apply _ bcast_S1x64_S8x64_0_1 _ _ (ix2 (0 : Fin 1) d) (fun a => match a with
    | ⟨0, _⟩ => by show 0 = if (1 : Nat) = 1 then 0 else h.val; rw [if_pos rfl]
    | ⟨1, _⟩ => by show d.val = if (64 : Nat) = 1 then 0 else d.val; rw [if_neg (by decide)])]
  rw [shapeCast_apply _ _ _ (ix1 d) (by
    rw [Shape.rowMajor_val_two, Shape.rowMajor_val_one]
    show d.val = 0 * 64 + d.val; omega)]
  exact shapeCast_apply _ _ _ _ (by
    rw [Shape.rowMajor_val_two, Shape.rowMajor_val_one]
    show 0 * 64 + d.val = d.val; omega)
/-- The quotient rounded down, as the host writes it. -/
def fdiv (x : IVec S512 32) (y : IVec S_ 32) : IVec S512 32 :=
  select (andi (cmpi .ne (signi x) (broadcastInDim S512 ![] bcast_S_S512 (signi y))) (cmpi .ne (Host.remsi x (broadcastInDim S512 ![] bcast_S_S512 y)) (broadcastInDim S512 ![] bcast_S_S512 (constantI S_ 32 0#32))))
    (subi (Host.divsi x (broadcastInDim S512 ![] bcast_S_S512 y)) (broadcastInDim S512 ![] bcast_S_S512 (constantI S_ 32 1#32))) (Host.divsi x (broadcastInDim S512 ![] bcast_S_S512 y))
/-- The table of equal heads. -/
def equalHeads : FVec Ideal S512x512 .bf16 :=
  uitofp .bf16 (cmpi .eq
    (broadcastInDim S512x512 ![0, 1] bcast_S512x1_S512x512_0_1 (broadcastInDim S512x1 ![0] bcast_S512_S512x1_0 (fdiv (iotaInDim S512 32 0) (constantI S_ 32 64#32))))
    (broadcastInDim S512x512 ![0, 1] bcast_S1x512_S512x512_0_1 (broadcastInDim S1x512 ![1] bcast_S512_S1x512_1 (fdiv (iotaInDim S512 32 0) (constantI S_ 32 64#32)))))
theorem fdiv_apply (j : Fin 512) : fdiv (iotaInDim S512 32 0) (constantI S_ 32 64#32) (ix1 j) = BitVec.ofNat 32 (j.val / 64) := by
  revert j
  decide +kernel
theorem equalHeads_apply (j k : Fin 512) : equalHeads (ix2 j k) = if j.val / 64 = k.val / 64 then 1 else 0 := by
  unfold equalHeads
  generalize hf : fdiv (iotaInDim S512 32 0) (constantI S_ 32 64#32) = f
  pointwise
  rw [← hf, fdiv_apply, fdiv_apply]
  by_cases h : j.val / 64 = k.val / 64
  · rw [h, if_pos rfl]
    show ((((BitVec.ofBool (BitVec.ofNat 32 (k.val / 64) == BitVec.ofNat 32 (k.val / 64))).toNat : ℝ)) : EReal) = 1
    rw [beq_self_eq_true]
    simp
  · have hne : BitVec.ofNat 32 (j.val / 64) ≠ BitVec.ofNat 32 (k.val / 64) := fun e => h (by
      have e' := congrArg BitVec.toNat e
      rw [BitVec.toNat_ofNat, BitVec.toNat_ofNat, Nat.mod_eq_of_lt (by omega), Nat.mod_eq_of_lt (by omega)] at e'
      exact e')
    rw [if_neg h]
    show ((((BitVec.ofBool (BitVec.ofNat 32 (j.val / 64) == BitVec.ofNat 32 (k.val / 64))).toNat : ℝ)) : EReal) = 0
    rw [beq_eq_false_iff_ne.mpr hne]
    simp

/-- The rows when the kernel starts. -/
theorem V_v28 : V m c main_v28 = shapeCast S1024x1024 (argX m c) shapeCasts_S32x32x1024_S1024x1024 := by
  show StableHlo.after (List.flatten [hostOps0, hostOps0_1, hostOps0_2, hostOps0_3, hostOps0_4]) (fun b => m (c, b)) (Proc.devRef .tc main_v28) = _
  simp only [hostOps0, hostOps0_1, hostOps0_2, hostOps0_3, hostOps0_4, List.flatten_cons, List.flatten_nil, List.append_nil, List.cons_append, List.nil_append]
  after_results_simp
  rfl
/-- The gain when the kernel starts. -/
theorem V_v27 : V m c main_v27 = broadcastInDim S1x1024 ![1] bcast_S1024_S1x1024_1 (shapeCast S1024 (argG m c) shapeCasts_S1x1024_S1024 : FVec Ideal S1024 .f32) := by
  show StableHlo.after (List.flatten [hostOps0, hostOps0_1, hostOps0_2, hostOps0_3, hostOps0_4]) (fun b => m (c, b)) (Proc.devRef .tc main_v27) = _
  simp only [hostOps0, hostOps0_1, hostOps0_2, hostOps0_3, hostOps0_4, List.flatten_cons, List.flatten_nil, List.append_nil, List.cons_append, List.nil_append]
  after_results_simp
  rfl
/-- The first weights when the kernel starts. -/
theorem V_v2 : V m c main_v2 = truncf .bf16 (extractStridedSlice S1024x2048 ![0, 0] (flatW (argW m c)) slices_S1024x3592_S1024x2048_0_0 : FVec Ideal S1024x2048 .f32) bitsLt_bf16_f32 := by
  show StableHlo.after (List.flatten [hostOps0, hostOps0_1, hostOps0_2, hostOps0_3, hostOps0_4]) (fun b => m (c, b)) (Proc.devRef .tc main_v2) = _
  simp only [hostOps0, hostOps0_1, hostOps0_2, hostOps0_3, hostOps0_4, List.flatten_cons, List.flatten_nil, List.append_nil, List.cons_append, List.nil_append]
  after_results_simp
  rfl
/-- The second weights when the kernel starts. -/
theorem V_v5 : V m c main_v5 = truncf .bf16 (pad S1024x128 ![0, 0] ![0, 120] ![0, 0] (extractStridedSlice S1024x8 ![0, 2048] (flatW (argW m c)) slices_S1024x3592_S1024x8_0_2048 : FVec Ideal S1024x8 .f32) (sitofp .f32 (constantI S_ 32 0#32)) pads_S1024x8_S1024x128_000_01200 h_S_ : FVec Ideal S1024x128 .f32) bitsLt_bf16_f32 := by
  show StableHlo.after (List.flatten [hostOps0, hostOps0_1, hostOps0_2, hostOps0_3, hostOps0_4]) (fun b => m (c, b)) (Proc.devRef .tc main_v5) = _
  simp only [hostOps0, hostOps0_1, hostOps0_2, hostOps0_3, hostOps0_4, List.flatten_cons, List.flatten_nil, List.append_nil, List.cons_append, List.nil_append]
  after_results_simp
  rfl
/-- The third weights when the kernel starts. -/
theorem V_v7 : V m c main_v7 = truncf .bf16 (extractStridedSlice S1024x1536 ![0, 2056] (flatW (argW m c)) slices_S1024x3592_S1024x1536_0_2056 : FVec Ideal S1024x1536 .f32) bitsLt_bf16_f32 := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append, List.nil_append]
  after_results_simp
  rfl
/-- The table when the kernel starts. -/
theorem V_v15 : V m c main_v15 = equalHeads := by
  show StableHlo.after (List.flatten [hostOps0, hostOps0_1, hostOps0_2, hostOps0_3, hostOps0_4]) (fun b => m (c, b)) (Proc.devRef .tc main_v15) = _
  simp only [hostOps0, hostOps0_1, hostOps0_2, hostOps0_3, hostOps0_4, List.flatten_cons, List.flatten_nil, List.append_nil, List.cons_append, List.nil_append]
  after_results_simp
  rfl
/-- The queries' gain when the kernel starts. -/
theorem V_v20 : V m c main_v20 = tiled (argQ m c) := by
  show StableHlo.after (List.flatten [hostOps0, hostOps0_1, hostOps0_2, hostOps0_3, hostOps0_4]) (fun b => m (c, b)) (Proc.devRef .tc main_v20) = _
  simp only [hostOps0, hostOps0_1, hostOps0_2, hostOps0_3, hostOps0_4, List.flatten_cons, List.flatten_nil, List.append_nil, List.cons_append, List.nil_append]
  after_results_simp
  rfl
/-- The keys' gain when the kernel starts. -/
theorem V_v25 : V m c main_v25 = tiled (argK m c) := by
  show StableHlo.after (List.flatten [hostOps0, hostOps0_1, hostOps0_2, hostOps0_3, hostOps0_4]) (fun b => m (c, b)) (Proc.devRef .tc main_v25) = _
  simp only [hostOps0, hostOps0_1, hostOps0_2, hostOps0_3, hostOps0_4, List.flatten_cons, List.flatten_nil, List.append_nil, List.cons_append, List.nil_append]
  after_results_simp
  rfl

/-! ## The same, entry by entry -/

/-- The rows, at an index. -/
theorem x_apply (b : Fin 32) (s : Fin 32) (j : Fin 1024) : V m c main_v28 (ix2 (sampleRow b s) j) = argX m c (ix3 b s j) := by
  rw [V_v28]
  exact shapeCast_apply _ _ _ _ (by
    rw [Shape.rowMajor_val_three, Shape.rowMajor_val_two]
    show (b.val * 32 + s.val) * 1024 + j.val = (32 * b.val + s.val) * 1024 + j.val; omega)
/-- The gain, at an index. -/
theorem g_apply (j : Fin 1024) : V m c main_v27 (ix2 0 j) = argG m c (ix2 0 j) := by
  rw [V_v27]
  rw [broadcastInDim_apply _ bcast_S1024_S1x1024_1 _ _ (ix1 j) (fun a => match a with
    | ⟨0, _⟩ => by show j.val = if (1024 : Nat) = 1 then 0 else j.val; rw [if_neg (by decide)])]
  exact shapeCast_apply _ _ _ _ (by
    rw [Shape.rowMajor_val_two, Shape.rowMajor_val_one]
    show 0 * 1024 + j.val = j.val; omega)
/-- The first weights, at an index. -/
theorem wa_apply (i : Fin 1024) (k : Fin 2048) : V m c main_v2 (ix2 i k) = argW m c (ix3 0 i ⟨k.val, by omega⟩) := by
  rw [V_v2]
  refine Eq.trans ?_ (flatW_apply _ i ⟨k.val, by omega⟩)
  generalize flatW (argW m c) = w
  pointwise
/-- The third weights, at an index. -/
theorem wb_apply (i : Fin 1024) (k : Fin 1536) : V m c main_v7 (ix2 i k) = argW m c (ix3 0 i ⟨2056 + k.val, by omega⟩) := by
  rw [V_v7]
  refine Eq.trans ?_ (flatW_apply _ i ⟨2056 + k.val, by omega⟩)
  generalize flatW (argW m c) = w
  pointwise
/-- The second weights, at an index that is not padding. -/
theorem wba_apply (i : Fin 1024) (k : Fin 128) (hk : k.val < 8) : V m c main_v5 (ix2 i k) = argW m c (ix3 0 i ⟨2048 + k.val, by omega⟩) := by
  rw [V_v5]
  refine Eq.trans ?_ (flatW_apply _ i ⟨2048 + k.val, by omega⟩)
  generalize flatW (argW m c) = w
  refine (pad_apply_of_inside _ _ _ _ _ pads_S1024x8_S1024x128_000_01200 h_S_ (ix2 i k) (ix2 i (⟨k.val, hk⟩ : Fin 8)) (fun a => match a with
    | ⟨0, _⟩ => by show i.val = 0 + i.val * (0 + 1); omega
    | ⟨1, _⟩ => by show k.val = 0 + k.val * (0 + 1); omega)).trans ?_
  pointwise
/-- The second weights, at padding. -/
theorem wba_zero (i : Fin 1024) (k : Fin 128) (hk : ¬ k.val < 8) : V m c main_v5 (ix2 i k) = (0 : EReal) := by
  rw [V_v5]
  generalize flatW (argW m c) = w
  refine (pad_apply_of_not_inside _ _ _ _ _ pads_S1024x8_S1024x128_000_01200 h_S_ (ix2 i k) (1 : Fin 2) (by
    show ¬(0 ≤ k.val ∧ (k.val - 0) % (0 + 1) = 0 ∧ (k.val - 0) / (0 + 1) < 8); omega)).trans ?_
  show ((((0#32 : BitVec 32).toInt : ℤ) : ℝ) : EReal) = 0
  simp
/-- The queries' gain, at an index. -/
theorem gq_apply (h : Fin 8) (d : Fin 64) : V m c main_v20 (ix2 0 ⟨64 * h.val + d.val, by omega⟩) = argQ m c (ix2 0 d) := by
  rw [V_v20]; exact tiled_apply _ h d
/-- The keys' gain, at an index. -/
theorem gk_apply (h : Fin 8) (d : Fin 64) : V m c main_v25 (ix2 0 ⟨64 * h.val + d.val, by omega⟩) = argK m c (ix2 0 d) := by
  rw [V_v25]; exact tiled_apply _ h d

end Cert.Kernel4Ideal.Proj

end
-- ==== Proof.SampRef.lean ====
/- The reference projection of the sample, entry by entry. -/
module

public import proofs.«01_k».proof.Proof.Gen.Reference4Ideal.Read
public import proofs.«01_k».proof.Proof.ProjForm

@[expose] public section

set_option maxRecDepth 16384

noncomputable section

namespace Cert.Reference4Ideal.Proj

open Idealize.ShloMosaic Idealize.ShloMosaic.TcCoe Cert.Reference4Ideal Cert.Reference4Ideal.Gen Cert.Reference4Ideal.Read Cert.Proj

variable (x0 : S32x32x1024.Idx → EReal) (x1 : S1x1024.Idx → EReal) (x2 : S1x1024x3592.Idx → EReal) (x3 x4 : S1x64.Idx → EReal)

/-- The normed row of the reference. -/
def hrow (b : Fin 32) (s : Fin 32) : Fin 1024 → EReal := unitRow (fun i => x0 (ix3 b s i)) (fun i => x1 (ix2 0 i))
/-- The projected row of the reference. -/
def yrow (b : Fin 32) (s : Fin 32) (k : Fin 3592) : EReal := along (hrow x0 x1 b s) (fun i => x2 (ix3 0 i k))

/-- The sum of a row's squares. -/
theorem v2_at (b : Fin 32) (s : Fin 32) : val_main_v2 (F := Ideal) x0 (ix2 b s) = ∑ i, x0 (ix3 b s i) * x0 (ix3 b s i) := by
  rw [val_main_v2_apply]
  have e : val_main_cst (F := Ideal) (Shape.Idx.first h_S_) = 0 := Ideal.ofBits_zero_f32
  rw [e, zero_add]
  refine Finset.sum_congr rfl fun i _ => ?_
  have e : idx_main_v2 (ix2 b s) i = ix3 b s i := funext fun a => match a with | 0 => rfl | 1 => rfl | 2 => rfl
  rw [e]; rfl
/-- The normed rows. -/
theorem v13_at (b : Fin 32) (s : Fin 32) (j : Fin 1024) : val_main_v13 (F := Ideal) x0 x1 (ix3 b s j) = hrow x0 x1 b s j := by
  have e9 : val_main_v9 (F := Ideal) x0 (ix3 b s j) = Ideal.rsqrt (Ideal.div (∑ i, x0 (ix3 b s i) * x0 (ix3 b s i)) (Ideal.ofBits .f32 1149239296#32) + Ideal.ofBits .f32 897988541#32) := by
    rw [val_main_v9_apply, val_main_v8_apply, val_main_v7_apply, val_main_v5_apply, val_main_v3_apply, val_main_v4_apply, val_main_v6_apply]
    have e : idx_main_v3 (idx_main_v9 (ix3 b s j)) = ix2 b s := funext fun a => match a with | 0 => rfl | 1 => rfl
    rw [e, v2_at]; rfl
  have e12 : val_main_v12 (F := Ideal) x1 (ix3 b s j) = x1 (ix2 0 j) := by
    rw [val_main_v12_apply, val_main_v11_apply, val_main_v0_apply]
    refine congrArg x1 (funext fun a => Fin.ext ?_)
    match a with
    | 0 => rfl
    | 1 => show j.val % 1024 = j.val; omega
  rw [val_main_v13_apply, val_main_v10_apply, e9, e12]; rfl
/-- The projected rows. -/
theorem v15_at (b : Fin 32) (s : Fin 32) (k : Fin 3592) : val_main_v15 (F := Ideal) x0 x1 x2 (ix3 b s k) = yrow x0 x1 x2 b s k := by
  rw [val_main_v15_apply]
  show _ = ∑ i : Fin 1024, hrow x0 x1 b s i * x2 (ix3 0 i k)
  refine Finset.sum_congr rfl fun i _ => ?_
  have e : lidx_main_v15 (ix3 b s k) i = ix3 b s i := funext fun a => match a with | 0 => rfl | 1 => rfl | 2 => rfl
  rw [e, v13_at, val_main_v14_apply]
  refine congrArg (fun z => _ * x2 z) (funext fun a => Fin.ext ?_)
  match a with
  | 0 => rfl
  | 1 => show (i.val * 3592 + k.val) / 3592 % 1024 = i.val; omega
  | 2 => show (i.val * 3592 + k.val) % 3592 = k.val; omega
/-- The queries by heads. -/
theorem v23_at (b : Fin 32) (s : Fin 32) (h : Fin 8) (d : Fin 64) :
    val_main_v23 (F := Ideal) x0 x1 x2 (ix4 b s h d) = yrow x0 x1 x2 b s ⟨2056 + (64 * h.val + d.val), by omega⟩ := by
  unfold val_main_v23
  rw [shapeCast_apply _ _ _ (ix3 b s ⟨64 * h.val + d.val, by omega⟩) (by
    rw [Shape.rowMajor_val_three, Shape.rowMajor_val_four]
    show (b.val * 32 + s.val) * 512 + (64 * h.val + d.val) = ((b.val * 32 + s.val) * 8 + h.val) * 64 + d.val; omega)]
  rw [val_main_v20_apply, ← v15_at]
  exact congrArg (val_main_v15 (F := Ideal) x0 x1 x2) (funext fun a => Fin.ext (match a with | 0 => rfl | 1 => rfl | 2 => rfl))
/-- The keys by heads. -/
theorem v38_at (b : Fin 32) (s : Fin 32) (h : Fin 8) (d : Fin 64) :
    val_main_v38 (F := Ideal) x0 x1 x2 (ix4 b s h d) = yrow x0 x1 x2 b s ⟨2568 + (64 * h.val + d.val), by omega⟩ := by
  unfold val_main_v38
  rw [shapeCast_apply _ _ _ (ix3 b s ⟨64 * h.val + d.val, by omega⟩) (by
    rw [Shape.rowMajor_val_three, Shape.rowMajor_val_four]
    show (b.val * 32 + s.val) * 512 + (64 * h.val + d.val) = ((b.val * 32 + s.val) * 8 + h.val) * 64 + d.val; omega)]
  rw [val_main_v21_apply, ← v15_at]
  exact congrArg (val_main_v15 (F := Ideal) x0 x1 x2) (funext fun a => Fin.ext (match a with | 0 => rfl | 1 => rfl | 2 => rfl))
/-- The normed queries. -/
theorem v37_at (b : Fin 32) (s : Fin 32) (h : Fin 8) (d : Fin 64) :
    val_main_v37 (F := Ideal) x0 x1 x2 x3 (ix4 b s h d)
      = headMean (fun i => yrow x0 x1 x2 b s ⟨2056 + (64 * h.val + i.val), by omega⟩) d (x3 (ix2 0 d)) := by
  have e33 : val_main_v33 (F := Ideal) x0 x1 x2 (ix4 b s h d) = Ideal.rsqrt (Ideal.div (∑ i : Fin 64, yrow x0 x1 x2 b s ⟨2056 + (64 * h.val + i.val), by omega⟩ * yrow x0 x1 x2 b s ⟨2056 + (64 * h.val + i.val), by omega⟩) (Ideal.ofBits .f32 1115684864#32) + Ideal.ofBits .f32 897988541#32) := by
    rw [val_main_v33_apply, val_main_v32_apply, val_main_v31_apply, val_main_v29_apply, val_main_v27_apply, val_main_v28_apply, val_main_v30_apply, val_main_v26_apply]
    have e : val_main_cst_2 (F := Ideal) (Shape.Idx.first h_S_) = 0 := Ideal.ofBits_zero_f32
    rw [e, zero_add]
    have es : ∀ i : Fin 64, val_main_v25 (F := Ideal) x0 x1 x2 (idx_main_v26 (idx_main_v27 (idx_main_v33 (ix4 b s h d))) i)
        = yrow x0 x1 x2 b s ⟨2056 + (64 * h.val + i.val), by omega⟩ * yrow x0 x1 x2 b s ⟨2056 + (64 * h.val + i.val), by omega⟩ := fun i => by
      have e : idx_main_v26 (idx_main_v27 (idx_main_v33 (ix4 b s h d))) i = ix4 b s h i := funext fun a => match a with | 0 => rfl | 1 => rfl | 2 => rfl | 3 => rfl
      rw [e, val_main_v25_apply, v23_at]; rfl
    simp only [es]; rfl
  have e36 : val_main_v36 (F := Ideal) x3 (ix4 b s h d) = x3 (ix2 0 d) := by
    rw [val_main_v36_apply, val_main_v35_apply, val_main_v24_apply]
    refine congrArg x3 (funext fun a => Fin.ext ?_)
    match a with
    | 0 => rfl
    | 1 => show d.val % 64 = d.val; omega
  rw [val_main_v37_apply, val_main_v34_apply, e33, e36, v23_at]; rfl
/-- The normed keys. -/
theorem v52_at (b : Fin 32) (s : Fin 32) (h : Fin 8) (d : Fin 64) :
    val_main_v52 (F := Ideal) x0 x1 x2 x4 (ix4 b s h d)
      = headMean (fun i => yrow x0 x1 x2 b s ⟨2568 + (64 * h.val + i.val), by omega⟩) d (x4 (ix2 0 d)) := by
  have e48 : val_main_v48 (F := Ideal) x0 x1 x2 (ix4 b s h d) = Ideal.rsqrt (Ideal.div (∑ i : Fin 64, yrow x0 x1 x2 b s ⟨2568 + (64 * h.val + i.val), by omega⟩ * yrow x0 x1 x2 b s ⟨2568 + (64 * h.val + i.val), by omega⟩) (Ideal.ofBits .f32 1115684864#32) + Ideal.ofBits .f32 897988541#32) := by
    rw [val_main_v48_apply, val_main_v47_apply, val_main_v46_apply, val_main_v44_apply, val_main_v42_apply, val_main_v43_apply, val_main_v45_apply, val_main_v41_apply]
    have e : val_main_cst_5 (F := Ideal) (Shape.Idx.first h_S_) = 0 := Ideal.ofBits_zero_f32
    rw [e, zero_add]
    have es : ∀ i : Fin 64, val_main_v40 (F := Ideal) x0 x1 x2 (idx_main_v41 (idx_main_v42 (idx_main_v48 (ix4 b s h d))) i)
        = yrow x0 x1 x2 b s ⟨2568 + (64 * h.val + i.val), by omega⟩ * yrow x0 x1 x2 b s ⟨2568 + (64 * h.val + i.val), by omega⟩ := fun i => by
      have e : idx_main_v41 (idx_main_v42 (idx_main_v48 (ix4 b s h d))) i = ix4 b s h i := funext fun a => match a with | 0 => rfl | 1 => rfl | 2 => rfl | 3 => rfl
      rw [e, val_main_v40_apply, v38_at]; rfl
    simp only [es]; rfl
  have e51 : val_main_v51 (F := Ideal) x4 (ix4 b s h d) = x4 (ix2 0 d) := by
    rw [val_main_v51_apply, val_main_v50_apply, val_main_v39_apply]
    refine congrArg x4 (funext fun a => Fin.ext ?_)
    match a with
    | 0 => rfl
    | 1 => show d.val % 64 = d.val; omega
  rw [val_main_v52_apply, val_main_v49_apply, e48, e51, v38_at]; rfl

/-- A three-axis array's rows laid out flat. -/
theorem rows_apply {n : ℕ} {α : Type} (y : (⟨3, ![32, 32, n]⟩ : Shape).Idx → α) (hc : (⟨3, ![32, 32, n]⟩ : Shape).ShapeCasts ⟨2, ![1024, n]⟩)
    (b : Fin 32) (s : Fin 32) (k : Fin n) : shapeCast ⟨2, ![1024, n]⟩ y hc (ix2 (sampleRow b s) k) = y (ix3 b s k) :=
  shapeCast_apply _ _ _ _ (by
    rw [Shape.rowMajor_val_three, Shape.rowMajor_val_two]
    show (b.val * 32 + s.val) * n + k.val = (32 * b.val + s.val) * n + k.val
    rw [Nat.mul_comm 32])
/-- A four-axis array's rows laid out flat. -/
theorem heads_apply (y : S32x32x8x64.Idx → EReal) (b : Fin 32) (s : Fin 32) (h : Fin 8) (d : Fin 64) :
    shapeCast S1024x512 y shapeCasts_S32x32x8x64_S1024x512 (ix2 (sampleRow b s) (laneAt h d)) = y (ix4 b s h d) :=
  shapeCast_apply _ _ _ _ (by
    rw [Shape.rowMajor_val_four, Shape.rowMajor_val_two]
    show ((b.val * 32 + s.val) * 8 + h.val) * 64 + d.val = (32 * b.val + s.val) * 512 + (64 * h.val + d.val); omega)

/-- Two operands side by side. -/
theorem cat2 (y0 : FVec Ideal S1024x1536 .f32) (y1 : FVec Ideal S1024x512 .f32) (r : Fin 1024) (k : Fin 2048) :
    concatenate S1024x2048 1 [⟨S1024x1536, y0⟩, ⟨S1024x512, y1⟩] concatenates_S1024x1536_S1024x512_S1024x2048_d1 (ix2 r k)
      = if h : k.val < 1536 then y0 (ix2 r ⟨k.val, h⟩) else y1 (ix2 r ⟨k.val - 1536, by omega⟩) := by
  pointwise
/-- Three operands side by side. -/
theorem cat3 (y0 y1 : FVec Ideal S1024x4 .f32) (y2 : FVec Ideal S1024x120 .f32) (r : Fin 1024) (k : Fin 128) :
    concatenate S1024x128 1 [⟨S1024x4, y0⟩, ⟨S1024x4, y1⟩, ⟨S1024x120, y2⟩] concatenates_S1024x4_S1024x4_S1024x120_S1024x128_d1 (ix2 r k)
      = if h : k.val < 4 then y0 (ix2 r ⟨k.val, h⟩) else if h' : k.val < 8 then y1 (ix2 r ⟨k.val - 4, by omega⟩) else y2 (ix2 r ⟨k.val - 8, by omega⟩) := by
  pointwise
  refine dite_congr rfl (fun _ => rfl) fun h => dite_congr (propext (by omega)) (fun _ => rfl) fun h' => ?_
  exact congrArg (fun z => y2 (ix2 r z)) (Fin.ext (by show k.val - 4 - 4 = k.val - 8; omega))
/-- Three operands of a head's width side by side. -/
theorem cat3' (y0 y1 y2 : FVec Ideal S1024x512 .f32) (r : Fin 1024) (k : Fin 1536) :
    concatenate S1024x1536 1 [⟨S1024x512, y0⟩, ⟨S1024x512, y1⟩, ⟨S1024x512, y2⟩] concatenates_S1024x512_S1024x512_S1024x512_S1024x1536_d1 (ix2 r k)
      = if h : k.val < 512 then y0 (ix2 r ⟨k.val, h⟩) else if h' : k.val < 1024 then y1 (ix2 r ⟨k.val - 512, by omega⟩) else y2 (ix2 r ⟨k.val - 1024, by omega⟩) := by
  pointwise
  refine dite_congr rfl (fun _ => rfl) fun h => dite_congr (propext (by omega)) (fun _ => rfl) fun h' => ?_
  exact congrArg (fun z => y2 (ix2 r z)) (Fin.ext (by show k.val - 512 - 512 = k.val - 1024; omega))

/-- The first result: the first 2048 projected columns. -/
theorem v56_at (b : Fin 32) (s : Fin 32) (k : Fin 2048) :
    val_main_v56 (F := Ideal) x0 x1 x2 (ix2 (sampleRow b s) k) = yrow x0 x1 x2 b s ⟨k.val, by omega⟩ := by
  unfold val_main_v56 val_main_v54 val_main_v55
  rw [cat2]
  split
  · next hk =>
    refine (rows_apply (val_main_v16 (F := Ideal) x0 x1 x2) shapeCasts_S32x32x1536_S1024x1536 b s ⟨k.val, hk⟩).trans ?_
    rw [val_main_v16_apply, ← v15_at]
    exact congrArg (val_main_v15 (F := Ideal) x0 x1 x2) (funext fun a => Fin.ext (match a with | 0 => rfl | 1 => rfl | 2 => rfl))
  · next hk =>
    refine (rows_apply (val_main_v17 (F := Ideal) x0 x1 x2) shapeCasts_S32x32x512_S1024x512 b s ⟨k.val - 1536, by omega⟩).trans ?_
    rw [val_main_v17_apply, ← v15_at]
    refine congrArg (val_main_v15 (F := Ideal) x0 x1 x2) (funext fun a => Fin.ext (match a with | 0 => rfl | 1 => rfl | 2 => ?_))
    show 1536 + (k.val - 1536) = k.val; omega
/-- The second result: the next eight projected columns, then zeros. -/
theorem v60_at (b : Fin 32) (s : Fin 32) (k : Fin 128) :
    val_main_v60 (F := Ideal) x0 x1 x2 (ix2 (sampleRow b s) k) = if h : k.val < 8 then yrow x0 x1 x2 b s ⟨2048 + k.val, by omega⟩ else 0 := by
  unfold val_main_v60 val_main_v57 val_main_v58 val_main_v59
  rw [cat3]
  split
  · next hk =>
    rw [dif_pos (by omega)]
    refine (rows_apply (val_main_v18 (F := Ideal) x0 x1 x2) shapeCasts_S32x32x4_S1024x4 b s ⟨k.val, hk⟩).trans ?_
    rw [val_main_v18_apply, ← v15_at]
    exact congrArg (val_main_v15 (F := Ideal) x0 x1 x2) (funext fun a => Fin.ext (match a with | 0 => rfl | 1 => rfl | 2 => rfl))
  · next hk =>
    split
    · next hk' =>
      refine (rows_apply (val_main_v19 (F := Ideal) x0 x1 x2) shapeCasts_S32x32x4_S1024x4 b s ⟨k.val - 4, by omega⟩).trans ?_
      rw [val_main_v19_apply, ← v15_at]
      refine congrArg (val_main_v15 (F := Ideal) x0 x1 x2) (funext fun a => Fin.ext (match a with | 0 => rfl | 1 => rfl | 2 => ?_))
      show 2052 + (k.val - 4) = 2048 + k.val; omega
    · next hk' =>
      refine (rows_apply (val_main_v53 (F := Ideal)) shapeCasts_S32x32x120_S1024x120 b s ⟨k.val - 8, by omega⟩).trans ?_
      rw [val_main_v53_apply]
      exact Ideal.ofBits_zero_f32
/-- The third result's queries. -/
theorem v64_q (b : Fin 32) (s : Fin 32) (h : Fin 8) (d : Fin 64) :
    val_main_v64 (F := Ideal) x0 x1 x2 x3 x4 (ix2 (sampleRow b s) ⟨(laneAt h d).val, by have := (laneAt h d).isLt; omega⟩)
      = headMean (fun i => yrow x0 x1 x2 b s ⟨2056 + (64 * h.val + i.val), by omega⟩) d (x3 (ix2 0 d)) := by
  unfold val_main_v64 val_main_v61
  rw [cat3', dif_pos (show (laneAt h d).val < 512 from (laneAt h d).isLt)]
  exact (heads_apply _ b s h d).trans (v37_at x0 x1 x2 x3 b s h d)
/-- The third result's keys. -/
theorem v64_k (b : Fin 32) (s : Fin 32) (h : Fin 8) (d : Fin 64) :
    val_main_v64 (F := Ideal) x0 x1 x2 x3 x4 (ix2 (sampleRow b s) ⟨512 + (laneAt h d).val, by have := (laneAt h d).isLt; omega⟩)
      = headMean (fun i => yrow x0 x1 x2 b s ⟨2568 + (64 * h.val + i.val), by omega⟩) d (x4 (ix2 0 d)) := by
  have hl := (laneAt h d).isLt
  unfold val_main_v64 val_main_v62
  rw [cat3', dif_neg (show ¬ 512 + (laneAt h d).val < 512 by omega), dif_pos (show 512 + (laneAt h d).val < 1024 by omega)]
  have e : (⟨512 + (laneAt h d).val - 512, by omega⟩ : Fin 512) = laneAt h d := Fin.ext (by show 512 + (laneAt h d).val - 512 = (laneAt h d).val; omega)
  refine (congrArg (fun z => shapeCast S1024x512 (val_main_v52 (F := Ideal) x0 x1 x2 x4) shapeCasts_S32x32x8x64_S1024x512 (ix2 (sampleRow b s) z)) e).trans ?_
  exact (heads_apply _ b s h d).trans (v52_at x0 x1 x2 x4 b s h d)
/-- The third result's values. -/
theorem v64_v (b : Fin 32) (s : Fin 32) (l : Fin 512) :
    val_main_v64 (F := Ideal) x0 x1 x2 x3 x4 (ix2 (sampleRow b s) ⟨1024 + l.val, by omega⟩)
      = yrow x0 x1 x2 b s ⟨3080 + l.val, by omega⟩ := by
  unfold val_main_v64 val_main_v63
  rw [cat3', dif_neg (show ¬ 1024 + l.val < 512 by omega), dif_neg (show ¬ 1024 + l.val < 1024 by omega)]
  refine (rows_apply (val_main_v22 (F := Ideal) x0 x1 x2) shapeCasts_S32x32x512_S1024x512 b s ⟨1024 + l.val - 1024, by omega⟩).trans ?_
  rw [val_main_v22_apply, ← v15_at]
  refine congrArg (val_main_v15 (F := Ideal) x0 x1 x2) (funext fun a => Fin.ext (match a with | 0 => rfl | 1 => rfl | 2 => ?_))
  show 3080 + (1024 + l.val - 1024) = 3080 + l.val; omega

end Cert.Reference4Ideal.Proj

end
-- ==== Proof.SampValue.lean ====
/- The kernel's projected arrays of the sample are the reference's. -/
module

public import proofs.«01_k».proof.Proof.SampBlock
public import proofs.«01_k».proof.Proof.SampHost
public import proofs.«01_k».proof.Proof.SampRef

@[expose] public section

set_option maxRecDepth 16384

noncomputable section

namespace Cert.Kernel4Ideal.Proj

open Idealize.ShloMosaic Idealize.ShloMosaic.TcCoe Cert.Kernel4Ideal Cert.Kernel4Ideal.Gen Cert.Proj
open Cert.Reference4Ideal.Proj (hrow yrow v56_at v60_at v64_q v64_k v64_v)

variable (m : (ℓ : Loc nD τ sig) → Buf (Elt Ideal) ℓ) (c : Dev nD)

/-- Every row lies in a block. -/
theorem in_block (b : Fin 32) (s : Fin 32) : ∃ (t : Fin cfg0.N) (r : Fin 512), rowAt t r = sampleRow b s :=
  ⟨⟨(32 * b.val + s.val) / 512, by show (32 * b.val + s.val) / 512 < 2; omega⟩, ⟨(32 * b.val + s.val) % 512, by omega⟩,
    Fin.ext (by show 512 * ((32 * b.val + s.val) / 512) + (32 * b.val + s.val) % 512 = 32 * b.val + s.val; omega)⟩

/-- The normed row of a block is the normed row of the arguments. -/
theorem hrow_eq (b : Fin 32) (s : Fin 32) (t : Fin cfg0.N) (r : Fin 512) (h : rowAt t r = sampleRow b s) :
    unitRow (fun j => iblk m c 0 t (ix2 r j)) (fun j => iblk m c 1 t (ix2 0 j)) = hrow (argX m c) (argG m c) b s := by
  have e0 : (fun j => iblk m c 0 t (ix2 r j)) = fun j => argX m c (ix3 b s j) := funext fun j => by rw [in_0, h, x_apply]
  have e1 : (fun j => iblk m c 1 t (ix2 0 j)) = fun j => argG m c (ix2 0 j) := funext fun j => by rw [in_1, g_apply]
  unfold hrow
  rw [← e0, ← e1]

/-- The first array, at an index. -/
theorem arr8_at (b : Fin 32) (s : Fin 32) (k : Fin 2048) :
    (dats m 0 c).arrAt 8 cfg0.N (ix2 (sampleRow b s) k) = yrow (argX m c) (argG m c) (argW m c) b s ⟨k.val, by omega⟩ := by
  obtain ⟨t, r, h⟩ := in_block b s
  rw [← h, at_8, out8_apply, hrow_eq m c b s t r h]
  refine congrArg (along _) (funext fun i => ?_)
  rw [in_2, wa_apply]
/-- The second array, at an index. -/
theorem arr9_at (b : Fin 32) (s : Fin 32) (k : Fin 128) :
    (dats m 0 c).arrAt 9 cfg0.N (ix2 (sampleRow b s) k) = if h : k.val < 8 then yrow (argX m c) (argG m c) (argW m c) b s ⟨2048 + k.val, by omega⟩ else 0 := by
  obtain ⟨t, r, h⟩ := in_block b s
  rw [← h, at_9, out9_apply, hrow_eq m c b s t r h]
  split
  · next hk =>
    refine congrArg (along _) (funext fun i => ?_)
    rw [in_3, wba_apply m c i k hk]
  · next hk =>
    refine along_zero _ _ fun i => ?_
    rw [in_3, wba_zero m c i k hk]
/-- The projected columns of a block are those of the arguments. -/
theorem yrow_eq (b : Fin 32) (s : Fin 32) (t : Fin cfg0.N) (o : ℕ) (ho : o + 512 ≤ 1536) (j : Fin 512) :
    along (hrow (argX m c) (argG m c) b s) (fun i => iblk m c 4 t (ix2 i ⟨o + j.val, by omega⟩)) = yrow (argX m c) (argG m c) (argW m c) b s ⟨2056 + (o + j.val), by omega⟩ :=
  congrArg (along _) (funext fun i => by rw [in_4, wb_apply])
/-- The third array's queries. -/
theorem arr10_q (b : Fin 32) (s : Fin 32) (h : Fin 8) (d : Fin 64) :
    (dats m 0 c).arrAt 10 cfg0.N (ix2 (sampleRow b s) ⟨(laneAt h d).val, by have := (laneAt h d).isLt; omega⟩)
      = headMean (fun i => yrow (argX m c) (argG m c) (argW m c) b s ⟨2056 + (64 * h.val + i.val), by omega⟩) d (argQ m c (ix2 0 d)) := by
  obtain ⟨t, r, hr⟩ := in_block b s
  rw [← hr, at_10, out10_q, hrow_eq m c b s t r hr]
  have ey : (fun j : Fin 512 => along (hrow (argX m c) (argG m c) b s) (fun i => iblk m c 4 t (ix2 i ⟨j.val, by omega⟩)))
      = fun j : Fin 512 => yrow (argX m c) (argG m c) (argW m c) b s ⟨2056 + j.val, by omega⟩ := funext fun j => congrArg (along _) (funext fun i => by rw [in_4, wb_apply])
  rw [ey, headRow_eq _ _ h d _ (fun j => by
    rw [in_5, V_v15, equalHeads_apply]
    have e : (laneAt h d).val / 64 = h.val := by show (64 * h.val + d.val) / 64 = h.val; omega
    rw [e])]
  refine congrArg (headMean _ d) ?_
  rw [in_6]
  exact gq_apply m c h d
/-- The third array's keys. -/
theorem arr10_k (b : Fin 32) (s : Fin 32) (h : Fin 8) (d : Fin 64) :
    (dats m 0 c).arrAt 10 cfg0.N (ix2 (sampleRow b s) ⟨512 + (laneAt h d).val, by have := (laneAt h d).isLt; omega⟩)
      = headMean (fun i => yrow (argX m c) (argG m c) (argW m c) b s ⟨2568 + (64 * h.val + i.val), by omega⟩) d (argK m c (ix2 0 d)) := by
  obtain ⟨t, r, hr⟩ := in_block b s
  rw [← hr, at_10, out10_k, hrow_eq m c b s t r hr]
  have ey : (fun j : Fin 512 => along (hrow (argX m c) (argG m c) b s) (fun i => iblk m c 4 t (ix2 i ⟨512 + j.val, by omega⟩)))
      = fun j : Fin 512 => yrow (argX m c) (argG m c) (argW m c) b s ⟨2568 + j.val, by omega⟩ := funext fun j =>
    (yrow_eq m c b s t 512 (by decide) j).trans (congrArg (yrow (argX m c) (argG m c) (argW m c) b s) (Fin.ext (by show 2056 + (512 + j.val) = 2568 + j.val; omega)))
  rw [ey, headRow_eq _ _ h d _ (fun j => by
    rw [in_5, V_v15, equalHeads_apply]
    have e : (laneAt h d).val / 64 = h.val := by show (64 * h.val + d.val) / 64 = h.val; omega
    rw [e])]
  refine congrArg (headMean _ d) ?_
  rw [in_7]
  exact gk_apply m c h d
/-- The third array's values. -/
theorem arr10_v (b : Fin 32) (s : Fin 32) (l : Fin 512) :
    (dats m 0 c).arrAt 10 cfg0.N (ix2 (sampleRow b s) ⟨1024 + l.val, by omega⟩) = yrow (argX m c) (argG m c) (argW m c) b s ⟨3080 + l.val, by omega⟩ := by
  obtain ⟨t, r, hr⟩ := in_block b s
  rw [← hr, at_10, out10_v, hrow_eq m c b s t r hr]
  exact (yrow_eq m c b s t 1024 (by decide) l).trans (congrArg (yrow (argX m c) (argG m c) (argW m c) b s) (Fin.ext (by show 2056 + (1024 + l.val) = 3080 + l.val; omega)))

/-- Every index of a flat array is a batch's row and a column. -/
theorem flat_index {n : ℕ} (j : (⟨2, ![1024, n]⟩ : Shape).Idx) : ∃ (b : Fin 32) (s : Fin 32) (k : Fin n), j = ix2 (sampleRow b s) k := by
  have h0 : (j 0).val < 1024 := (j 0).isLt
  refine ⟨⟨(j 0).val / 32, by omega⟩, ⟨(j 0).val % 32, by omega⟩, j 1, funext fun a => ?_⟩
  match a with
  | 0 => exact Fin.ext (by show (j 0).val = 32 * ((j 0).val / 32) + (j 0).val % 32; omega)
  | 1 => rfl

/-- The first results are equal. -/
theorem first_eq : (dats m 0 c).arrAt 8 cfg0.N = Cert.Reference4Ideal.Read.val_main_v56 (F := Ideal) (argX m c) (argG m c) (argW m c) := by
  funext j
  obtain ⟨b, s, k, rfl⟩ := flat_index (n := 2048) j
  exact (arr8_at m c b s k).trans (v56_at (argX m c) (argG m c) (argW m c) b s k).symm
/-- The second results are equal. -/
theorem second_eq : (dats m 0 c).arrAt 9 cfg0.N = Cert.Reference4Ideal.Read.val_main_v60 (F := Ideal) (argX m c) (argG m c) (argW m c) := by
  funext j
  obtain ⟨b, s, k, rfl⟩ := flat_index (n := 128) j
  exact (arr9_at m c b s k).trans (v60_at (argX m c) (argG m c) (argW m c) b s k).symm
/-- The third results are equal. -/
theorem third_eq : (dats m 0 c).arrAt 10 cfg0.N = Cert.Reference4Ideal.Read.val_main_v64 (F := Ideal) (argX m c) (argG m c) (argW m c) (argQ m c) (argK m c) := by
  funext j
  obtain ⟨b, s, k, rfl⟩ := flat_index (n := 1536) j
  have hk := k.isLt
  by_cases h0 : k.val < 512
  · have e : k = ⟨(laneAt ⟨k.val / 64, by omega⟩ ⟨k.val % 64, by omega⟩).val, by have := (laneAt ⟨k.val / 64, by omega⟩ ⟨k.val % 64, by omega⟩).isLt; omega⟩ :=
      Fin.ext (by show k.val = 64 * (k.val / 64) + k.val % 64; omega)
    rw [e]
    exact (arr10_q m c b s _ _).trans (v64_q (argX m c) (argG m c) (argW m c) (argQ m c) (argK m c) b s _ _).symm
  · by_cases h1 : k.val < 1024
    · have e : k = ⟨512 + (laneAt ⟨(k.val - 512) / 64, by omega⟩ ⟨(k.val - 512) % 64, by omega⟩).val, by have := (laneAt ⟨(k.val - 512) / 64, by omega⟩ ⟨(k.val - 512) % 64, by omega⟩).isLt; omega⟩ :=
        Fin.ext (by show k.val = 512 + (64 * ((k.val - 512) / 64) + (k.val - 512) % 64); omega)
      rw [e]
      exact (arr10_k m c b s _ _).trans (v64_k (argX m c) (argG m c) (argW m c) (argQ m c) (argK m c) b s _ _).symm
    · have e : k = ⟨1024 + (⟨k.val - 1024, by omega⟩ : Fin 512).val, by show 1024 + (k.val - 1024) < 1536; omega⟩ :=
        Fin.ext (by show k.val = 1024 + (k.val - 1024); omega)
      rw [e]
      exact (arr10_v m c b s _).trans (v64_v (argX m c) (argG m c) (argW m c) (argQ m c) (argK m c) b s _).symm

end Cert.Kernel4Ideal.Proj

end
-- ==== Proof.MoeKit.lean ====
/-
  The experts' call up to its grid: what every buffer holds when the grid starts, the two tables of
  words the grid is steered by, each window's block at a grid point, and what a run of the grid says
  about the arguments.
-/
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S296 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

end Cert.Kernel2Ideal.Moe

end
-- ==== Proof.MoeRunC.lean ====
/-
  One grid point of the experts' kernel, run on whole buffers: with the weights of a new expert
  converted first, with the weights of the point before, and with nothing to do.
-/
module

public import proofs.«01_k».proof.Proof.MoeKit

@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of blocks in use, as a grid point reads it. -/
abbrev wordU (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))
/-- The expert of the grid point's own block. -/
abbrev wordA (c : Dev nD) (i : grid0.Coords) (xt0 : TbBuf0 (F := F) c tbM0_0) : BitVec 32 :=
  tbM0_0.view.readAt (Elt F) (Rect.unit (s := S296) (k0_off1 i) S1.size (k0_off1_inb i)).toLoadRect xt0 (Shape.Idx.first (numel1_S1.symm ▸ Nat.one_pos))
/-- The expert of the block before. -/
abbrev wordB (c : Dev nD) (i : grid0.Coords) (xt0 : TbBuf0 (F := F) c tbM0_0) : BitVec 32 :=
  tbM0_0.view.readAt (Elt F) (Rect.unit (s := S296) (k0_off2 i) S1.size (k0_off2_inb i)).toLoadRect xt0 (Shape.Idx.first (numel1_S1.symm ▸ Nat.one_pos))
/-- The kernel's test for a block in use whose expert is not the one before's. -/
abbrev isNew (i : grid0.Coords) (u a b : BitVec 32) : Prop :=
  Scalar.cmpi .ne (Scalar.extui (Scalar.andi (Scalar.cmpi .slt (BitVec.ofNat 32 (i 0).val) u)
    (Scalar.ori (Scalar.cmpi .eq (BitVec.ofNat 32 (i 0).val) 0#32) (Scalar.cmpi .ne a b))) : BitVec 32) 0#32 = 1#1

-- (the run is a long proof term)
set_option maxHeartbeats 4000000 in
/-- A block not in use: the point only reads its words. -/
theorem runC (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : ¬isNew i (wordU c xt1) (wordA c i xt0) (wordB c i xt0)) (hc1 : ¬k0_cond2 i (wordU c xt1) = 1#1)
    (E : Set ℕ) (K : PUnit → sProp 𝕄) :
        iprop(tbPt0 c tbM0_0 xt0 ∗ tbPt0 c tbM0_1 xt1 ∗ (iprop(tbPt0 c tbM0_0 xt0 ∗ tbPt0 c tbM0_1 xt1) -∗ K ⟨⟩))
          ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
    simp only [cc0_experts_eq_skeleton]; unfold cc0_experts_skel
    iintro ⟨HT0, HT1, Hk⟩
    sl_exec (disch := first | sl_exact hc0 | sl_exact hc1)
    sl_step
    iapply Hk
    isplitl [HT0]; · iexact HT0
    iexact HT1

end Cert.Kernel2Ideal.Moe

end
-- ==== Proof.MoeRunA.lean ====
/-
  One grid point of the experts' kernel with a new expert, run on whole buffers.
-/
module

public import proofs.«01_k».proof.Proof.MoeRunC

@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run is a long proof term)
set_option maxHeartbeats 4000000 in
/-- A block in use whose expert is new: the pieces the point writes into the output and the two
    buffers of converted weights, with the run that writes them. -/
noncomputable def runA (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : isNew i (wordU c xt1) (wordA c i xt0) (wordB c i xt0)) (hc1 : k0_cond2 i (wordU c xt1) = 1#1)
    (x0 : Vec F S4096x128 .f32) (x1 : Vec F S1x1024x2048 .f32) (x2 : Vec F S1x1x2048 .f32) (x3 : Vec F S1x1024x1024 .f32) (x4 : Vec F S1x1x1024 .f32) :
    Σ' (L5 : List (View.Piece (Elt F) S4096x128 .f32)), Σ' (LS0 : List (View.Piece (Elt F) S1024x2048 .bf16)), { LS1 : List (View.Piece (Elt F) S1024x1024 .bf16) //
      ∀ (E : Set ℕ) (K : PUnit → sProp 𝕄),
        iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
            ∗ (iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K } := by
  refine ⟨?_, ?_, ?_, fun E K => ?run⟩
  case run =>
    simp only [cc0_experts_eq_skeleton]; unfold cc0_experts_skel
    simp only [k0_part1_eq_skeleton, k0_part2_eq_skeleton, k0_part3_eq_skeleton, k0_part4_eq_skeleton, k0_part5_eq_skeleton]
    unfold owns
    iintro ⟨HT0, HT1, ⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [HT0]; · iexact HT0
    isplitl [HT1]; · iexact HT1
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    iexists _; iexact HS1

end Cert.Kernel2Ideal.Moe

end
-- ==== Proof.MoeRunB.lean ====
/-
  One grid point of the experts' kernel with the expert of the point before, run on whole buffers.
-/
module

public import proofs.«01_k».proof.Proof.MoeRunC

@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run is a long proof term)
set_option maxHeartbeats 4000000 in
/-- A block in use with the weights of the point before: the pieces the point writes into the
    output, with the run that writes them. -/
noncomputable def runB (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : ¬isNew i (wordU c xt1) (wordA c i xt0) (wordB c i xt0)) (hc1 : k0_cond2 i (wordU c xt1) = 1#1)
    (x0 : Vec F S4096x128 .f32) (x1 : Vec F S1x1024x2048 .f32) (x2 : Vec F S1x1x2048 .f32) (x3 : Vec F S1x1024x1024 .f32) (x4 : Vec F S1x1x1024 .f32) (xs0 : Vec F S1024x2048 .bf16) (xs1 : Vec F S1024x1024 .bf16) :
    { L5 : List (View.Piece (Elt F) S4096x128 .f32) //
      ∀ (E : Set ℕ) (K : PUnit → sProp 𝕄),
        iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
            ∗ (iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ owns (c : Thread nD τ) arg10 fullShare xs1) -∗ K ⟨⟩))
          ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_experts_eq_skeleton]; unfold cc0_experts_skel
    simp only [k0_part1_eq_skeleton, k0_part2_eq_skeleton, k0_part3_eq_skeleton, k0_part4_eq_skeleton, k0_part5_eq_skeleton]
    unfold owns
    iintro ⟨HT0, HT1, ⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | sl_exact hc0 | sl_exact hc1)
    sl_step
    iapply Hk
    isplitl [HT0]; · iexact HT0
    isplitl [HT1]; · iexact HT1
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    iexists _; isplitr; · ipureintro; exact harg10.read_unread _
    iexact HS1

end Cert.Kernel2Ideal.Moe

end
-- ==== Proof.MoeOut.lean ====
/-
  What one grid point of the experts' kernel leaves: the converted weights, and the block of rows.
-/
module

public import proofs.«01_k».proof.Proof.MoeRunA
public import proofs.«01_k».proof.Proof.MoeRunB
public import Idealize.ShloMosaic.Lib.Pointwise
public import Idealize.ShloMosaic.Lib.Pipeline.ReadBack
public import Idealize.ShloMosaic.Lib.Pipeline.Value

@[expose] public section

set_option maxRecDepth 16384

noncomputable section

namespace Cert.Kernel2Ideal.Moe

open Cert.Kernel2Ideal.Gen
open Idealize.ShloMosaic Idealize.ShloMosaic.TcCoe Idealize.ShloMosaic.Tactic

variable {F : FTy → Type} [FloatOps F]

/-- Every eighth row of a block of rows of 128, from row `s`. -/
def slab (x : Vec F S4096x128 .f32) (s : ℕ) (hs : s < 8) : Vec F S512x128 .f32 := fun y =>
  x (ix2 (n0 := 4096) (n1 := 128) ⟨s + 8 * (y 0).val, by have : (y 0).val < 512 := (y 0).isLt; omega⟩ (y 1))
/-- The first product's gate half, clamped above. -/
def gateV (x0 : Vec F S4096x128 .f32) (xs0 : Vec F S1024x2048 .bf16) (x2 : Vec F S1x1x2048 .f32) : FVec F S512x1024 .f32 :=
  k0_pay19 (slab x0 0 (by decide)) (slab x0 1 (by decide)) (slab x0 2 (by decide)) (slab x0 3 (by decide)) (slab x0 4 (by decide)) (slab x0 5 (by decide)) (slab x0 6 (by decide)) (slab x0 7 (by decide)) xs0 x2
/-- The first product's other half, clamped, plus one. -/
def upV (x0 : Vec F S4096x128 .f32) (xs0 : Vec F S1024x2048 .bf16) (x2 : Vec F S1x1x2048 .f32) : FVec F S512x1024 .f32 :=
  k0_pay20 (slab x0 0 (by decide)) (slab x0 1 (by decide)) (slab x0 2 (by decide)) (slab x0 3 (by decide)) (slab x0 4 (by decide)) (slab x0 5 (by decide)) (slab x0 6 (by decide)) (slab x0 7 (by decide)) xs0 x2
/-- The 512 rows of 1024 a grid point computes. -/
def rowsV (x0 : Vec F S4096x128 .f32) (xs0 : Vec F S1024x2048 .bf16) (x2 : Vec F S1x1x2048 .f32) (xs1 : Vec F S1024x1024 .bf16) (x4 : Vec F S1x1x1024 .f32) : FVec F S512x1024 .f32 :=
  k0_pay21 (gateV x0 xs0 x2) (upV x0 xs0 x2) xs1 x4
/-- Rows of 1024 as rows of 128, eight to a row. -/
def spread (P : FVec F S512x1024 .f32) : Vec F S4096x128 .f32 := fun z =>
  P (ix2 (n0 := 512) (n1 := 1024) ⟨(z 0).val / 8, by have : (z 0).val < 4096 := (z 0).isLt; omega⟩ ⟨(z 0).val % 8 * 128 + (z 1).val, by have : (z 1).val < 128 := (z 1).isLt; omega⟩)
/-- The output block of a grid point. -/
def out5 (x0 : Vec F S4096x128 .f32) (xs0 : Vec F S1024x2048 .bf16) (x2 : Vec F S1x1x2048 .f32) (xs1 : Vec F S1024x1024 .bf16) (x4 : Vec F S1x1x1024 .f32) : Vec F S4096x128 .f32 :=
  spread (rowsV x0 xs0 x2 xs1 x4)
/-- The converted first weights of an expert. -/
def sconv0 (x1 : Vec F S1x1024x2048 .f32) : Vec F S1024x2048 .bf16 :=
  (truncf .bf16 (fun z => x1 (ix3 (n0 := 1) (n1 := 1024) (n2 := 2048) 0 (z 0) (z 1)) : FVec F S1024x2048 .f32) bitsLt_bf16_f32 : FVec F S1024x2048 .bf16)
/-- The converted second weights of an expert. -/
def sconv1 (x3 : Vec F S1x1024x1024 .f32) : Vec F S1024x1024 .bf16 :=
  (truncf .bf16 (fun z => x3 (ix3 (n0 := 1) (n1 := 1024) (n2 := 1024) 0 (z 0) (z 1)) : FVec F S1024x1024 .f32) bitsLt_bf16_f32 : FVec F S1024x1024 .bf16)

/-- A strided load of a buffer holding `x` is its slab. -/
theorem slab_read (arg3 : Memref sig .tc .vmem S4096x128 .f32) (harg3 : arg3.IsWhole) (x : Vec F S4096x128 .f32) (s : ℕ) (hs : s < 8) (h : _) :
    View.readAt (Elt F) arg3.view (⟨![s, 0], S512x128.size, ![8, 1], h⟩ : LoadRect S4096x128) (harg3.unread x) = slab x s hs := by
  funext y
  rw [View.readAt_apply, harg3.read_unread]
  refine congrArg x (funext fun a => Fin.ext ?_)
  match a with
  | ⟨0, _⟩ => rfl
  | ⟨1, _⟩ => show 0 + 1 * (y 1).val = (y 1).val; omega

/-- A load of a whole buffer is what it holds. -/
theorem whole_read {S : Shape} {e : EltTy} {sp : Space} (M : Memref sig .tc sp S e) (hM : M.IsWhole) (x : S.Idx → Elt F e) (off : Fin S.rank → ℕ) (ho : off = fun _ => 0) (inb : ∀ a, off a + S.size a ≤ S.size a) :
    View.readAt (Elt F) M.view (Rect.unit off S.size inb).toLoadRect (hM.unread x) = x := by
  rw [View.readAt_eq_ld, Memref.IsWhole.read_unread, View.ld_unit_zero ho]

theorem o2 : (![0, 0] : Fin 2 → Nat) = fun _ => 0 := funext fun a => by fin_cases a <;> rfl
theorem o3 : (![0, 0, 0] : Fin 3 → Nat) = fun _ => 0 := funext fun a => by fin_cases a <;> rfl

/-- A slice of 128 columns is a piece of the spread rows. -/
theorem spread_piece (P : FVec F S512x1024 .f32) (s : ℕ) (hs : s < 8) (o : ℕ) (ho : o = s * 128) (h : S512x1024.Slices ![0, o] S512x128) (y : S512x128.Idx) (z : S4096x128.Idx)
    (hz0 : (z 0).val = s + 8 * (y 0).val) (hz1 : (z 1).val = 0 + 1 * (y 1).val) : extractStridedSlice S512x128 ![0, o] P h y = spread P z := by
  refine congrArg P (funext fun a => Fin.ext ?_)
  have hy : (y 1).val < 128 := (y 1).isLt
  match a with
  | ⟨0, _⟩ => show 0 + (y 0).val = (z 0).val / 8; omega
  | ⟨1, _⟩ => show o + (y 1).val = (z 0).val % 8 * 128 + (z 1).val; omega

/-- The eight strided pieces cover the block. -/
theorem strided_mem (y : S4096x128.Idx) (s : ℕ) (hs : (y 0).val % 8 = s) (size : Fin 2 → ℕ) (hsz : size = ![512, 128]) (h : _) (hp : _) :
    y ∈ (⟨(⟨![s, 0], size, ![8, 1], h⟩ : LoadRect S4096x128), hp⟩ : Rect S4096x128).set := by
  subst hsz
  have h0 : (y 0).val < 4096 := (y 0).isLt
  have h1 : (y 1).val < 128 := (y 1).isLt
  refine (LoadRect.mem_set _).mpr fun a => ?_
  match a with
  | ⟨0, _⟩ => exact ⟨(y 0).val / 8, show (y 0).val / 8 < 512 by omega, show (y 0).val = s + 8 * ((y 0).val / 8) by omega⟩
  | ⟨1, _⟩ => exact ⟨(y 1).val, h1, show (y 1).val = 0 + 1 * (y 1).val by omega⟩

/-- Every index of the output block is written. -/
theorem cov_runB (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : ¬isNew i (wordU c xt1) (wordA c i xt0) (wordB c i xt0)) (hc1 : k0_cond2 i (wordU c xt1) = 1#1) (x0 : Vec F S4096x128 .f32) (x1 : Vec F S1x1024x2048 .f32) (x2 : Vec F S1x1x2048 .f32) (x3 : Vec F S1x1024x1024 .f32) (x4 : Vec F S1x1x1024 .f32) (xs0 : Vec F S1024x2048 .bf16) (xs1 : Vec F S1024x1024 .bf16) (y : S4096x128.Idx) :
    ∃ p ∈ (runB c i arg3 harg3 arg4 harg4 arg5 harg5 arg6 harg6 arg7 harg7 arg8 harg8 arg9 harg9 arg10 harg10 xt0 xt1 hc0 hc1 x0 x1 x2 x3 x4 xs0 xs1).1, y ∈ p.1.set := by
  unfold runB; dsimp only
  rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with h | h | h | h | h | h | h | h
  · exact ⟨_, List.mem_cons_of_mem _ <| List.mem_cons_of_mem _ <| List.mem_cons_of_mem _ <| List.mem_cons_of_mem _ <| List.mem_cons_of_mem _ <| List.mem_cons_of_mem _ <| List.mem_cons_of_mem _ <| List.mem_cons_self, strided_mem y 0 h _ (by first | rfl | decide) _ _⟩
  · exact ⟨_, List.mem_cons_of_mem _ <| List.mem_cons_of_mem _ <| List.mem_cons_of_mem _ <| List.mem_cons_of_mem _ <| List.mem_cons_of_mem _ <| List.mem_cons_of_mem _ <| List.mem_cons_self, strided_mem y 1 h _ (by first | rfl | decide) _ _⟩
  · exact ⟨_, List.mem_cons_of_mem _ <| List.mem_cons_of_mem _ <| List.mem_cons_of_mem _ <| List.mem_cons_of_mem _ <| List.mem_cons_of_mem _ <| List.mem_cons_self, strided_mem y 2 h _ (by first | rfl | decide) _ _⟩
  · exact ⟨_, List.mem_cons_of_mem _ <| List.mem_cons_of_mem _ <| List.mem_cons_of_mem _ <| List.mem_cons_of_mem _ <| List.mem_cons_self, strided_mem y 3 h _ (by first | rfl | decide) _ _⟩
  · exact ⟨_, List.mem_cons_of_mem _ <| List.mem_cons_of_mem _ <| List.mem_cons_of_mem _ <| List.mem_cons_self, strided_mem y 4 h _ (by first | rfl | decide) _ _⟩
  · exact ⟨_, List.mem_cons_of_mem _ <| List.mem_cons_of_mem _ <| List.mem_cons_self, strided_mem y 5 h _ (by first | rfl | decide) _ _⟩
  · exact ⟨_, List.mem_cons_of_mem _ <| List.mem_cons_self, strided_mem y 6 h _ (by first | rfl | decide) _ _⟩
  · exact ⟨_, List.mem_cons_self, strided_mem y 7 h _ (by first | rfl | decide) _ _⟩
/-- Every index of the output block is written. -/
theorem cov_runA (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : isNew i (wordU c xt1) (wordA c i xt0) (wordB c i xt0)) (hc1 : k0_cond2 i (wordU c xt1) = 1#1) (x0 : Vec F S4096x128 .f32) (x1 : Vec F S1x1024x2048 .f32) (x2 : Vec F S1x1x2048 .f32) (x3 : Vec F S1x1024x1024 .f32) (x4 : Vec F S1x1x1024 .f32) (y : S4096x128.Idx) :
    ∃ p ∈ (runA c i arg3 harg3 arg4 harg4 arg5 harg5 arg6 harg6 arg7 harg7 arg8 harg8 arg9 harg9 arg10 harg10 xt0 xt1 hc0 hc1 x0 x1 x2 x3 x4).1, y ∈ p.1.set := by
  unfold runA; dsimp only
  rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with h | h | h | h | h | h | h | h
  · exact ⟨_, List.mem_cons_of_mem _ <| List.mem_cons_of_mem _ <| List.mem_cons_of_mem _ <| List.mem_cons_of_mem _ <| List.mem_cons_of_mem _ <| List.mem_cons_of_mem _ <| List.mem_cons_of_mem _ <| List.mem_cons_self, strided_mem y 0 h _ (by first | rfl | decide) _ _⟩
  · exact ⟨_, List.mem_cons_of_mem _ <| List.mem_cons_of_mem _ <| List.mem_cons_of_mem _ <| List.mem_cons_of_mem _ <| List.mem_cons_of_mem _ <| List.mem_cons_of_mem _ <| List.mem_cons_self, strided_mem y 1 h _ (by first | rfl | decide) _ _⟩
  · exact ⟨_, List.mem_cons_of_mem _ <| List.mem_cons_of_mem _ <| List.mem_cons_of_mem _ <| List.mem_cons_of_mem _ <| List.mem_cons_of_mem _ <| List.mem_cons_self, strided_mem y 2 h _ (by first | rfl | decide) _ _⟩
  · exact ⟨_, List.mem_cons_of_mem _ <| List.mem_cons_of_mem _ <| List.mem_cons_of_mem _ <| List.mem_cons_of_mem _ <| List.mem_cons_self, strided_mem y 3 h _ (by first | rfl | decide) _ _⟩
  · exact ⟨_, List.mem_cons_of_mem _ <| List.mem_cons_of_mem _ <| List.mem_cons_of_mem _ <| List.mem_cons_self, strided_mem y 4 h _ (by first | rfl | decide) _ _⟩
  · exact ⟨_, List.mem_cons_of_mem _ <| List.mem_cons_of_mem _ <| List.mem_cons_self, strided_mem y 5 h _ (by first | rfl | decide) _ _⟩
  · exact ⟨_, List.mem_cons_of_mem _ <| List.mem_cons_self, strided_mem y 6 h _ (by first | rfl | decide) _ _⟩
  · exact ⟨_, List.mem_cons_self, strided_mem y 7 h _ (by first | rfl | decide) _ _⟩
/-- The gate half of a grid point with a known expert. -/
theorem gate_runB (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1) (x0 : Vec F S4096x128 .f32) (x1 : Vec F S1x1024x2048 .f32) (x2 : Vec F S1x1x2048 .f32) (x3 : Vec F S1x1024x1024 .f32) (x4 : Vec F S1x1x1024 .f32) (xs0 : Vec F S1024x2048 .bf16) (xs1 : Vec F S1024x1024 .bf16) : runB.sl.r_3 c arg3 harg3 arg5 harg5 arg9 harg9 x0 x2 xs0 = gateV x0 xs0 x2 := by
  unfold runB.sl.r_3 gateV
  rw [slab_read _ _ _ 0 (by decide), slab_read _ _ _ 1 (by decide), slab_read _ _ _ 2 (by decide), slab_read _ _ _ 3 (by decide), slab_read _ _ _ 4 (by decide), slab_read _ _ _ 5 (by decide), slab_read _ _ _ 6 (by decide), slab_read _ _ _ 7 (by decide), whole_read arg9 harg9 xs0 _ o2 inb_S1024x2048_S1024x2048_0_0, whole_read arg5 harg5 x2 _ o3 inb_S1x1x2048_S1x1x2048_0_0_0]
/-- The other half. -/
theorem up_runB (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1) (x0 : Vec F S4096x128 .f32) (x1 : Vec F S1x1024x2048 .f32) (x2 : Vec F S1x1x2048 .f32) (x3 : Vec F S1x1024x1024 .f32) (x4 : Vec F S1x1x1024 .f32) (xs0 : Vec F S1024x2048 .bf16) (xs1 : Vec F S1024x1024 .bf16) : runB.sl.r_4 c arg3 harg3 arg5 harg5 arg9 harg9 x0 x2 xs0 = upV x0 xs0 x2 := by
  unfold runB.sl.r_4 upV
  rw [slab_read _ _ _ 0 (by decide), slab_read _ _ _ 1 (by decide), slab_read _ _ _ 2 (by decide), slab_read _ _ _ 3 (by decide), slab_read _ _ _ 4 (by decide), slab_read _ _ _ 5 (by decide), slab_read _ _ _ 6 (by decide), slab_read _ _ _ 7 (by decide), whole_read arg9 harg9 xs0 _ o2 inb_S1024x2048_S1024x2048_0_0, whole_read arg5 harg5 x2 _ o3 inb_S1x1x2048_S1x1x2048_0_0_0]
/-- What a grid point with a known expert leaves in the output block. -/
theorem canon_runB (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : ¬isNew i (wordU c xt1) (wordA c i xt0) (wordB c i xt0)) (hc1 : k0_cond2 i (wordU c xt1) = 1#1) (x0 : Vec F S4096x128 .f32) (x1 : Vec F S1x1024x2048 .f32) (x2 : Vec F S1x1x2048 .f32) (x3 : Vec F S1x1024x1024 .f32) (x4 : Vec F S1x1x1024 .f32) (xs0 : Vec F S1024x2048 .bf16) (xs1 : Vec F S1024x1024 .bf16) :
    View.canon (runB c i arg3 harg3 arg4 harg4 arg5 harg5 arg6 harg6 arg7 harg7 arg8 harg8 arg9 harg9 arg10 harg10 xt0 xt1 hc0 hc1 x0 x1 x2 x3 x4 xs0 xs1).1 = out5 x0 xs0 x2 xs1 x4 := by
  funext y
  refine View.canon_apply_of_pieces (out5 x0 xs0 x2 xs1 x4) _ ?_ y (cov_runB c i arg3 harg3 arg4 harg4 arg5 harg5 arg6 harg6 arg7 harg7 arg8 harg8 arg9 harg9 arg10 harg10 xt0 xt1 hc0 hc1 x0 x1 x2 x3 x4 xs0 xs1 y)
  apply View.PiecesOf.mem
  unfold runB; dsimp only
  unfold runB.sl.r_6 runB.sl.r_5
  rw [gate_runB c i arg3 harg3 arg4 harg4 arg5 harg5 arg6 harg6 arg7 harg7 arg8 harg8 arg9 harg9 arg10 harg10 xt0 xt1 x0 x1 x2 x3 x4 xs0 xs1, up_runB c i arg3 harg3 arg4 harg4 arg5 harg5 arg6 harg6 arg7 harg7 arg8 harg8 arg9 harg9 arg10 harg10 xt0 xt1 x0 x1 x2 x3 x4 xs0 xs1, whole_read arg10 harg10 xs1 _ o2 inb_S1024x1024_S1024x1024_0_0, whole_read arg7 harg7 x4 _ o3 inb_S1x1x1024_S1x1x1024_0_0_0]
  refine ⟨fun y => ?_, fun y => ?_, fun y => ?_, fun y => ?_, fun y => ?_, fun y => ?_, fun y => ?_, fun y => ?_, trivial⟩
  · exact spread_piece (rowsV x0 xs0 x2 xs1 x4) 7 (by decide) 896 (by decide) slices_S512x1024_o0_896_S512x128 y _ rfl rfl
  · exact spread_piece (rowsV x0 xs0 x2 xs1 x4) 6 (by decide) 768 (by decide) slices_S512x1024_o0_768_S512x128 y _ rfl rfl
  · exact spread_piece (rowsV x0 xs0 x2 xs1 x4) 5 (by decide) 640 (by decide) slices_S512x1024_o0_640_S512x128 y _ rfl rfl
  · exact spread_piece (rowsV x0 xs0 x2 xs1 x4) 4 (by decide) 512 (by decide) slices_S512x1024_o0_512_S512x128 y _ rfl rfl
  · exact spread_piece (rowsV x0 xs0 x2 xs1 x4) 3 (by decide) 384 (by decide) slices_S512x1024_o0_384_S512x128 y _ rfl rfl
  · exact spread_piece (rowsV x0 xs0 x2 xs1 x4) 2 (by decide) 256 (by decide) slices_S512x1024_o0_256_S512x128 y _ rfl rfl
  · exact spread_piece (rowsV x0 xs0 x2 xs1 x4) 1 (by decide) 128 (by decide) slices_S512x1024_o0_128_S512x128 y _ rfl rfl
  · exact spread_piece (rowsV x0 xs0 x2 xs1 x4) 0 (by decide) 0 (by decide) slices_S512x1024_o0_0_S512x128 y _ rfl rfl
/-- One piece of converted first weights, at an index. -/
theorem conv0_piece (pay : Vec F S1x128x2048 .f32 → FVec F S128x2048 .bf16) (hp : pay = k0_pay3) (arg4 : Memref sig .tc .vmem S1x1024x2048 .f32) (harg4 : arg4.IsWhole) (x1 : Vec F S1x1024x2048 .f32) (o : ℕ)
    (inb : _) (y : S128x2048.Idx) (z : S1024x2048.Idx) (h0 : (z 0).val = o + 1 * (y 0).val) (h1 : (z 1).val = 0 + 1 * (y 1).val) :
    pay (View.readAt (Elt F) arg4.view (Rect.unit (s := S1x1024x2048) ![0, o, 0] S1x128x2048.size inb).toLoadRect (harg4.unread x1)) y = sconv0 x1 z := by
  subst hp
  obtain ⟨a, b, rfl⟩ : ∃ a b, y = ix2 a b := ⟨y 0, y 1, funext fun a => by match a with | 0 => rfl | 1 => rfl⟩
  rw [View.readAt_eq_ld, harg4.read_unread]
  unfold sconv0
  pointwise [k0_pay3]
  refine congrArg _ (congrArg x1 (funext fun d => Fin.ext ?_))
  match d with
  | ⟨0, _⟩ => rfl
  | ⟨1, _⟩ => have h0' : (z 0).val = o + 1 * a.val := h0; show o + a.val = (z 0).val; omega
  | ⟨2, _⟩ => have h1' : (z 1).val = 0 + 1 * b.val := h1; show b.val = (z 1).val; omega
/-- One piece of converted second weights, at an index. -/
theorem conv1_piece (pay : Vec F S1x128x1024 .f32 → FVec F S128x1024 .bf16) (hp : pay = k0_pay1) (arg6 : Memref sig .tc .vmem S1x1024x1024 .f32) (harg6 : arg6.IsWhole) (x3 : Vec F S1x1024x1024 .f32) (o : ℕ)
    (inb : _) (y : S128x1024.Idx) (z : S1024x1024.Idx) (h0 : (z 0).val = o + 1 * (y 0).val) (h1 : (z 1).val = 0 + 1 * (y 1).val) :
    pay (View.readAt (Elt F) arg6.view (Rect.unit (s := S1x1024x1024) ![0, o, 0] S1x128x1024.size inb).toLoadRect (harg6.unread x3)) y = sconv1 x3 z := by
  subst hp
  obtain ⟨a, b, rfl⟩ : ∃ a b, y = ix2 a b := ⟨y 0, y 1, funext fun a => by match a with | 0 => rfl | 1 => rfl⟩
  rw [View.readAt_eq_ld, harg6.read_unread]
  unfold sconv1
  pointwise [k0_pay1]
  refine congrArg _ (congrArg x3 (funext fun d => Fin.ext ?_))
  match d with
  | ⟨0, _⟩ => rfl
  | ⟨1, _⟩ => have h0' : (z 0).val = o + 1 * a.val := h0; show o + a.val = (z 0).val; omega
  | ⟨2, _⟩ => have h1' : (z 1).val = 0 + 1 * b.val := h1; show b.val = (z 1).val; omega
/-- The first buffer's pieces cover it. -/
theorem scov0 (c : Dev nD) (arg4 : Memref sig .tc .vmem S1x1024x2048 .f32) (harg4 : arg4.IsWhole) (x1 : Vec F S1x1024x2048 .f32) (y : S1024x2048.Idx) : ∃ p ∈ runA.sl.HS0_8 c arg4 harg4 x1, y ∈ p.1.set :=
  View.cover_of_tiledL (runA.sl.HS0_8 c arg4 harg4 x1) S128x2048.size (by sl_kernel_rfl) y
/-- The second buffer's pieces cover it. -/
theorem scov1 (c : Dev nD) (arg6 : Memref sig .tc .vmem S1x1024x1024 .f32) (harg6 : arg6.IsWhole) (x3 : Vec F S1x1024x1024 .f32) (y : S1024x1024.Idx) : ∃ p ∈ runA.sl.HS1_8 c arg6 harg6 x3, y ∈ p.1.set :=
  View.cover_of_tiledL (runA.sl.HS1_8 c arg6 harg6 x3) S128x1024.size (by sl_kernel_rfl) y
/-- The first buffer's pieces are the converted weights. -/
theorem scanon0 (c : Dev nD) (arg4 : Memref sig .tc .vmem S1x1024x2048 .f32) (harg4 : arg4.IsWhole) (x1 : Vec F S1x1024x2048 .f32) : View.canon (runA.sl.HS0_8 c arg4 harg4 x1) = sconv0 x1 := by
  funext y
  refine View.canon_apply_of_pieces (sconv0 x1) _ ?_ y (scov0 c arg4 harg4 x1 y)
  apply View.PiecesOf.mem
  unfold runA.sl.HS0_8
  refine ⟨fun y => ?_, fun y => ?_, fun y => ?_, fun y => ?_, fun y => ?_, fun y => ?_, fun y => ?_, fun y => ?_, trivial⟩
  · exact conv0_piece k0_pay10 rfl arg4 harg4 x1 896 inb_S1x1024x2048_S1x128x2048_0_896_0 y _ rfl rfl
  · exact conv0_piece k0_pay9 rfl arg4 harg4 x1 768 inb_S1x1024x2048_S1x128x2048_0_768_0 y _ rfl rfl
  · exact conv0_piece k0_pay8 rfl arg4 harg4 x1 640 inb_S1x1024x2048_S1x128x2048_0_640_0 y _ rfl rfl
  · exact conv0_piece k0_pay7 rfl arg4 harg4 x1 512 inb_S1x1024x2048_S1x128x2048_0_512_0 y _ rfl rfl
  · exact conv0_piece k0_pay6 rfl arg4 harg4 x1 384 inb_S1x1024x2048_S1x128x2048_0_384_0 y _ rfl rfl
  · exact conv0_piece k0_pay5 rfl arg4 harg4 x1 256 inb_S1x1024x2048_S1x128x2048_0_256_0 y _ rfl rfl
  · exact conv0_piece k0_pay4 rfl arg4 harg4 x1 128 inb_S1x1024x2048_S1x128x2048_0_128_0 y _ rfl rfl
  · exact conv0_piece k0_pay3 rfl arg4 harg4 x1 0 inb_S1x1024x2048_S1x128x2048_0_0_0 y _ rfl rfl
/-- The second buffer's pieces are the converted weights. -/
theorem scanon1 (c : Dev nD) (arg6 : Memref sig .tc .vmem S1x1024x1024 .f32) (harg6 : arg6.IsWhole) (x3 : Vec F S1x1024x1024 .f32) : View.canon (runA.sl.HS1_8 c arg6 harg6 x3) = sconv1 x3 := by
  funext y
  refine View.canon_apply_of_pieces (sconv1 x3) _ ?_ y (scov1 c arg6 harg6 x3 y)
  apply View.PiecesOf.mem
  unfold runA.sl.HS1_8
  refine ⟨fun y => ?_, fun y => ?_, fun y => ?_, fun y => ?_, fun y => ?_, fun y => ?_, fun y => ?_, fun y => ?_, trivial⟩
  · exact conv1_piece k0_pay1 rfl arg6 harg6 x3 896 inb_S1x1024x1024_S1x128x1024_0_896_0 y _ rfl rfl
  · exact conv1_piece k0_pay17 rfl arg6 harg6 x3 768 inb_S1x1024x1024_S1x128x1024_0_768_0 y _ rfl rfl
  · exact conv1_piece k0_pay16 rfl arg6 harg6 x3 640 inb_S1x1024x1024_S1x128x1024_0_640_0 y _ rfl rfl
  · exact conv1_piece k0_pay15 rfl arg6 harg6 x3 512 inb_S1x1024x1024_S1x128x1024_0_512_0 y _ rfl rfl
  · exact conv1_piece k0_pay14 rfl arg6 harg6 x3 384 inb_S1x1024x1024_S1x128x1024_0_384_0 y _ rfl rfl
  · exact conv1_piece k0_pay13 rfl arg6 harg6 x3 256 inb_S1x1024x1024_S1x128x1024_0_256_0 y _ rfl rfl
  · exact conv1_piece k0_pay12 rfl arg6 harg6 x3 128 inb_S1x1024x1024_S1x128x1024_0_128_0 y _ rfl rfl
  · exact conv1_piece k0_pay11 rfl arg6 harg6 x3 0 inb_S1x1024x1024_S1x128x1024_0_0_0 y _ rfl rfl
/-- The first weights read back. -/
theorem back0 (c : Dev nD) (arg4 : Memref sig .tc .vmem S1x1024x2048 .f32) (harg4 : arg4.IsWhole) (arg9 : Memref sig .tc .vmem S1024x2048 .bf16) (x1 : Vec F S1x1024x2048 .f32) : runA.sl.v33 c arg4 harg4 arg9 x1 = sconv0 x1 := by
  unfold runA.sl.v33
  rw [View.readCov_eq_canon', scanon0]
  exact View.ld_unit_zero o2 _ _
/-- The second weights read back. -/
theorem back1 (c : Dev nD) (arg6 : Memref sig .tc .vmem S1x1024x1024 .f32) (harg6 : arg6.IsWhole) (arg10 : Memref sig .tc .vmem S1024x1024 .bf16) (x3 : Vec F S1x1024x1024 .f32) : runA.sl.v61 c arg6 harg6 arg10 x3 = sconv1 x3 := by
  unfold runA.sl.v61
  rw [View.readCov_eq_canon', scanon1]
  exact View.ld_unit_zero o2 _ _
/-- The gate half of a grid point with a new expert. -/
theorem gate_runA (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1) (x0 : Vec F S4096x128 .f32) (x1 : Vec F S1x1024x2048 .f32) (x2 : Vec F S1x1x2048 .f32) (x3 : Vec F S1x1024x1024 .f32) (x4 : Vec F S1x1x1024 .f32) : runA.sl.r_3 c arg3 harg3 arg4 harg4 arg5 harg5 arg9 x0 x1 x2 = gateV x0 (sconv0 x1) x2 := by
  unfold runA.sl.r_3 gateV
  rw [slab_read _ _ _ 0 (by decide), slab_read _ _ _ 1 (by decide), slab_read _ _ _ 2 (by decide), slab_read _ _ _ 3 (by decide), slab_read _ _ _ 4 (by decide), slab_read _ _ _ 5 (by decide), slab_read _ _ _ 6 (by decide), slab_read _ _ _ 7 (by decide), back0, whole_read arg5 harg5 x2 _ o3 inb_S1x1x2048_S1x1x2048_0_0_0]
/-- The other half. -/
theorem up_runA (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1) (x0 : Vec F S4096x128 .f32) (x1 : Vec F S1x1024x2048 .f32) (x2 : Vec F S1x1x2048 .f32) (x3 : Vec F S1x1024x1024 .f32) (x4 : Vec F S1x1x1024 .f32) : runA.sl.r_4 c arg3 harg3 arg4 harg4 arg5 harg5 arg9 x0 x1 x2 = upV x0 (sconv0 x1) x2 := by
  unfold runA.sl.r_4 upV
  rw [slab_read _ _ _ 0 (by decide), slab_read _ _ _ 1 (by decide), slab_read _ _ _ 2 (by decide), slab_read _ _ _ 3 (by decide), slab_read _ _ _ 4 (by decide), slab_read _ _ _ 5 (by decide), slab_read _ _ _ 6 (by decide), slab_read _ _ _ 7 (by decide), back0, whole_read arg5 harg5 x2 _ o3 inb_S1x1x2048_S1x1x2048_0_0_0]
/-- What a grid point with a new expert leaves in the output block. -/
theorem canon_runA (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : isNew i (wordU c xt1) (wordA c i xt0) (wordB c i xt0)) (hc1 : k0_cond2 i (wordU c xt1) = 1#1) (x0 : Vec F S4096x128 .f32) (x1 : Vec F S1x1024x2048 .f32) (x2 : Vec F S1x1x2048 .f32) (x3 : Vec F S1x1024x1024 .f32) (x4 : Vec F S1x1x1024 .f32) :
    View.canon (runA c i arg3 harg3 arg4 harg4 arg5 harg5 arg6 harg6 arg7 harg7 arg8 harg8 arg9 harg9 arg10 harg10 xt0 xt1 hc0 hc1 x0 x1 x2 x3 x4).1 = out5 x0 (sconv0 x1) x2 (sconv1 x3) x4 := by
  funext y
  refine View.canon_apply_of_pieces (out5 x0 (sconv0 x1) x2 (sconv1 x3) x4) _ ?_ y (cov_runA c i arg3 harg3 arg4 harg4 arg5 harg5 arg6 harg6 arg7 harg7 arg8 harg8 arg9 harg9 arg10 harg10 xt0 xt1 hc0 hc1 x0 x1 x2 x3 x4 y)
  apply View.PiecesOf.mem
  unfold runA; dsimp only
  unfold runA.sl.r_6 runA.sl.r_5
  rw [gate_runA c i arg3 harg3 arg4 harg4 arg5 harg5 arg6 harg6 arg7 harg7 arg8 harg8 arg9 harg9 arg10 harg10 xt0 xt1 x0 x1 x2 x3 x4, up_runA c i arg3 harg3 arg4 harg4 arg5 harg5 arg6 harg6 arg7 harg7 arg8 harg8 arg9 harg9 arg10 harg10 xt0 xt1 x0 x1 x2 x3 x4, back1, whole_read arg7 harg7 x4 _ o3 inb_S1x1x1024_S1x1x1024_0_0_0]
  refine ⟨fun y => ?_, fun y => ?_, fun y => ?_, fun y => ?_, fun y => ?_, fun y => ?_, fun y => ?_, fun y => ?_, trivial⟩
  · exact spread_piece (rowsV x0 (sconv0 x1) x2 (sconv1 x3) x4) 7 (by decide) 896 (by decide) slices_S512x1024_o0_896_S512x128 y _ rfl rfl
  · exact spread_piece (rowsV x0 (sconv0 x1) x2 (sconv1 x3) x4) 6 (by decide) 768 (by decide) slices_S512x1024_o0_768_S512x128 y _ rfl rfl
  · exact spread_piece (rowsV x0 (sconv0 x1) x2 (sconv1 x3) x4) 5 (by decide) 640 (by decide) slices_S512x1024_o0_640_S512x128 y _ rfl rfl
  · exact spread_piece (rowsV x0 (sconv0 x1) x2 (sconv1 x3) x4) 4 (by decide) 512 (by decide) slices_S512x1024_o0_512_S512x128 y _ rfl rfl
  · exact spread_piece (rowsV x0 (sconv0 x1) x2 (sconv1 x3) x4) 3 (by decide) 384 (by decide) slices_S512x1024_o0_384_S512x128 y _ rfl rfl
  · exact spread_piece (rowsV x0 (sconv0 x1) x2 (sconv1 x3) x4) 2 (by decide) 256 (by decide) slices_S512x1024_o0_256_S512x128 y _ rfl rfl
  · exact spread_piece (rowsV x0 (sconv0 x1) x2 (sconv1 x3) x4) 1 (by decide) 128 (by decide) slices_S512x1024_o0_128_S512x128 y _ rfl rfl
  · exact spread_piece (rowsV x0 (sconv0 x1) x2 (sconv1 x3) x4) 0 (by decide) 0 (by decide) slices_S512x1024_o0_0_S512x128 y _ rfl rfl
/-- The pieces left in the first buffer. -/
theorem left0 (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : isNew i (wordU c xt1) (wordA c i xt0) (wordB c i xt0)) (hc1 : k0_cond2 i (wordU c xt1) = 1#1) (x0 : Vec F S4096x128 .f32) (x1 : Vec F S1x1024x2048 .f32) (x2 : Vec F S1x1x2048 .f32) (x3 : Vec F S1x1024x1024 .f32) (x4 : Vec F S1x1x1024 .f32) : (runA c i arg3 harg3 arg4 harg4 arg5 harg5 arg6 harg6 arg7 harg7 arg8 harg8 arg9 harg9 arg10 harg10 xt0 xt1 hc0 hc1 x0 x1 x2 x3 x4).2.1 = runA.sl.HS0_8 c arg4 harg4 x1 := by
  unfold runA; rfl
/-- The pieces left in the second buffer. -/
theorem left1 (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : isNew i (wordU c xt1) (wordA c i xt0) (wordB c i xt0)) (hc1 : k0_cond2 i (wordU c xt1) = 1#1) (x0 : Vec F S4096x128 .f32) (x1 : Vec F S1x1024x2048 .f32) (x2 : Vec F S1x1x2048 .f32) (x3 : Vec F S1x1024x1024 .f32) (x4 : Vec F S1x1x1024 .f32) : (runA c i arg3 harg3 arg4 harg4 arg5 harg5 arg6 harg6 arg7 harg7 arg8 harg8 arg9 harg9 arg10 harg10 xt0 xt1 hc0 hc1 x0 x1 x2 x3 x4).2.2.1 = runA.sl.HS1_8 c arg6 harg6 x3 := by
  unfold runA; rfl

end Cert.Kernel2Ideal.Moe

end
-- ==== Proof.MoePoint.lean ====
/-
  One grid point's run with what it leaves in closed form, with a new expert and with the expert before's.
-/
module

public import proofs.«01_k».proof.Proof.MoeOut

@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A grid point with a new expert converts its weights and leaves its rows' values. -/
theorem pointA (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : isNew i (wordU c xt1) (wordA c i xt0) (wordB c i xt0)) (hc1 : k0_cond2 i (wordU c xt1) = 1#1)
    (x0 : Vec F S4096x128 .f32) (x1 : Vec F S1x1024x2048 .f32) (x2 : Vec F S1x1x2048 .f32) (x3 : Vec F S1x1024x1024 .f32) (x4 : Vec F S1x1x1024 .f32) (E : Set ℕ) (K : PUnit → sProp 𝕄) :
    iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d)
        ∗ (iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out5 x0 (sconv0 x1) x2 (sconv1 x3) x4) ∗ owns (c : Thread nD τ) arg9 fullShare (sconv0 x1) ∗ owns (c : Thread nD τ) arg10 fullShare (sconv1 x3)) -∗ K ⟨⟩))
      ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
  iintro ⟨HT0, HT1, H0, H1, H2, H3, H4, H5, HS0, HS1, Hk⟩
  iapply (runA c i arg3 harg3 arg4 harg4 arg5 harg5 arg6 harg6 arg7 harg7 arg8 harg8 arg9 harg9 arg10 harg10 xt0 xt1 hc0 hc1 x0 x1 x2 x3 x4).2.2.2 E K
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨HT0, HT1, H0, H1, H2, H3, H4, ⟨%e5, H5⟩, ⟨%e0, HS0⟩, ⟨%e1, HS1⟩⟩
  iapply Hk
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (View.read_writes_eq_canon _ _ _ (cov_runA c i arg3 harg3 arg4 harg4 arg5 harg5 arg6 harg6 arg7 harg7 arg8 harg8 arg9 harg9 arg10 harg10 xt0 xt1 hc0 hc1 x0 x1 x2 x3 x4)).trans (canon_runA c i arg3 harg3 arg4 harg4 arg5 harg5 arg6 harg6 arg7 harg7 arg8 harg8 arg9 harg9 arg10 harg10 xt0 xt1 hc0 hc1 x0 x1 x2 x3 x4)
  isplitl [HS0]
  · unfold owns; iexists _; isplitr
    swap; · iexact HS0
    ipureintro; rw [left0 c i arg3 harg3 arg4 harg4 arg5 harg5 arg6 harg6 arg7 harg7 arg8 harg8 arg9 harg9 arg10 harg10 xt0 xt1 hc0 hc1 x0 x1 x2 x3 x4]; exact (View.read_writes_eq_canon _ _ _ (scov0 c arg4 harg4 x1)).trans (scanon0 c arg4 harg4 x1)
  unfold owns; iexists _; isplitr
  swap; · iexact HS1
  ipureintro; rw [left1 c i arg3 harg3 arg4 harg4 arg5 harg5 arg6 harg6 arg7 harg7 arg8 harg8 arg9 harg9 arg10 harg10 xt0 xt1 hc0 hc1 x0 x1 x2 x3 x4]; exact (View.read_writes_eq_canon _ _ _ (scov1 c arg6 harg6 x3)).trans (scanon1 c arg6 harg6 x3)

/-- A grid point with the expert before's leaves its rows' values. -/
theorem pointB (c : Dev nD) (i : grid0.Coords) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S1024x2048 .bf16) (harg9 : arg9.IsWhole) (arg10 : Memref sig .tc .vmem S1024x1024 .bf16) (harg10 : arg10.IsWhole)
    (xt0 : TbBuf0 (F := F) c tbM0_0) (xt1 : TbBuf0 (F := F) c tbM0_1)
    (hc0 : ¬isNew i (wordU c xt1) (wordA c i xt0) (wordB c i xt0)) (hc1 : k0_cond2 i (wordU c xt1) = 1#1)
    (x0 : Vec F S4096x128 .f32) (x1 : Vec F S1x1024x2048 .f32) (x2 : Vec F S1x1x2048 .f32) (x3 : Vec F S1x1024x1024 .f32) (x4 : Vec F S1x1x1024 .f32) (xs0 : Vec F S1024x2048 .bf16) (xs1 : Vec F S1024x1024 .bf16) (E : Set ℕ) (K : PUnit → sProp 𝕄) :
    iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1
        ∗ (iprop(tbPt0 c tbM0_0 xt0 ∗ tbPt0 c tbM0_1 xt1 ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out5 x0 xs0 x2 xs1 x4) ∗ owns (c : Thread nD τ) arg9 fullShare xs0 ∗ owns (c : Thread nD τ) arg10 fullShare xs1) -∗ K ⟨⟩))
      ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K := by
  iintro ⟨HT0, HT1, H0, H1, H2, H3, H4, H5, HS0, HS1, Hk⟩
  iapply (runB c i arg3 harg3 arg4 harg4 arg5 harg5 arg6 harg6 arg7 harg7 arg8 harg8 arg9 harg9 arg10 harg10 xt0 xt1 hc0 hc1 x0 x1 x2 x3 x4 xs0 xs1).2 E K
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨HT0, HT1, H0, H1, H2, H3, H4, ⟨%e5, H5⟩, HS0, HS1⟩
  iapply Hk
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact (View.read_writes_eq_canon _ _ _ (cov_runB c i arg3 harg3 arg4 harg4 arg5 harg5 arg6 harg6 arg7 harg7 arg8 harg8 arg9 harg9 arg10 harg10 xt0 xt1 hc0 hc1 x0 x1 x2 x3 x4 xs0 xs1)).trans (canon_runB c i arg3 harg3 arg4 harg4 arg5 harg5 arg6 harg6 arg7 harg7 arg8 harg8 arg9 harg9 arg10 harg10 xt0 xt1 hc0 hc1 x0 x1 x2 x3 x4 xs0 xs1)
  isplitl [HS0]; · iexact HS0
  iexact HS1

end Cert.Kernel2Ideal.Moe

end
-- ==== Proof.MoeWords.lean ====
/-
  The experts' tables in plain numbers: which blocks are in use, which expert each block has, and
  which blocks of the arrays each grid point reads and writes.
-/
module

public import proofs.«01_k».proof.Proof.MoeRunC
public import Idealize.ShloMosaic.Lib.Pointwise

@[expose] public section

set_option maxRecDepth 16384

noncomputable section

namespace Cert.Kernel2Ideal.Moe

open Cert.Kernel2Ideal.Gen
open Idealize.ShloMosaic Idealize.ShloMosaic.TcCoe Idealize.ShloMosaic.Tactic

variable {F : FTy → Type} [FloatOps F]
variable (m : (ℓ : Loc nD τ sig) → Buf (Elt F) ℓ)

/-- The expert of block `n`. -/
def bex (n : Fin 296) : BitVec 32 := tbl m 0 (ix1 n)
/-- The number of blocks in use. -/
def nus : BitVec 32 := tbl m 1 (ix1 (n0 := 1) 0)

/-- Every block has an expert of the thirty-two, and at least one block is in use. -/
structure Routed : Prop where
  lt : ∀ n, (bex m n).toNat < 32
  pos : 1 ≤ (nus m).toNat
  le : (nus m).toNat ≤ 296

theorem t_lt (t : Fin grid0.N) : t.val < 296 := lt_of_lt_of_eq t.isLt N_0
theorem coord (t : Fin grid0.N) : (grid0.coords t 0).val = t.val := by
  have ht := t_lt t
  have e0 : (grid0.coords t 0).val = t.val / 1 % 296 := Pipeline.Grid.coords_val t 0 (by decide) rfl
  omega

/-- A word of the experts' table. -/
theorem at_bex (off : Fin 1 → ℕ) (inb : ∀ a, off a + S1.size a ≤ S296.size a) (x : S1.Idx) (n : Fin 296) (h : off 0 = n.val) :
    tbl m 0 ((Rect.unit (s := S296) off S1.size inb).emb x) = bex m n := by
  refine congrArg (tbl m 0) (funext fun a => Fin.ext ?_)
  match a with
  | ⟨0, _⟩ =>
    have hx : (x 0).val < 1 := (x 0).isLt
    show off 0 + 1 * (x 0).val = n.val
    omega
/-- The word of the table of blocks in use. -/
theorem at_nus (y : S1.Idx) : tbl m 1 y = nus m := by
  refine congrArg (tbl m 1) (funext fun a => Fin.ext ?_)
  match a with
  | ⟨0, _⟩ =>
    have hy : (y 0).val < 1 := (y 0).isLt
    show (y 0).val = 0
    omega

theorem off1 (t : Fin grid0.N) : k0_off1 (grid0.coords t) 0 = t.val := by
  have ht := t_lt t
  have e := coord t
  unfold k0_off1
  simp only [e]
  show (BitVec.ofNat 32 t.val).toNat = t.val
  rw [BitVec.toNat_ofNat]; omega
theorem off2 (t : Fin grid0.N) : k0_off2 (grid0.coords t) 0 = t.val - 1 := by
  have ht := t_lt t
  have e := coord t
  show (Scalar.maxsi (Scalar.subi (BitVec.ofNat 32 (grid0.coords t 0).val) 1#32) 0#32).toNat = t.val - 1
  rw [e]
  exact (by decide +kernel : ∀ n : Fin 296, (Scalar.maxsi (Scalar.subi (BitVec.ofNat 32 n.val) 1#32) 0#32).toNat = n.val - 1) ⟨t.val, ht⟩

theorem wordU_eq (c : Dev nD) : wordU c (tbl m 1) = nus m := at_nus m _
theorem wordA_eq (c : Dev nD) (t : Fin grid0.N) : wordA c (grid0.coords t) (tbl m 0) = bex m ⟨t.val, t_lt t⟩ :=
  at_bex m _ _ _ _ (off1 t)
theorem wordB_eq (c : Dev nD) (t : Fin grid0.N) : wordB c (grid0.coords t) (tbl m 0) = bex m ⟨t.val - 1, by have := t_lt t; omega⟩ :=
  at_bex m _ _ _ _ (off2 t)

/-- A block is in use. -/
theorem cond2_iff (hR : Routed m) (t : Fin grid0.N) : k0_cond2 (grid0.coords t) (nus m) = 1#1 ↔ t.val < (nus m).toNat := by
  have ht := t_lt t
  have e := coord t
  have h1 := hR.le
  unfold k0_cond2
  simp only [e]
  word_cmp
/-- The kernel's test on three truth values. -/
theorem bits_iff (p q r : Prop) [Decidable p] [Decidable q] [Decidable r] :
    Scalar.cmpi .ne (Scalar.extui (Scalar.andi (BitVec.ofBool (decide p)) (Scalar.ori (BitVec.ofBool (decide q)) (BitVec.ofBool (decide r)))) : BitVec 32) 0#32 = 1#1 ↔ p ∧ (q ∨ r) := by
  have h : ∀ x y z : Bool, Scalar.cmpi .ne (Scalar.extui (Scalar.andi (BitVec.ofBool x) (Scalar.ori (BitVec.ofBool y) (BitVec.ofBool z))) : BitVec 32) 0#32 = 1#1 ↔ x = true ∧ (y = true ∨ z = true) := by decide
  simpa only [decide_eq_true_eq] using h (decide p) (decide q) (decide r)
/-- A block is in use and its expert is not the one before's. -/
theorem isNew_iff (hR : Routed m) (t : Fin grid0.N) (a b : BitVec 32) : isNew (grid0.coords t) (nus m) a b ↔ t.val < (nus m).toNat ∧ (t.val = 0 ∨ a ≠ b) := by
  have ht := t_lt t
  have e := coord t
  have h1 := hR.le
  unfold isNew
  simp only [e]
  have c1 : Scalar.cmpi .slt (BitVec.ofNat 32 t.val) (nus m) = BitVec.ofBool (decide (t.val < (nus m).toNat)) := by
    show IntOp.cmpi .slt _ _ = _
    rw [WordCmp.cmpi_slt_of_lt (by rw [BitVec.toNat_ofNat]; omega) (by omega), BitVec.toNat_ofNat, Nat.mod_eq_of_lt (by omega)]
  have c2 : Scalar.cmpi .eq (BitVec.ofNat 32 t.val) 0#32 = BitVec.ofBool (decide (t.val = 0)) := by
    show IntOp.cmpi .eq _ _ = _
    rw [WordCmp.cmpi_eq_eq_toNat, BitVec.toNat_ofNat, Nat.mod_eq_of_lt (by omega)]
    rfl
  have c3 : Scalar.cmpi .ne a b = BitVec.ofBool (decide (a ≠ b)) := WordCmp.cmpi_ne_eq a b
  rw [c1, c2, c3]
  exact bits_iff _ _ _

/-- The last block in use, or the point's own block before it. -/
def lastB (n : ℕ) : ℕ := min n ((nus m).toNat - 1)

/-- The smaller of a position and the last position in use, in words. -/
theorem min_word (a : ℕ) (u : BitVec 32) (ha : a < 296) (h1 : 1 ≤ u.toNat) (h2 : u.toNat ≤ 296) : (Scalar.minsi (BitVec.ofNat 32 a) (Scalar.subi u 1#32)).toNat = min a (u.toNat - 1) := by
  have hy : (Scalar.subi u 1#32).toNat = u.toNat - 1 := by
    show (u - 1#32).toNat = _
    rw [BitVec.toNat_sub]
    have : (1#32 : BitVec 32).toNat = 1 := rfl
    omega
  have hx : (BitVec.ofNat 32 a).toNat = a := by rw [BitVec.toNat_ofNat]; omega
  generalize hX : BitVec.ofNat 32 a = X at hx
  generalize hY : Scalar.subi u 1#32 = Y at hy
  show (if X.slt Y then X else Y).toNat = _
  have hs : X.slt Y = decide (X.toNat < Y.toNat) := by
    show decide (X.toInt < Y.toInt) = _
    rw [WordCmp.toInt_eq_toNat_of_lt_half (by omega), WordCmp.toInt_eq_toNat_of_lt_half (by omega)]
    simp only [Nat.cast_lt]
  rw [hs, hx, hy]
  by_cases h : a < u.toNat - 1
  · simp only [h, decide_true, if_true]; omega
  · simp only [h, decide_false, Bool.false_eq_true, if_false]; omega
theorem idx_x (hR : Routed m) (t : Fin grid0.N) : cc0_transform_0 inb_S1_S1_0 numel1_S1 (tbl m) (grid0.coords t) = ![lastB m t.val, 0] := by
  have ht := t_lt t
  have e := coord t
  have h1 := hR.le
  have h2 := hR.pos
  refine congrArg (fun z => ![z, 0]) (?_ : (Scalar.minsi (BitVec.ofNat 32 (grid0.coords t 0).val) (Scalar.subi (tbl m 1 ((Rect.unit (s := S1) ![0] S1.size inb_S1_S1_0).emb (Shape.Idx.first (numel1_S1.symm ▸ Nat.one_pos)))) 1#32)).toNat = lastB m t.val)
  rw [at_nus m, e]
  exact min_word t.val (nus m) ht h2 h1
theorem idx_y (hR : Routed m) (t : Fin grid0.N) : cc0_transform_5 inb_S1_S1_0 numel1_S1 (tbl m) (grid0.coords t) = ![lastB m t.val, 0] := idx_x m hR t
theorem idx_w (t : Fin grid0.N) : cc0_transform_1 k0_off1_inb numel1_S1 (tbl m) (grid0.coords t) = ![(bex m ⟨t.val, t_lt t⟩).toNat, 0, 0] :=
  congrArg (fun z : BitVec 32 => ![z.toNat, 0, 0]) (at_bex m _ _ _ _ (off1 t))

end Cert.Kernel2Ideal.Moe

end
-- ==== Proof.MoeFrame.lean ====
/-
  The launch of the experts' kernel: what every grid point finds and leaves, and the run of the whole program.
-/
module

public import proofs.«01_k».proof.Proof.MoeOut
public import proofs.«01_k».proof.Proof.MoeWords
public import Idealize.ShloMosaic.Lib.Pipeline.TableIdle

@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m) (hR : Routed m)

/-- The two buffers of converted weights. -/
abbrev scM0_0 : Memref sig .tc .vmem S1024x2048 .bf16 := Memref.whole cc0_scratch0
abbrev scM0_1 : Memref sig .tc .vmem S1024x1024 .bf16 := Memref.whole cc0_scratch1

/-- What the launch hands the region besides the tables, buffer by buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The last block in use, or the point's own block before it, as a grid point. -/
def la (n : ℕ) (hn : n < grid0.N) : Fin grid0.N := ⟨lastB m n, lt_of_le_of_lt (Nat.min_le_left _ _) hn⟩

/-- What the converted weights are after a grid point. -/
def sc0 (c : Dev nD) (t : Fin grid0.N) : Vec F S1024x2048 .bf16 := sconv0 (iblk m hO c 1 t)
def sc1 (c : Dev nD) (t : Fin grid0.N) : Vec F S1024x1024 .bf16 := sconv1 (iblk m hO c 3 t)
/-- What a grid point in use leaves in its block. -/
def outAt (c : Dev nD) (t : Fin grid0.N) : Vec F S4096x128 .f32 :=
  out5 (iblk m hO c 0 t) (sc0 m hO c t) (iblk m hO c 2 t) (sc1 m hO c t) (iblk m hO c 4 t)

/-- What is held between grid points. -/
def PhiS (c : Dev nD) : (n : ℕ) → n ≤ grid0.N → sProp 𝕄
  | 0, _ => iprop(Pipeline.ΦA spec0 c ∗ Pipeline.ΦT pre0 (tbl m) c)
  | n + 1, hn => iprop(iprop(iprop(owns (c : Thread nD τ) scM0_0 fullShare (sc0 m hO c (la m n hn)) ∗ owns (c : Thread nD τ) scM0_1 fullShare (sc1 m hO c (la m n hn))) ∗ (∃ r, prngReg c r)) ∗ iprop(tbPt0 c tbM0_0 (tbl m 0) ∗ tbPt0 c tbM0_1 (tbl m 1)))

theorem PhiS_zero (c : Dev nD) (n : ℕ) (h : n ≤ grid0.N) (hz : n = 0) : PhiS m hO c n h
    = iprop(iprop(iprop((∃ d, owns (c : Thread nD τ) scM0_0 fullShare d) ∗ (∃ d, owns (c : Thread nD τ) scM0_1 fullShare d)) ∗ (∃ r, prngReg c r)) ∗ iprop(tbPt0 c tbM0_0 (tbl m 0) ∗ tbPt0 c tbM0_1 (tbl m 1))) := by
  subst hz; unfold PhiS; rw [PhiA0_eq, PhiT0_eq]
theorem PhiS_succ (c : Dev nD) (n : ℕ) (hn : n < grid0.N) : PhiS m hO c (n + 1) hn
    = iprop(iprop(iprop(owns (c : Thread nD τ) scM0_0 fullShare (sc0 m hO c (la m n hn)) ∗ owns (c : Thread nD τ) scM0_1 fullShare (sc1 m hO c (la m n hn))) ∗ (∃ r, prngReg c r)) ∗ iprop(tbPt0 c tbM0_0 (tbl m 0) ∗ tbPt0 c tbM0_1 (tbl m 1))) := rfl
theorem PhiS_pos (c : Dev nD) (n : ℕ) (h : n ≤ grid0.N) (hz : n ≠ 0) : PhiS m hO c n h
    = iprop(iprop(iprop(owns (c : Thread nD τ) scM0_0 fullShare (sc0 m hO c (la m (n - 1) (by omega))) ∗ owns (c : Thread nD τ) scM0_1 fullShare (sc1 m hO c (la m (n - 1) (by omega)))) ∗ (∃ r, prngReg c r)) ∗ iprop(tbPt0 c tbM0_0 (tbl m 0) ∗ tbPt0 c tbM0_1 (tbl m 1))) := by
  cases n with
  | zero => exact absurd rfl hz
  | succ n => rfl

/-- The proof data. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c (la m t.val t.isLt)
  Φ t := PhiS m hO c t.val (Nat.le_of_lt_succ t.isLt)
  q w := Pipeline.shareOf spec0 w
  owed _ := 0

theorem A_eq (c : Dev nD) (w : Fin (cfgM m hO).W) : (dats m hO 0 c).A w = V m c (Pipeline.arrRef spec0 w) := by
  dsimp only [dats]
theorem PhiS_castSucc (c : Dev nD) (t : Fin (cfgM m hO).N) : (dats m hO 0 c).Φ t.castSucc = PhiS m hO c t.val (Nat.le_of_lt t.isLt) := by
  dsimp only [dats]; exact Pipeline.Dat.Φ_castSucc (PhiS m hO c) t
theorem after0_0 (c : Dev nD) (t : Fin (cfgM m hO).N) : (dats m hO 0 c).after 0 t = iblk m hO c 0 t := by dsimp only [dats]; rfl
theorem after0_1 (c : Dev nD) (t : Fin (cfgM m hO).N) : (dats m hO 0 c).after 1 t = iblk m hO c 1 t := by dsimp only [dats]; rfl
theorem after0_2 (c : Dev nD) (t : Fin (cfgM m hO).N) : (dats m hO 0 c).after 2 t = iblk m hO c 2 t := by dsimp only [dats]; rfl
theorem after0_3 (c : Dev nD) (t : Fin (cfgM m hO).N) : (dats m hO 0 c).after 3 t = iblk m hO c 3 t := by dsimp only [dats]; rfl
theorem after0_4 (c : Dev nD) (t : Fin (cfgM m hO).N) : (dats m hO 0 c).after 4 t = iblk m hO c 4 t := by dsimp only [dats]; rfl
theorem after0_5 (c : Dev nD) (t : Fin (cfgM m hO).N) : (dats m hO 0 c).after 5 t = outAt m hO c (la m t.val t.isLt) := by dsimp only [dats]; rfl
theorem before0_0 (c : Dev nD) (t : Fin (cfgM m hO).N) (d) : (dats m hO 0 c).before 0 t d = iblk m hO c 0 t :=
  before0_0_of m hO (dats m hO 0 c) (A_eq m hO c 0) (after0_0 m hO c) t d
theorem before0_1 (c : Dev nD) (t : Fin (cfgM m hO).N) (d) : (dats m hO 0 c).before 1 t d = iblk m hO c 1 t :=
  before0_1_of m hO (dats m hO 0 c) (A_eq m hO c 1) (after0_1 m hO c) t d
theorem before0_2 (c : Dev nD) (t : Fin (cfgM m hO).N) (d) : (dats m hO 0 c).before 2 t d = iblk m hO c 2 t :=
  before0_2_of m hO (dats m hO 0 c) (A_eq m hO c 2) (after0_2 m hO c) t d
theorem before0_3 (c : Dev nD) (t : Fin (cfgM m hO).N) (d) : (dats m hO 0 c).before 3 t d = iblk m hO c 3 t :=
  before0_3_of m hO (dats m hO 0 c) (A_eq m hO c 3) (after0_3 m hO c) t d
theorem before0_4 (c : Dev nD) (t : Fin (cfgM m hO).N) (d) : (dats m hO 0 c).before 4 t d = iblk m hO c 4 t :=
  before0_4_of m hO (dats m hO 0 c) (A_eq m hO c 4) (after0_4 m hO c) t d

/-! ## Which points are idle, and which blocks repeat -/

/-- The word of the idle test. -/
theorem atD_nus : (tbl m).atD 1 ![0] = nus m := by
  unfold Pipeline.Prefetch.Contents.atD
  rw [dif_pos (by intro a; match a with | ⟨0, _⟩ => exact Nat.le_refl 1)]
  exact at_nus m _
/-- The idle points as the tables give them. -/
theorem idle_def : (cfgM m hO).idle = idle0 (tbl m) := rfl
/-- A point is idle for the output exactly when its block is not in use. -/
theorem idle5 (hR : Routed m) (t : Fin (cfgM m hO).N) : (cfgM m hO).idle 5 ((cfgM m hO).grid.coords t) = decide (¬ t.val < (nus m).toNat) := by
  rw [idle_def m hO]
  show (!(k0_cond2 (grid0.coords t) ((tbl m).atD 1 ![0]) == 1#1)) = _
  rw [atD_nus]
  have h := cond2_iff m hR t
  by_cases ht : t.val < (nus m).toNat
  · rw [h.mpr ht]; simp [ht]
  · have h' : ¬ k0_cond2 (grid0.coords t) (nus m) = 1#1 := fun e => ht (h.mp e)
    simp [ht, h']
/-- A point in use is its own block. -/
theorem la_lt (n : ℕ) (hn : n < grid0.N) (h : n < (nus m).toNat) : la m n hn = ⟨n, hn⟩ :=
  Fin.ext (Nat.min_eq_left (by omega))
/-- A point past the blocks in use repeats the one before. -/
theorem la_ge (n : ℕ) (hn : n < grid0.N) (h : ¬ n < (nus m).toNat) (h1 : 1 ≤ (nus m).toNat) : la m n hn = la m (n - 1) (by omega) :=
  Fin.ext (by show min n ((nus m).toNat - 1) = min (n - 1) ((nus m).toNat - 1); omega)

theorem index5 (hR : Routed m) (t : Fin (cfgM m hO).N) : ((cfgM m hO).win 5).index t = ![lastB m t.val, 0] := idx_y m hR t
/-- Past the blocks in use, the output's buffer holds the last block. -/
theorem fresh5 (hR : Routed m) : ∀ (n : ℕ) (hn : n < grid0.N), (nus m).toNat ≤ n → (cfgM m hO).fresh 5 n = false
  | 0, _, h => by have := hR.pos; omega
  | n + 1, hn, h => by
    have hn' : n < (cfgM m hO).N := by show n < grid0.N; omega
    rw [Pipeline.Cfg.fresh_succ _ 5 n hn']
    have hfl : ((cfgM m hO).win 5).flush ⟨n, hn'⟩ = false := by
      rw [Pipeline.Window.flush_eq_flushF]
      unfold Pipeline.Window.flushF
      have e : ∀ (h' : n + 1 < grid0.N), ((cfgM m hO).win 5).index ⟨n + 1, h'⟩ = ((cfgM m hO).win 5).index ⟨n, hn'⟩ := fun h' => by
        rw [index5 m hO hR, index5 m hO hR]
        have := hR.pos
        refine congrArg (fun z => ![z, 0]) ?_
        show min (n + 1) ((nus m).toNat - 1) = min n ((nus m).toNat - 1)
        omega
      have hN : ¬ (n + 1 = grid0.N) := by omega
      have hE : ¬ ∃ h' : n + 1 < grid0.N, ∃ a, ((cfgM m hO).win 5).index ⟨n + 1, h'⟩ a ≠ ((cfgM m hO).win 5).index ⟨n, hn'⟩ a := by
        rintro ⟨h', a, ha⟩
        exact ha (congrFun (e h') a)
      rw [Bool.and_eq_false_iff]; right
      rw [Bool.or_eq_false_iff]
      exact ⟨decide_eq_false hN, decide_eq_false hE⟩
    rw [hfl, Bool.false_or, idle5 m hO hR]
    by_cases hlt : n < (nus m).toNat
    · simp [hlt]
    · rw [fresh5 hR n (by omega) (by omega), Bool.and_false]

/-- What an idle point finds in the output's buffer. -/
theorem before5_idle (hR : Routed m) (c : Dev nD) (t : Fin (cfgM m hO).N) (ht : ¬ t.val < (nus m).toNat) (d) : (dats m hO 0 c).before 5 t d = (dats m hO 0 c).after 5 t := by
  have h1 := hR.pos
  have h0 : t.val ≠ 0 := by omega
  have carry : ∀ (s : Fin (cfgM m hO).N) (_ : s.val ≠ 0), (cfgM m hO).idle 5 ((cfgM m hO).grid.coords s) = true → (cfgM m hO).fresh 5 s.val = false →
      (dats m hO 0 c).after 5 s = (dats m hO 0 c).after 5 ⟨s.val - 1, by omega⟩ := fun s hs hi _ => by
    rw [idle5 m hO hR] at hi
    rw [after0_5, after0_5, la_ge m s.val s.isLt (of_decide_eq_true hi) h1]
  rw [(dats m hO 0 c).before_out_traj 5 rfl (fun _ _ => rfl) carry t.val t rfl d, fresh5 m hO hR t.val t.isLt (by omega), if_neg Bool.false_ne_true]
  exact (carry t h0 (by rw [idle5 m hO hR]; exact decide_eq_true ht) (fresh5 m hO hR t.val t.isLt (by omega))).symm

/-- The expert of a grid point. -/
def ex (hR : Routed m) (t : Fin grid0.N) : Fin 32 := ⟨(bex m ⟨t.val, t_lt t⟩).toNat, hR.lt _⟩

theorem index0 (hR : Routed m) (t : Fin (cfgM m hO).N) : ((cfgM m hO).win 0).index t = ![lastB m t.val, 0] := idx_x m hR t
theorem index1 (t : Fin (cfgM m hO).N) : ((cfgM m hO).win 1).index t = ![(bex m ⟨t.val, t_lt t⟩).toNat, 0, 0] := idx_w m t
theorem index2 (t : Fin (cfgM m hO).N) : ((cfgM m hO).win 2).index t = ![(bex m ⟨t.val, t_lt t⟩).toNat, 0, 0] := idx_w m t
theorem index3 (t : Fin (cfgM m hO).N) : ((cfgM m hO).win 3).index t = ![(bex m ⟨t.val, t_lt t⟩).toNat, 0, 0] := idx_w m t
theorem index4 (t : Fin (cfgM m hO).N) : ((cfgM m hO).win 4).index t = ![(bex m ⟨t.val, t_lt t⟩).toNat, 0, 0] := idx_w m t

/-- The block of the first weights is the point's expert's. -/
theorem in_1 (c : Dev nD) (t : Fin grid0.N) (z : Fin 1) (y : Fin 1024) (x : Fin 2048) :
    (iblk m hO c 1 t : Vec F S1x1024x2048 .f32) (ix3 (n0 := 1) (n1 := 1024) (n2 := 2048) z y x) = (V m c main_v0 : Vec F S32x1024x2048 .f32) (ix3 (n0 := 32) (n1 := 1024) (n2 := 2048) (ex m hR t) y x) := by
  show V m c main_v0 ((((cfgM m hO).win 1).blk t).view.emb (ix3 (n0 := 1) (n1 := 1024) (n2 := 2048) z y x)) = _
  have e := index1 m hO t
  have e0 := congrFun e (0 : Fin 3)
  have e1 := congrFun e (1 : Fin 3)
  have e2 := congrFun e (2 : Fin 3)
  refine congrArg (V m c main_v0) (funext fun a => Fin.ext ?_)
  match a with
  | ⟨0, _⟩ =>
    show ((cfgM m hO).win 1).index t (0 : Fin 3) * 1 + 1 * z.val = (bex m ⟨t.val, t_lt t⟩).toNat
    rw [e0]; show (bex m ⟨t.val, t_lt t⟩).toNat * 1 + 1 * z.val = _; omega
  | ⟨1, _⟩ =>
    show ((cfgM m hO).win 1).index t (1 : Fin 3) * 1024 + 1 * y.val = y.val
    rw [e1]; show 0 * 1024 + 1 * y.val = _; omega
  | ⟨2, _⟩ =>
    show ((cfgM m hO).win 1).index t (2 : Fin 3) * 2048 + 1 * x.val = x.val
    rw [e2]; show 0 * 2048 + 1 * x.val = _; omega
/-- The block of the first bias is the point's expert's. -/
theorem in_2 (c : Dev nD) (t : Fin grid0.N) (z : Fin 1) (y : Fin 1) (x : Fin 2048) :
    (iblk m hO c 2 t : Vec F S1x1x2048 .f32) (ix3 (n0 := 1) (n1 := 1) (n2 := 2048) z y x) = (V m c main_v2 : Vec F S32x1x2048 .f32) (ix3 (n0 := 32) (n1 := 1) (n2 := 2048) (ex m hR t) y x) := by
  show V m c main_v2 ((((cfgM m hO).win 2).blk t).view.emb (ix3 (n0 := 1) (n1 := 1) (n2 := 2048) z y x)) = _
  have e := index2 m hO t
  have e0 := congrFun e (0 : Fin 3)
  have e1 := congrFun e (1 : Fin 3)
  have e2 := congrFun e (2 : Fin 3)
  refine congrArg (V m c main_v2) (funext fun a => Fin.ext ?_)
  match a with
  | ⟨0, _⟩ =>
    show ((cfgM m hO).win 2).index t (0 : Fin 3) * 1 + 1 * z.val = (bex m ⟨t.val, t_lt t⟩).toNat
    rw [e0]; show (bex m ⟨t.val, t_lt t⟩).toNat * 1 + 1 * z.val = _; omega
  | ⟨1, _⟩ =>
    show ((cfgM m hO).win 2).index t (1 : Fin 3) * 1 + 1 * y.val = y.val
    rw [e1]; show 0 * 1 + 1 * y.val = _; omega
  | ⟨2, _⟩ =>
    show ((cfgM m hO).win 2).index t (2 : Fin 3) * 2048 + 1 * x.val = x.val
    rw [e2]; show 0 * 2048 + 1 * x.val = _; omega
/-- The block of the second weights is the point's expert's. -/
theorem in_3 (c : Dev nD) (t : Fin grid0.N) (z : Fin 1) (y : Fin 1024) (x : Fin 1024) :
    (iblk m hO c 3 t : Vec F S1x1024x1024 .f32) (ix3 (n0 := 1) (n1 := 1024) (n2 := 1024) z y x) = (V m c main_v3 : Vec F S32x1024x1024 .f32) (ix3 (n0 := 32) (n1 := 1024) (n2 := 1024) (ex m hR t) y x) := by
  show V m c main_v3 ((((cfgM m hO).win 3).blk t).view.emb (ix3 (n0 := 1) (n1 := 1024) (n2 := 1024) z y x)) = _
  have e := index3 m hO t
  have e0 := congrFun e (0 : Fin 3)
  have e1 := congrFun e (1 : Fin 3)
  have e2 := congrFun e (2 : Fin 3)
  refine congrArg (V m c main_v3) (funext fun a => Fin.ext ?_)
  match a with
  | ⟨0, _⟩ =>
    show ((cfgM m hO).win 3).index t (0 : Fin 3) * 1 + 1 * z.val = (bex m ⟨t.val, t_lt t⟩).toNat
    rw [e0]; show (bex m ⟨t.val, t_lt t⟩).toNat * 1 + 1 * z.val = _; omega
  | ⟨1, _⟩ =>
    show ((cfgM m hO).win 3).index t (1 : Fin 3) * 1024 + 1 * y.val = y.val
    rw [e1]; show 0 * 1024 + 1 * y.val = _; omega
  | ⟨2, _⟩ =>
    show ((cfgM m hO).win 3).index t (2 : Fin 3) * 1024 + 1 * x.val = x.val
    rw [e2]; show 0 * 1024 + 1 * x.val = _; omega
/-- The block of the second bias is the point's expert's. -/
theorem in_4 (c : Dev nD) (t : Fin grid0.N) (z : Fin 1) (y : Fin 1) (x : Fin 1024) :
    (iblk m hO c 4 t : Vec F S1x1x1024 .f32) (ix3 (n0 := 1) (n1 := 1) (n2 := 1024) z y x) = (V m c main_v5 : Vec F S32x1x1024 .f32) (ix3 (n0 := 32) (n1 := 1) (n2 := 1024) (ex m hR t) y x) := by
  show V m c main_v5 ((((cfgM m hO).win 4).blk t).view.emb (ix3 (n0 := 1) (n1 := 1) (n2 := 1024) z y x)) = _
  have e := index4 m hO t
  have e0 := congrFun e (0 : Fin 3)
  have e1 := congrFun e (1 : Fin 3)
  have e2 := congrFun e (2 : Fin 3)
  refine congrArg (V m c main_v5) (funext fun a => Fin.ext ?_)
  match a with
  | ⟨0, _⟩ =>
    show ((cfgM m hO).win 4).index t (0 : Fin 3) * 1 + 1 * z.val = (bex m ⟨t.val, t_lt t⟩).toNat
    rw [e0]; show (bex m ⟨t.val, t_lt t⟩).toNat * 1 + 1 * z.val = _; omega
  | ⟨1, _⟩ =>
    show ((cfgM m hO).win 4).index t (1 : Fin 3) * 1 + 1 * y.val = y.val
    rw [e1]; show 0 * 1 + 1 * y.val = _; omega
  | ⟨2, _⟩ =>
    show ((cfgM m hO).win 4).index t (2 : Fin 3) * 1024 + 1 * x.val = x.val
    rw [e2]; show 0 * 1024 + 1 * x.val = _; omega

theorem ex_congr (t s : Fin grid0.N) (h : bex m ⟨t.val, t_lt t⟩ = bex m ⟨s.val, t_lt s⟩) : ex m hR t = ex m hR s := Fin.ext (by show (bex m _).toNat = (bex m _).toNat; rw [h])
/-- The converted weights of a point are its expert's, converted. -/
theorem sc0_eq (c : Dev nD) (t : Fin grid0.N) : sc0 m hO c t
    = truncf .bf16 (fun z => (V m c main_v0 : Vec F S32x1024x2048 .f32) (ix3 (n0 := 32) (n1 := 1024) (n2 := 2048) (ex m hR t) (z 0) (z 1)) : FVec F S1024x2048 .f32) bitsLt_bf16_f32 := by
  unfold sc0 sconv0
  exact congrArg (fun f : FVec F S1024x2048 .f32 => truncf .bf16 f bitsLt_bf16_f32) (funext fun z => in_1 m hO hR c t 0 (z 0) (z 1))
theorem sc0_congr (hR : Routed m) (c : Dev nD) (t s : Fin grid0.N) (h : bex m ⟨t.val, t_lt t⟩ = bex m ⟨s.val, t_lt s⟩) : sc0 m hO c t = sc0 m hO c s := by
  rw [sc0_eq m hO hR, sc0_eq m hO hR, ex_congr m hR t s h]
/-- The converted weights of a point are its expert's, converted. -/
theorem sc1_eq (c : Dev nD) (t : Fin grid0.N) : sc1 m hO c t
    = truncf .bf16 (fun z => (V m c main_v3 : Vec F S32x1024x1024 .f32) (ix3 (n0 := 32) (n1 := 1024) (n2 := 1024) (ex m hR t) (z 0) (z 1)) : FVec F S1024x1024 .f32) bitsLt_bf16_f32 := by
  unfold sc1 sconv1
  exact congrArg (fun f : FVec F S1024x1024 .f32 => truncf .bf16 f bitsLt_bf16_f32) (funext fun z => in_3 m hO hR c t 0 (z 0) (z 1))
theorem sc1_congr (hR : Routed m) (c : Dev nD) (t s : Fin grid0.N) (h : bex m ⟨t.val, t_lt t⟩ = bex m ⟨s.val, t_lt s⟩) : sc1 m hO c t = sc1 m hO c s := by
  rw [sc1_eq m hO hR, sc1_eq m hO hR, ex_congr m hR t s h]

/-! ## The body at a grid point -/

/-- What the body is called with at a point, -/
def bodyPre (c : Dev nD) (t : Fin (cfgM m hO).N) : sProp 𝕄 :=
  iprop((dats m hO 0 c).Φ t.castSucc ∗ (dats m hO 0 c).owesAt () t.castSucc
    ∗ (∃ d, owns (c : Thread nD τ) (st0_0 (adm m hO) t) fullShare ((dats m hO 0 c).before 0 t d))
    ∗ (∃ d, owns (c : Thread nD τ) (st0_1 (adm m hO) t) fullShare ((dats m hO 0 c).before 1 t d))
    ∗ (∃ d, owns (c : Thread nD τ) (st0_2 (adm m hO) t) fullShare ((dats m hO 0 c).before 2 t d))
    ∗ (∃ d, owns (c : Thread nD τ) (st0_3 (adm m hO) t) fullShare ((dats m hO 0 c).before 3 t d))
    ∗ (∃ d, owns (c : Thread nD τ) (st0_4 (adm m hO) t) fullShare ((dats m hO 0 c).before 4 t d))
    ∗ (∃ d, owns (c : Thread nD τ) (st0_5 (adm m hO) t) fullShare ((dats m hO 0 c).before 5 t d)))
/-- and what it returns. -/
def bodyPost (c : Dev nD) (t : Fin (cfgM m hO).N) : sProp 𝕄 :=
  iprop((dats m hO 0 c).Φ t.succ ∗ (dats m hO 0 c).owesAt () t.succ
    ∗ owns (c : Thread nD τ) (st0_0 (adm m hO) t) fullShare ((dats m hO 0 c).after 0 t)
    ∗ owns (c : Thread nD τ) (st0_1 (adm m hO) t) fullShare ((dats m hO 0 c).after 1 t)
    ∗ owns (c : Thread nD τ) (st0_2 (adm m hO) t) fullShare ((dats m hO 0 c).after 2 t)
    ∗ owns (c : Thread nD τ) (st0_3 (adm m hO) t) fullShare ((dats m hO 0 c).after 3 t)
    ∗ owns (c : Thread nD τ) (st0_4 (adm m hO) t) fullShare ((dats m hO 0 c).after 4 t)
    ∗ (dats m hO 0 c).leavesExact 5 t)

end Cert.Kernel2Ideal.Moe

end
-- ==== Proof.MoeBody.lean ====
/-
  The experts' body at every grid point, the launch and the run of the whole program.
-/
module

public import proofs.«01_k».proof.Proof.MoePoint
public import proofs.«01_k».proof.Proof.MoeFrame
public import Idealize.ShloMosaic.Lib.Claim
public import Idealize.ShloMosaic.Lib.Pipeline.TableIdle

@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m) (hR : Routed m)

/-- The first point converts its expert's weights. -/
theorem body_first (hR : Routed m) (c : Dev nD) (t : Fin (cfgM m hO).N) (hu : t.val < (nus m).toNat) (h0 : t.val = 0) :
    bodyPre m hO c t ⊢ wp frame (wpE (defs₀ (F := F)) Variants.none c none) Set.univ (bodyAt0 (adm m hO) t) (fun _ => bodyPost m hO c t) := by
  have hla : la m t.val t.isLt = t := la_lt m t.val t.isLt hu
  have hc1 : k0_cond2 (grid0.coords t) (wordU c (tbl m 1)) = 1#1 := by rw [wordU_eq]; exact (cond2_iff m hR t).mpr hu
  have hn : t.val = 0 ∨ bex m ⟨t.val, t_lt t⟩ ≠ bex m ⟨t.val - 1, by have := t_lt t; omega⟩ := Or.inl h0
  have hc0 : isNew (grid0.coords t) (wordU c (tbl m 1)) (wordA c (grid0.coords t) (tbl m 0)) (wordB c (grid0.coords t) (tbl m 0)) := by
    rw [wordU_eq, wordA_eq, wordB_eq]; exact (isNew_iff m hR t _ _).mpr ⟨hu, hn⟩
  have hl : (dats m hO 0 c).leavesExact 5 t = owns (c : Thread nD τ) (st0_5 (adm m hO) t) fullShare (outAt m hO c t) := by
    have hi : (cfgM m hO).idle 5 ((cfgM m hO).grid.coords t) = false := by rw [idle5 m hO hR]; exact decide_eq_false (not_not_intro hu)
    unfold Dat.leavesExact; rw [hi, after0_5, hla]
  unfold bodyPre bodyPost bodyAt0
  simp only [before0_0, before0_1, before0_2, before0_3, before0_4, after0_0, after0_1, after0_2, after0_3, after0_4]
  rw [show (dats m hO 0 c).owesAt () t.succ = (dats m hO 0 c).owesAt () t.castSucc from rfl, PhiS_castSucc, show (dats m hO 0 c).Φ t.succ = PhiS m hO c (t.val + 1) t.isLt from rfl, PhiS_succ]
  rw [hl, hla]
  rw [PhiS_zero m hO c t.val _ h0]
  unfold outAt sc0 sc1
  iintro ⟨⟨⟨⟨HS0, HS1⟩, Hg⟩, HT0, HT1⟩, Ho, ⟨%d0, H0⟩, ⟨%d1, H1⟩, ⟨%d2, H2⟩, ⟨%d3, H3⟩, ⟨%d4, H4⟩, ⟨%d5, H5⟩⟩
  iapply pointA c (grid0.coords t) (spec0_0.stage ((cfg0 (adm m hO)).slots t 0)) (hstage0_0 (((cfg0 (adm m hO)).slots t 0).cast nbuf0_0)) (spec0_1.stage ((cfg0 (adm m hO)).slots t 1)) (hstage0_1 (((cfg0 (adm m hO)).slots t 1).cast nbuf0_1)) (spec0_2.stage ((cfg0 (adm m hO)).slots t 2)) (hstage0_2 (((cfg0 (adm m hO)).slots t 2).cast nbuf0_2)) (spec0_3.stage ((cfg0 (adm m hO)).slots t 3)) (hstage0_3 (((cfg0 (adm m hO)).slots t 3).cast nbuf0_3)) (spec0_4.stage ((cfg0 (adm m hO)).slots t 4)) (hstage0_4 (((cfg0 (adm m hO)).slots t 4).cast nbuf0_4)) (spec0_5.stage ((cfg0 (adm m hO)).slots t 5)) (hstage0_5 (((cfg0 (adm m hO)).slots t 5).cast nbuf0_5)) (Memref.whole cc0_scratch0) (Memref.isWhole_whole _) (Memref.whole cc0_scratch1) (Memref.isWhole_whole _) (tbl m 0) (tbl m 1) hc0 hc1 (iblk m hO c 0 t) (iblk m hO c 1 t) (iblk m hO c 2 t) (iblk m hO c 3 t) (iblk m hO c 4 t)  Set.univ _
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨HT0, HT1, H0, H1, H2, H3, H4, H5, HS0, HS1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5
/-- A point with a new expert converts its weights. -/
theorem body_new (hR : Routed m) (c : Dev nD) (t : Fin (cfgM m hO).N) (hu : t.val < (nus m).toNat) (h0 : t.val ≠ 0) (he : bex m ⟨t.val, t_lt t⟩ ≠ bex m ⟨t.val - 1, by have := t_lt t; omega⟩) :
    bodyPre m hO c t ⊢ wp frame (wpE (defs₀ (F := F)) Variants.none c none) Set.univ (bodyAt0 (adm m hO) t) (fun _ => bodyPost m hO c t) := by
  have hla : la m t.val t.isLt = t := la_lt m t.val t.isLt hu
  have hc1 : k0_cond2 (grid0.coords t) (wordU c (tbl m 1)) = 1#1 := by rw [wordU_eq]; exact (cond2_iff m hR t).mpr hu
  have hn : t.val = 0 ∨ bex m ⟨t.val, t_lt t⟩ ≠ bex m ⟨t.val - 1, by have := t_lt t; omega⟩ := Or.inr he
  have hc0 : isNew (grid0.coords t) (wordU c (tbl m 1)) (wordA c (grid0.coords t) (tbl m 0)) (wordB c (grid0.coords t) (tbl m 0)) := by
    rw [wordU_eq, wordA_eq, wordB_eq]; exact (isNew_iff m hR t _ _).mpr ⟨hu, hn⟩
  have hl : (dats m hO 0 c).leavesExact 5 t = owns (c : Thread nD τ) (st0_5 (adm m hO) t) fullShare (outAt m hO c t) := by
    have hi : (cfgM m hO).idle 5 ((cfgM m hO).grid.coords t) = false := by rw [idle5 m hO hR]; exact decide_eq_false (not_not_intro hu)
    unfold Dat.leavesExact; rw [hi, after0_5, hla]
  unfold bodyPre bodyPost bodyAt0
  simp only [before0_0, before0_1, before0_2, before0_3, before0_4, after0_0, after0_1, after0_2, after0_3, after0_4]
  rw [show (dats m hO 0 c).owesAt () t.succ = (dats m hO 0 c).owesAt () t.castSucc from rfl, PhiS_castSucc, show (dats m hO 0 c).Φ t.succ = PhiS m hO c (t.val + 1) t.isLt from rfl, PhiS_succ]
  rw [hl, hla]
  rw [PhiS_pos m hO c t.val _ h0]
  unfold outAt sc0 sc1
  iintro ⟨⟨⟨⟨HS0, HS1⟩, Hg⟩, HT0, HT1⟩, Ho, ⟨%d0, H0⟩, ⟨%d1, H1⟩, ⟨%d2, H2⟩, ⟨%d3, H3⟩, ⟨%d4, H4⟩, ⟨%d5, H5⟩⟩
  iapply pointA c (grid0.coords t) (spec0_0.stage ((cfg0 (adm m hO)).slots t 0)) (hstage0_0 (((cfg0 (adm m hO)).slots t 0).cast nbuf0_0)) (spec0_1.stage ((cfg0 (adm m hO)).slots t 1)) (hstage0_1 (((cfg0 (adm m hO)).slots t 1).cast nbuf0_1)) (spec0_2.stage ((cfg0 (adm m hO)).slots t 2)) (hstage0_2 (((cfg0 (adm m hO)).slots t 2).cast nbuf0_2)) (spec0_3.stage ((cfg0 (adm m hO)).slots t 3)) (hstage0_3 (((cfg0 (adm m hO)).slots t 3).cast nbuf0_3)) (spec0_4.stage ((cfg0 (adm m hO)).slots t 4)) (hstage0_4 (((cfg0 (adm m hO)).slots t 4).cast nbuf0_4)) (spec0_5.stage ((cfg0 (adm m hO)).slots t 5)) (hstage0_5 (((cfg0 (adm m hO)).slots t 5).cast nbuf0_5)) (Memref.whole cc0_scratch0) (Memref.isWhole_whole _) (Memref.whole cc0_scratch1) (Memref.isWhole_whole _) (tbl m 0) (tbl m 1) hc0 hc1 (iblk m hO c 0 t) (iblk m hO c 1 t) (iblk m hO c 2 t) (iblk m hO c 3 t) (iblk m hO c 4 t)  Set.univ _
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexists _; iexact H5
  isplitl [HS0]; · iexists _; iexact HS0
  isplitl [HS1]; · iexists _; iexact HS1
  iintro ⟨HT0, HT1, H0, H1, H2, H3, H4, H5, HS0, HS1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5
/-- A point with the expert before's uses the weights converted before. -/
theorem body_same (hR : Routed m) (c : Dev nD) (t : Fin (cfgM m hO).N) (hu : t.val < (nus m).toNat) (h0 : t.val ≠ 0) (he : bex m ⟨t.val, t_lt t⟩ = bex m ⟨t.val - 1, by have := t_lt t; omega⟩) :
    bodyPre m hO c t ⊢ wp frame (wpE (defs₀ (F := F)) Variants.none c none) Set.univ (bodyAt0 (adm m hO) t) (fun _ => bodyPost m hO c t) := by
  have hla : la m t.val t.isLt = t := la_lt m t.val t.isLt hu
  have hc1 : k0_cond2 (grid0.coords t) (wordU c (tbl m 1)) = 1#1 := by rw [wordU_eq]; exact (cond2_iff m hR t).mpr hu
  have hc0 : ¬isNew (grid0.coords t) (wordU c (tbl m 1)) (wordA c (grid0.coords t) (tbl m 0)) (wordB c (grid0.coords t) (tbl m 0)) := by
    rw [wordU_eq, wordA_eq, wordB_eq]; exact fun h => ((isNew_iff m hR t _ _).mp h).2.elim h0 fun h => h he
  have hl : (dats m hO 0 c).leavesExact 5 t = owns (c : Thread nD τ) (st0_5 (adm m hO) t) fullShare (outAt m hO c t) := by
    have hi : (cfgM m hO).idle 5 ((cfgM m hO).grid.coords t) = false := by rw [idle5 m hO hR]; exact decide_eq_false (not_not_intro hu)
    unfold Dat.leavesExact; rw [hi, after0_5, hla]
  unfold bodyPre bodyPost bodyAt0
  simp only [before0_0, before0_1, before0_2, before0_3, before0_4, after0_0, after0_1, after0_2, after0_3, after0_4]
  rw [show (dats m hO 0 c).owesAt () t.succ = (dats m hO 0 c).owesAt () t.castSucc from rfl, PhiS_castSucc, show (dats m hO 0 c).Φ t.succ = PhiS m hO c (t.val + 1) t.isLt from rfl, PhiS_succ]
  rw [hl, hla]
  have hp : la m (t.val - 1) (by have := t.isLt; omega) = ⟨t.val - 1, by have := t.isLt; omega⟩ := la_lt m (t.val - 1) _ (by omega)
  rw [PhiS_pos m hO c t.val _ h0, hp, sc0_congr m hO hR c ⟨t.val - 1, by have := t.isLt; omega⟩ t he.symm, sc1_congr m hO hR c ⟨t.val - 1, by have := t.isLt; omega⟩ t he.symm]
  unfold outAt
  iintro ⟨⟨⟨⟨HS0, HS1⟩, Hg⟩, HT0, HT1⟩, Ho, ⟨%d0, H0⟩, ⟨%d1, H1⟩, ⟨%d2, H2⟩, ⟨%d3, H3⟩, ⟨%d4, H4⟩, ⟨%d5, H5⟩⟩
  iapply pointB c (grid0.coords t) (spec0_0.stage ((cfg0 (adm m hO)).slots t 0)) (hstage0_0 (((cfg0 (adm m hO)).slots t 0).cast nbuf0_0)) (spec0_1.stage ((cfg0 (adm m hO)).slots t 1)) (hstage0_1 (((cfg0 (adm m hO)).slots t 1).cast nbuf0_1)) (spec0_2.stage ((cfg0 (adm m hO)).slots t 2)) (hstage0_2 (((cfg0 (adm m hO)).slots t 2).cast nbuf0_2)) (spec0_3.stage ((cfg0 (adm m hO)).slots t 3)) (hstage0_3 (((cfg0 (adm m hO)).slots t 3).cast nbuf0_3)) (spec0_4.stage ((cfg0 (adm m hO)).slots t 4)) (hstage0_4 (((cfg0 (adm m hO)).slots t 4).cast nbuf0_4)) (spec0_5.stage ((cfg0 (adm m hO)).slots t 5)) (hstage0_5 (((cfg0 (adm m hO)).slots t 5).cast nbuf0_5)) (Memref.whole cc0_scratch0) (Memref.isWhole_whole _) (Memref.whole cc0_scratch1) (Memref.isWhole_whole _) (tbl m 0) (tbl m 1) hc0 hc1 (iblk m hO c 0 t) (iblk m hO c 1 t) (iblk m hO c 2 t) (iblk m hO c 3 t) (iblk m hO c 4 t) (sc0 m hO c t) (sc1 m hO c t) Set.univ _
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨HT0, HT1, H0, H1, H2, H3, H4, H5, HS0, HS1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5
/-- A point past the blocks in use does nothing. -/
theorem body_idle (hR : Routed m) (c : Dev nD) (t : Fin (cfgM m hO).N) (hu : ¬ t.val < (nus m).toNat) :
    bodyPre m hO c t ⊢ wp frame (wpE (defs₀ (F := F)) Variants.none c none) Set.univ (bodyAt0 (adm m hO) t) (fun _ => bodyPost m hO c t) := by
  have h1 := hR.pos
  have h0 : t.val ≠ 0 := by omega
  have hc1 : ¬k0_cond2 (grid0.coords t) (wordU c (tbl m 1)) = 1#1 := by rw [wordU_eq]; exact fun h => hu ((cond2_iff m hR t).mp h)
  have hc0 : ¬isNew (grid0.coords t) (wordU c (tbl m 1)) (wordA c (grid0.coords t) (tbl m 0)) (wordB c (grid0.coords t) (tbl m 0)) := by
    rw [wordU_eq, wordA_eq, wordB_eq]; exact fun h => hu ((isNew_iff m hR t _ _).mp h).1
  have hl : owns (c : Thread nD τ) (st0_5 (adm m hO) t) fullShare ((dats m hO 0 c).after 5 t) ⊢ (dats m hO 0 c).leavesExact 5 t := by
    have hi : (cfgM m hO).idle 5 ((cfgM m hO).grid.coords t) = true := by rw [idle5 m hO hR]; exact decide_eq_true hu
    cases hf : ((cfgM m hO).win 5).flush t with
    | false =>
      rw [Dat.leavesExact_idle _ 5 t hi hf]
      iintro H; iexists ((dats m hO 0 c).after 5 t)
      rw [before5_idle m hO hR c t hu]
      iexact H
    | true => unfold Dat.leavesExact; rw [hi, hf]
  unfold bodyPre bodyPost bodyAt0
  simp only [before5_idle m hO hR c t hu]
  simp only [before0_0, before0_1, before0_2, before0_3, before0_4, after0_0, after0_1, after0_2, after0_3, after0_4]
  rw [show (dats m hO 0 c).owesAt () t.succ = (dats m hO 0 c).owesAt () t.castSucc from rfl, PhiS_castSucc, show (dats m hO 0 c).Φ t.succ = PhiS m hO c (t.val + 1) t.isLt from rfl, PhiS_succ]
  rw [PhiS_pos m hO c t.val _ h0, la_ge m t.val t.isLt hu h1]
  iintro ⟨⟨⟨⟨HS0, HS1⟩, Hg⟩, HT0, HT1⟩, Ho, ⟨%d0, H0⟩, ⟨%d1, H1⟩, ⟨%d2, H2⟩, ⟨%d3, H3⟩, ⟨%d4, H4⟩, ⟨%d5, H5⟩⟩
  iapply runC c (grid0.coords t) (spec0_0.stage ((cfg0 (adm m hO)).slots t 0)) (hstage0_0 (((cfg0 (adm m hO)).slots t 0).cast nbuf0_0)) (spec0_1.stage ((cfg0 (adm m hO)).slots t 1)) (hstage0_1 (((cfg0 (adm m hO)).slots t 1).cast nbuf0_1)) (spec0_2.stage ((cfg0 (adm m hO)).slots t 2)) (hstage0_2 (((cfg0 (adm m hO)).slots t 2).cast nbuf0_2)) (spec0_3.stage ((cfg0 (adm m hO)).slots t 3)) (hstage0_3 (((cfg0 (adm m hO)).slots t 3).cast nbuf0_3)) (spec0_4.stage ((cfg0 (adm m hO)).slots t 4)) (hstage0_4 (((cfg0 (adm m hO)).slots t 4).cast nbuf0_4)) (spec0_5.stage ((cfg0 (adm m hO)).slots t 5)) (hstage0_5 (((cfg0 (adm m hO)).slots t 5).cast nbuf0_5)) (Memref.whole cc0_scratch0) (Memref.isWhole_whole _) (Memref.whole cc0_scratch1) (Memref.isWhole_whole _) (tbl m 0) (tbl m 1) hc0 hc1 Set.univ _
  isplitl [HT0]; · iexact HT0
  isplitl [HT1]; · iexact HT1
  iintro ⟨HT0, HT1⟩
  isplitl [HS0 HS1 Hg HT0 HT1]
  · isplitl [HS0 HS1 Hg]
    · isplitl [HS0 HS1]
      · isplitl [HS0]; · iexact HS0
        iexact HS1
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iapply hl
  iexact H5

/-- The body at every point. -/
theorem sound_body (hR : Routed m) (c : Dev nD) (t : Fin (cfgM m hO).N) :
    bodyPre m hO c t ⊢ wp frame (wpE (defs₀ (F := F)) Variants.none c none) Set.univ (bodyAt0 (adm m hO) t) (fun _ => bodyPost m hO c t) := by
  by_cases hu : t.val < (nus m).toNat
  · by_cases h0 : t.val = 0
    · exact body_first m hO hR c t hu h0
    · by_cases he : bex m ⟨t.val, t_lt t⟩ = bex m ⟨t.val - 1, by have := t_lt t; omega⟩
      · exact body_same m hO hR c t hu h0 he
      · exact body_new m hO hR c t hu h0 he
  · exact body_idle m hO hR c t hu

/-- The body table's row is the body. -/
theorem defs₀_row (a : (pcfg0 (F := F)).Adm) (t : Fin (cfg0 a).N) :
    defs₀ (F := F) .tc (cfg0 a).body ((cfg0 a).bodyArgs t ((cfg0 a).slots t)) = bodyAt0 a t := by
  unfold defs₀; rw [Defs.onTc_tc]

/-- The body obligation of any proof data, its windows' contents after a point named. -/
theorem obligation_of {cfg : Cfg sig Λ₀} {c : Dev nD} (dat : Dat τ (Elt F) Unit ℕ (UR sig nD τ) ℕ cfg c)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ (F := F) .tc cfg.body (cfg.bodyArgs t (cfg.slots t))) fun _ =>
          iprop(dat.Φ t.succ ∗ dat.owesAt () t.succ ∗ bigSep Finset.univ fun w : Fin cfg.W => dat.leavesExact w t)) :
    BodyObligation dat (defs₀ (F := F)) Variants.none () Set.univ := fun t => h t

/-- The pipeline's body obligation. -/
theorem body_obligation (hR : Routed m) (c : Dev nD) : BodyObligation (dats (F := F) m hO 0 c) (defs₀ (F := F)) Variants.none () Set.univ := by
  refine obligation_of (dats (F := F) m hO 0 c) fun t => ?_
  rw [bigSep_W0, bigSep_W0, defs₀_row]
  refine triple_restated (sound_body m hO hR c t) rfl .rfl fun _ => ?_
  unfold bodyPost
  iintro ⟨HP, Ho, H0, H1, H2, H3, H4, H5⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  iexact H5

/-- What the launch hands the region is the invariant before the first point. -/
theorem hin (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl]
  unfold PhiS
  exact Idealize.SL.BI.Entails.refl _
/-- After the last point the invariant gives it back. -/
theorem hout (c : Dev nD) : (dats m hO 0 c).Φ (Fin.last (cfgM m hO).N) ⊢ (Pipeline.ΦA spec0 c : sProp 𝕄) := by
  have hN : (cfgM m hO).N = 296 := N_0
  rw [show (dats m hO 0 c).Φ (Fin.last (cfgM m hO).N) = PhiS m hO c (cfgM m hO).N (Nat.le_refl _) from rfl, PhiS_pos m hO c _ _ (by omega), PhiA0_eq]
  iintro ⟨⟨⟨HS0, HS1⟩, Hg⟩, HT⟩
  isplitl [HS0 HS1]
  · isplitl [HS0]
    · iexists _; iexact HS0
    iexists _; iexact HS1
  iexact Hg

set_option backward.isDefEq.respectTransparency.types false in
/-- The run of the whole program, every counter at zero at its end. -/
theorem run_quiescent (hR : Routed m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hR c).loose) (hshare := fun _ w => match w with | ⟨0, _⟩ => rfl | ⟨1, _⟩ => rfl | ⟨2, _⟩ => rfl | ⟨3, _⟩ => rfl | ⟨4, _⟩ => rfl | ⟨5, _⟩ => rfl)
    (howed := fun _ _ => rfl) (V := V m) (hmain := hmain m Variants.none) (hA := A_eq m hO) (hpf := V_pre m) (hin := hin m hO) (hout := hout m hO)

theorem run_main (hR : Routed m) : θ_run defs (onTc (τ := τ) (main (F := F))) (s₀ m ρ) (Pipeline.FramePost (Pipeline.pin pcfgs fun _ => adm m hO) (dats m hO) 0 (V m)) :=
  (θ_run defs _ _).mono (fun _ h => h.1) (run_quiescent m ρ hO hR)

end Cert.Kernel2Ideal.Moe

end
-- ==== Proof.MoeTables.lean ====
/-
  What the condition on the experts' tables says: every block the kernel names is inside its array.
-/
module

public import proofs.«01_k».proof.Proof.MoeBody
public import proofs.«01_k».proof.Pre_routed
public import proofs.«01_k».proof.On_rows_used
public import Idealize.ShloMosaic.Lib.Pipeline.Covers

@[expose] public section

set_option maxRecDepth 16384

noncomputable section

namespace Cert.Kernel2Ideal.Moe

open Cert.Kernel2Ideal.Gen
open Idealize.ShloMosaic Idealize.ShloMosaic.TcCoe

/-- A comparison's bit that is one says the comparison holds. -/
theorem of_bit {b : Bool} (h : BitVec.ofBool b = 1#1) : b = true := by cases b <;> simp_all
/-- A word from 0 below 32. -/
theorem word_lt (w : BitVec 32) (h0 : IntOp.cmpi .sge w 0#32 = 1#1) (h1 : IntOp.cmpi .slt w 32#32 = 1#1) : w.toNat < 32 := by
  have a : (0#32).toInt ≤ w.toInt := of_decide_eq_true (of_bit h0)
  have b : w.toInt < (32#32).toInt := of_decide_eq_true (of_bit h1)
  have e := BitVec.toInt_eq_toNat_cond w
  have e0 : (0#32).toInt = 0 := by decide
  have e1 : (32#32).toInt = 32 := by decide
  have := w.isLt
  split at e <;> omega
/-- A word from 1 to 296. -/
theorem word_le (w : BitVec 32) (h0 : IntOp.cmpi .sge w 1#32 = 1#1) (h1 : IntOp.cmpi .sle w 296#32 = 1#1) : 1 ≤ w.toNat ∧ w.toNat ≤ 296 := by
  have a : (1#32).toInt ≤ w.toInt := of_decide_eq_true (of_bit h0)
  have b : w.toInt ≤ (296#32).toInt := of_decide_eq_true (of_bit h1)
  have e := BitVec.toInt_eq_toNat_cond w
  have e0 : (1#32).toInt = 1 := by decide
  have e1 : (296#32).toInt = 296 := by decide
  have := w.isLt
  split at e <;> omega
/-- A row's number is below the rows of the blocks in use. -/
theorem word_row (n : ℕ) (w : BitVec 32) (hn : n < 1212416) (hw : w.toNat ≤ 296) (h : IntOp.cmpi .slt (BitVec.ofNat 32 n) (w * 4096#32) = 1#1) : n < w.toNat * 4096 := by
  have b : (BitVec.ofNat 32 n).toInt < (w * 4096#32).toInt := of_decide_eq_true (of_bit h)
  have e1 : (w * 4096#32).toNat = w.toNat * 4096 := by
    rw [BitVec.toNat_mul]
    have : (4096#32).toNat = 4096 := rfl
    rw [this]; omega
  have e2 : (BitVec.ofNat 32 n).toNat = n := by rw [BitVec.toNat_ofNat]; omega
  rw [WordCmp.toInt_eq_toNat_of_lt_half (by omega), WordCmp.toInt_eq_toNat_of_lt_half (by omega), e1, e2] at b
  omega

variable {F : FTy → Type} [FloatOps F]
variable (m : (ℓ : Loc nD τ sig) → Buf (Elt F) ℓ)

theorem bex_eq (c : Dev nD) (n : Fin 296) : bex m n = (m ((c.tc : Thread nD τ).loc main_arg0) : IVec S296 32) (ix1 n) := by
  obtain rfl : c = 0 := Subsingleton.elim _ _
  exact congrFun (V_main_arg0 m 0) (ix1 n)
theorem nus_eq (c : Dev nD) : nus m = (m ((c.tc : Thread nD τ).loc main_arg1) : IVec S1 32) (ix1 (n0 := 1) 0) := by
  obtain rfl : c = 0 := Subsingleton.elim _ _
  exact congrFun (V_main_arg1 m 0) (ix1 (n0 := 1) 0)

/-- The condition on the tables, in plain numbers. -/
theorem routed_of [Cert.Pre_routed.Facts] (c : Dev nD) (a2 : FVec F S151552x1024 .f32) (a3 : FVec F S1x32x1024x2048 .f32) (a4 : FVec F S1x32x2048 .f32) (a5 : FVec F S1x32x1024x1024 .f32) (a6 : FVec F S1x32x1024 .f32)
    (h0 : (Cert.Pre_routed.fn (F := F) (m ((c.tc : Thread nD τ).loc main_arg0)) (m ((c.tc : Thread nD τ).loc main_arg1)) a2 a3 a4 a5 a6).1 = fun _ => 1#1)
    (h1 : (Cert.Pre_routed.fn (F := F) (m ((c.tc : Thread nD τ).loc main_arg0)) (m ((c.tc : Thread nD τ).loc main_arg1)) a2 a3 a4 a5 a6).2.1 = fun _ => 1#1)
    (h2 : (Cert.Pre_routed.fn (F := F) (m ((c.tc : Thread nD τ).loc main_arg0)) (m ((c.tc : Thread nD τ).loc main_arg1)) a2 a3 a4 a5 a6).2.2.1 = fun _ => 1#1)
    (h3 : (Cert.Pre_routed.fn (F := F) (m ((c.tc : Thread nD τ).loc main_arg0)) (m ((c.tc : Thread nD τ).loc main_arg1)) a2 a3 a4 a5 a6).2.2.2 = fun _ => 1#1) : Routed m where
  lt n := by
    rw [bex_eq m c n]
    exact word_lt _ (congrFun h0 (ix1 n)) (congrFun h1 (ix1 n))
  pos := by
    rw [nus_eq m c]
    exact (word_le _ (congrFun h2 (ix1 (n0 := 1) 0)) (congrFun h3 (ix1 (n0 := 1) 0))).1
  le := by
    rw [nus_eq m c]
    exact (word_le _ (congrFun h2 (ix1 (n0 := 1) 0)) (congrFun h3 (ix1 (n0 := 1) 0))).2

/-- A row the claim is about is in a block in use. -/
theorem row_used [Cert.On_rows_used.Facts] (hR : Routed m) (c : Dev nD) (a0 : IVec S296 32) (a2 : FVec F S151552x1024 .f32) (a3 : FVec F S1x32x1024x2048 .f32) (a4 : FVec F S1x32x2048 .f32) (a5 : FVec F S1x32x1024x1024 .f32) (a6 : FVec F S1x32x1024 .f32)
    (i : S1212416x128.Idx) (h : Cert.On_rows_used.fn (F := F) a0 (m ((c.tc : Thread nD τ).loc main_arg1)) a2 a3 a4 a5 a6 i = 1#1) : (i 0).val < (nus m).toNat * 4096 := by
  refine word_row _ _ (i 0).isLt hR.le (Eq.trans ?_ h)
  refine congrArg (IntOp.cmpi .slt (BitVec.ofNat 32 (i 0).val)) (congrArg (· * 4096#32) ?_)
  rw [nus_eq m c]
  generalize (m ((c.tc : Thread nD τ).loc main_arg1) : IVec S1 32) = y
  refine congrArg y (funext fun a => ?_)
  obtain rfl : a = 0 := Subsingleton.elim (α := Fin 1) _ _
  exact Subsingleton.elim (α := Fin 1) _ _

/-- The blocks of the rows are inside their array, -/
theorem in_rows (n k : ℕ) (hn : n < 296) (a : Fin 2) : ((![min n k, 0] : Fin 2 → ℕ) a + 1) * S4096x128.size a ≤ S1212416x128.size a := by
  match a with
  | 0 => show (min n k + 1) * 4096 ≤ 1212416; omega
  | 1 => show (0 + 1) * 128 ≤ 128; omega
/-- and the blocks of the weights and the biases. -/
theorem in_w1 (e : ℕ) (h : e < 32) (a : Fin 3) : ((![e, 0, 0] : Fin 3 → ℕ) a + 1) * S1x1024x2048.size a ≤ S32x1024x2048.size a := by
  match a with
  | 0 => show (e + 1) * 1 ≤ 32; omega
  | 1 => show (0 + 1) * 1024 ≤ 1024; omega
  | 2 => show (0 + 1) * 2048 ≤ 2048; omega
theorem in_w2 (e : ℕ) (h : e < 32) (a : Fin 3) : ((![e, 0, 0] : Fin 3 → ℕ) a + 1) * S1x1x2048.size a ≤ S32x1x2048.size a := by
  match a with
  | 0 => show (e + 1) * 1 ≤ 32; omega
  | 1 => show (0 + 1) * 1 ≤ 1; omega
  | 2 => show (0 + 1) * 2048 ≤ 2048; omega
theorem in_w3 (e : ℕ) (h : e < 32) (a : Fin 3) : ((![e, 0, 0] : Fin 3 → ℕ) a + 1) * S1x1024x1024.size a ≤ S32x1024x1024.size a := by
  match a with
  | 0 => show (e + 1) * 1 ≤ 32; omega
  | 1 => show (0 + 1) * 1024 ≤ 1024; omega
  | 2 => show (0 + 1) * 1024 ≤ 1024; omega
theorem in_w4 (e : ℕ) (h : e < 32) (a : Fin 3) : ((![e, 0, 0] : Fin 3 → ℕ) a + 1) * S1x1x1024.size a ≤ S32x1x1024.size a := by
  match a with
  | 0 => show (e + 1) * 1 ≤ 32; omega
  | 1 => show (0 + 1) * 1 ≤ 1; omega
  | 2 => show (0 + 1) * 1024 ≤ 1024; omega

/-- Every block the kernel names is inside its array. -/
theorem ok_of (hR : Routed m) : Ok m := by
  have h : ∀ (i : grid0.Coords), ∃ t, grid0.coords t = i := grid0.coords_surjective
  refine ⟨fun i => ?_, fun i => ?_, fun i => ?_, fun i => ?_, fun i => ?_, fun i => ?_⟩
  · obtain ⟨t, rfl⟩ := h i
    exact ⟨fun a => by rw [idx_x m hR t]; exact in_rows _ _ (t_lt t) a, Or.inl rfl⟩
  · obtain ⟨t, rfl⟩ := h i
    exact ⟨fun a => by rw [idx_w m t]; exact in_w1 _ (hR.lt _) a, Or.inl rfl⟩
  · obtain ⟨t, rfl⟩ := h i
    exact ⟨fun a => by rw [show cc0_transform_2 k0_off1_inb numel1_S1 (tbl m) (grid0.coords t) = _ from idx_w m t]; exact in_w2 _ (hR.lt _) a, Or.inl rfl⟩
  · obtain ⟨t, rfl⟩ := h i
    exact ⟨fun a => by rw [show cc0_transform_3 k0_off1_inb numel1_S1 (tbl m) (grid0.coords t) = _ from idx_w m t]; exact in_w3 _ (hR.lt _) a, Or.inl rfl⟩
  · obtain ⟨t, rfl⟩ := h i
    exact ⟨fun a => by rw [show cc0_transform_4 k0_off1_inb numel1_S1 (tbl m) (grid0.coords t) = _ from idx_w m t]; exact in_w4 _ (hR.lt _) a, Or.inl rfl⟩
  · obtain ⟨t, rfl⟩ := h i
    exact ⟨fun a => by rw [idx_y m hR t]; exact in_rows _ _ (t_lt t) a, Or.inl rfl⟩

/-- The experts' kernel runs on tables in range, leaves its arguments unchanged and its counters at zero. -/
theorem frame (ρ : Dev nD → PrngReg) (hR : Routed m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c),
      ((h.1 c).2 main_arg6 (by decide : main_arg6 ∈ Pipeline.restRefs sig spec0)).trans (V_main_arg6 m c)⟩, h.2⟩) (run_quiescent m ρ (ok_of m hR) hR)

end Cert.Kernel2Ideal.Moe

end
-- ==== Proof.MoeForm.lean ====
/- The formulas of an expert, shared by the two programs: the gated hidden entry and the expert's row. -/
module

public import Idealize.ShloMosaic.Lib.Pointwise
public import Idealize.ShloMosaic.Lib.KernelVsHost

@[expose] public section

set_option maxRecDepth 16384

noncomputable section

namespace Cert.Moe

open Idealize.ShloMosaic

/-- A row times a column, plus a bias. -/
def lin (x w : Fin 1024 → EReal) (b : EReal) : EReal := (∑ j, x j * w j) + b

/-- The gate's half, clamped above. -/
def gate (g : EReal) : EReal := min g (Ideal.ofBits .f32 0x40E00000#32)
/-- The other half, clamped, plus one. -/
def up (u : EReal) : EReal := min (Ideal.ofBits .f32 0x40E00000#32) (max (Ideal.ofBits .f32 0xC0E00000#32) u) + 1
/-- The gated hidden entry of the two clamped halves. -/
def gated (a u : EReal) : EReal :=
  u * (a * Ideal.div 1 (1 + Ideal.exp (-(a * Ideal.ofBits .f32 0x3FD9DB23#32))))

/-- An entry of an expert's row: the first product and bias, the gated halves, the second product and bias. -/
def expert (x : Fin 1024 → EReal) (w : Fin 1024 → Fin 2048 → EReal) (b : Fin 2048 → EReal) (d : Fin 1024 → Fin 1024 → EReal) (e : Fin 1024 → EReal) (k : Fin 1024) : EReal :=
  lin (fun h => gated (gate (lin x (fun j => w j ⟨h.val, by omega⟩) (b ⟨h.val, by omega⟩))) (up (lin x (fun j => w j ⟨1024 + h.val, by omega⟩) (b ⟨1024 + h.val, by omega⟩)))) (fun h => d h k) (e k)

end Cert.Moe

end
-- ==== Proof.MoePay.lean ====
/- The rows a grid point of the experts' kernel computes, entry by entry. -/
module

public import proofs.«01_k».proof.Proof.MoeOut
public import proofs.«01_k».proof.Proof.MoeForm

@[expose] public section

set_option maxRecDepth 16384

noncomputable section

namespace Cert.Kernel2Ideal.Moe

open Cert.Kernel2Ideal.Gen Cert.Moe
open Idealize.ShloMosaic Idealize.ShloMosaic.TcCoe

/-- The eight slabs side by side are the rows of 1024. -/
def joined (x : Vec Ideal S4096x128 .f32) (r : Fin 512) (j : Fin 1024) : EReal :=
  x (ix2 (n0 := 4096) (n1 := 128) ⟨8 * r.val + j.val / 128, by omega⟩ ⟨j.val % 128, by omega⟩)

/-- A slab's entry is an entry of the joined row. -/
theorem slab_joined (x : Vec Ideal S4096x128 .f32) (s : ℕ) (hs : s < 8) (r : Fin 512) (j : Fin 1024) (t : Fin 128) (h : j.val = 128 * s + t.val) :
    slab x s hs (ix2 r t) = joined x r j := by
  refine congrArg x (funext fun a => Fin.ext ?_)
  match a with
  | ⟨0, _⟩ => show s + 8 * r.val = 8 * r.val + j.val / 128; omega
  | ⟨1, _⟩ => show t.val = j.val % 128; omega
/-- The first product with its bias. -/
theorem pay18_apply (x : Vec Ideal S4096x128 .f32) (w : Vec Ideal S1024x2048 .bf16) (b : Vec Ideal S1x1x2048 .f32) (r : Fin 512) (k : Fin 2048) :
    k0_pay18 (F := Ideal) (slab x 0 (by decide)) (slab x 1 (by decide)) (slab x 2 (by decide)) (slab x 3 (by decide)) (slab x 4 (by decide)) (slab x 5 (by decide)) (slab x 6 (by decide)) (slab x 7 (by decide)) w b (ix2 r k)
      = lin (joined x r) (fun j => w (ix2 j k)) (b (ix3 0 0 k)) := by
  pointwise [k0_pay18]
  refine congrArg (· + b (ix3 0 0 k)) (Finset.sum_congr rfl fun j _ => congrArg (· * w (ix2 j k)) ?_)
  split_ifs <;> exact slab_joined x _ _ r j _ (by dsimp only; omega)

/-- The second product with its bias. -/
theorem pay21_apply (a u : FVec Ideal S512x1024 .f32) (w : Vec Ideal S1024x1024 .bf16) (b : Vec Ideal S1x1x1024 .f32) (r : Fin 512) (k : Fin 1024) :
    k0_pay21 (F := Ideal) a u w b (ix2 r k) = lin (fun h => gated (a (ix2 r h)) (u (ix2 r h))) (fun h => w (ix2 h k)) (b (ix3 0 0 k)) := by
  pointwise [k0_pay21]
  simp only [zero_sub]
  rfl

section
variable (x : Vec Ideal S4096x128 .f32) (w : Vec Ideal S1024x2048 .bf16) (b : Vec Ideal S1x1x2048 .f32) (w' : Vec Ideal S1024x1024 .bf16) (b' : Vec Ideal S1x1x1024 .f32)
/-- The gate's half. -/
theorem gateV_apply (r : Fin 512) (k : Fin 1024) : gateV x w b (ix2 r k) = gate (lin (joined x r) (fun j => w (ix2 j ⟨k.val, by omega⟩)) (b (ix3 0 0 ⟨k.val, by omega⟩))) := by
  rw [← pay18_apply]
  unfold gateV k0_pay19
  generalize k0_pay18 (F := Ideal) _ _ _ _ _ _ _ _ _ _ = y
  pointwise
  rfl
/-- The other half. -/
theorem upV_apply (r : Fin 512) (k : Fin 1024) : upV x w b (ix2 r k) = up (lin (joined x r) (fun j => w (ix2 j ⟨1024 + k.val, by omega⟩)) (b (ix3 0 0 ⟨1024 + k.val, by omega⟩))) := by
  rw [← pay18_apply]
  unfold upV k0_pay20
  generalize k0_pay18 (F := Ideal) _ _ _ _ _ _ _ _ _ _ = y
  pointwise
  rfl
/-- The rows of a grid point are the expert's. -/
theorem rowsV_apply (r : Fin 512) (k : Fin 1024) : rowsV x w b w' b' (ix2 r k)
    = expert (joined x r) (fun j c => w (ix2 j c)) (fun c => b (ix3 0 0 c)) (fun j c => w' (ix2 j c)) (fun c => b' (ix3 0 0 c)) k := by
  unfold rowsV
  rw [pay21_apply]
  unfold expert
  simp only [gateV_apply, upV_apply]
end

end Cert.Kernel2Ideal.Moe

end
-- ==== Proof.MoeRef.lean ====
/- The experts' reference, entry by entry. -/
module

public import proofs.«01_k».proof.Proof.Gen.Reference2Ideal.Read
public import proofs.«01_k».proof.Proof.MoeForm

@[expose] public section

set_option maxRecDepth 16384

noncomputable section

namespace Cert.Reference2Ideal.Moe

open Idealize.ShloMosaic Idealize.ShloMosaic.TcCoe Cert.Reference2Ideal Cert.Reference2Ideal.Gen Cert.Reference2Ideal.Read Cert.Moe

/-- A word of an expert's number, read as a start index. -/
theorem start_word (e : Fin 32) : min (BitVec.ofNat 32 e.val).toInt.toNat (32 - 1) = e.val :=
  (by decide : ∀ e : Fin 32, min (BitVec.ofNat 32 e.val).toInt.toNat (32 - 1) = e.val) e

/-- The rows of the first weights a block takes are its expert's. -/
theorem gather_gu (x : S32x1024x2048.Idx → EReal) (idx : IVec S1184x3 32) (n : Fin 1184) (z : Fin 1) (j : Fin 1024) (k : Fin 2048) (e : Fin 32)
    (h : idx (ix2 n 0) = BitVec.ofNat 32 e.val) :
    Host.gather gather_S32x1024x2048_S1184x3_S1184x1x1024x2048_123_n_n_n_012_1_110242048 x idx (ix4 n z j k) = x (ix3 e j k) := by
  unfold Host.gather
  refine congrArg x (funext fun a => Fin.ext ?_)
  generalize hd : gather_S32x1024x2048_S1184x3_S1184x1x1024x2048_123_n_n_n_012_1_110242048 = d
  show d.start (ix4 n z j k) idx a + d.batchCoord (ix4 n z j k) a + d.offCoord (ix4 n z j k) a = _
  have hb : d.batchCoord (ix4 n z j k) a = 0 := d.batchCoord_eq_zero _ _ (by subst hd; exact List.not_mem_nil)
  rw [hb]
  match a with
  | ⟨0, _⟩ =>
    have hs : d.start (ix4 n z j k) idx 0 = e.val := by
      subst hd
      unfold GatherDims.start
      rw [dif_pos (by decide)]
      refine Eq.trans (congrArg (fun w : BitVec 32 => min w.toInt.toNat (32 - 1)) (?_ : _ = BitVec.ofNat 32 e.val)) (start_word e)
      rw [← h]
      refine congrArg idx (funext fun b => Fin.ext ?_)
      match b with
      | ⟨0, _⟩ => rfl
      | ⟨1, _⟩ => rfl
    have ho : d.offCoord (ix4 n z j k) 0 = z.val := by
      subst hd
      unfold GatherDims.offCoord
      rw [dif_pos (by decide)]
      rfl
    show d.start (ix4 n z j k) idx 0 + 0 + d.offCoord (ix4 n z j k) 0 = e.val
    rw [hs, ho]; omega
  | ⟨1, _⟩ =>
    have hs : d.start (ix4 n z j k) idx 1 = 0 := Nat.le_zero.mp ((d.start_le _ _ _).trans (by subst hd; exact Nat.le_refl 0))
    have ho : d.offCoord (ix4 n z j k) 1 = j.val := by
      subst hd
      unfold GatherDims.offCoord
      rw [dif_pos (by decide)]
      rfl
    show d.start (ix4 n z j k) idx 1 + 0 + d.offCoord (ix4 n z j k) 1 = j.val
    rw [hs, ho]; omega
  | ⟨2, _⟩ =>
    have hs : d.start (ix4 n z j k) idx 2 = 0 := Nat.le_zero.mp ((d.start_le _ _ _).trans (by subst hd; exact Nat.le_refl 0))
    have ho : d.offCoord (ix4 n z j k) 2 = k.val := by
      subst hd
      unfold GatherDims.offCoord
      rw [dif_pos (by decide)]
      rfl
    show d.start (ix4 n z j k) idx 2 + 0 + d.offCoord (ix4 n z j k) 2 = k.val
    rw [hs, ho]; omega

/-- The rows of the second weights a block takes are its expert's. -/
theorem gather_dn (x : S32x1024x1024.Idx → EReal) (idx : IVec S1184x3 32) (n : Fin 1184) (z : Fin 1) (j : Fin 1024) (k : Fin 1024) (e : Fin 32)
    (h : idx (ix2 n 0) = BitVec.ofNat 32 e.val) :
    Host.gather gather_S32x1024x1024_S1184x3_S1184x1x1024x1024_123_n_n_n_012_1_110241024 x idx (ix4 n z j k) = x (ix3 e j k) := by
  unfold Host.gather
  refine congrArg x (funext fun a => Fin.ext ?_)
  generalize hd : gather_S32x1024x1024_S1184x3_S1184x1x1024x1024_123_n_n_n_012_1_110241024 = d
  show d.start (ix4 n z j k) idx a + d.batchCoord (ix4 n z j k) a + d.offCoord (ix4 n z j k) a = _
  have hb : d.batchCoord (ix4 n z j k) a = 0 := d.batchCoord_eq_zero _ _ (by subst hd; exact List.not_mem_nil)
  rw [hb]
  match a with
  | ⟨0, _⟩ =>
    have hs : d.start (ix4 n z j k) idx 0 = e.val := by
      subst hd
      unfold GatherDims.start
      rw [dif_pos (by decide)]
      refine Eq.trans (congrArg (fun w : BitVec 32 => min w.toInt.toNat (32 - 1)) (?_ : _ = BitVec.ofNat 32 e.val)) (start_word e)
      rw [← h]
      refine congrArg idx (funext fun b => Fin.ext ?_)
      match b with
      | ⟨0, _⟩ => rfl
      | ⟨1, _⟩ => rfl
    have ho : d.offCoord (ix4 n z j k) 0 = z.val := by
      subst hd
      unfold GatherDims.offCoord
      rw [dif_pos (by decide)]
      rfl
    show d.start (ix4 n z j k) idx 0 + 0 + d.offCoord (ix4 n z j k) 0 = e.val
    rw [hs, ho]; omega
  | ⟨1, _⟩ =>
    have hs : d.start (ix4 n z j k) idx 1 = 0 := Nat.le_zero.mp ((d.start_le _ _ _).trans (by subst hd; exact Nat.le_refl 0))
    have ho : d.offCoord (ix4 n z j k) 1 = j.val := by
      subst hd
      unfold GatherDims.offCoord
      rw [dif_pos (by decide)]
      rfl
    show d.start (ix4 n z j k) idx 1 + 0 + d.offCoord (ix4 n z j k) 1 = j.val
    rw [hs, ho]; omega
  | ⟨2, _⟩ =>
    have hs : d.start (ix4 n z j k) idx 2 = 0 := Nat.le_zero.mp ((d.start_le _ _ _).trans (by subst hd; exact Nat.le_refl 0))
    have ho : d.offCoord (ix4 n z j k) 2 = k.val := by
      subst hd
      unfold GatherDims.offCoord
      rw [dif_pos (by decide)]
      rfl
    show d.start (ix4 n z j k) idx 2 + 0 + d.offCoord (ix4 n z j k) 2 = k.val
    rw [hs, ho]; omega

/-- The first bias a block takes is its expert's. -/
theorem gather_bgu (x : S32x2048.Idx → EReal) (idx : IVec S1184x2 32) (n : Fin 1184) (z : Fin 1) (k : Fin 2048) (e : Fin 32)
    (h : idx (ix2 n 0) = BitVec.ofNat 32 e.val) :
    Host.gather gather_S32x2048_S1184x2_S1184x1x2048_12_n_n_n_01_1_12048 x idx (ix3 n z k) = x (ix2 e k) := by
  unfold Host.gather
  refine congrArg x (funext fun a => Fin.ext ?_)
  generalize hd : gather_S32x2048_S1184x2_S1184x1x2048_12_n_n_n_01_1_12048 = d
  show d.start (ix3 n z k) idx a + d.batchCoord (ix3 n z k) a + d.offCoord (ix3 n z k) a = _
  have hb : d.batchCoord (ix3 n z k) a = 0 := d.batchCoord_eq_zero _ _ (by subst hd; exact List.not_mem_nil)
  rw [hb]
  match a with
  | ⟨0, _⟩ =>
    have hs : d.start (ix3 n z k) idx 0 = e.val := by
      subst hd
      unfold GatherDims.start
      rw [dif_pos (by decide)]
      refine Eq.trans (congrArg (fun w : BitVec 32 => min w.toInt.toNat (32 - 1)) (?_ : _ = BitVec.ofNat 32 e.val)) (start_word e)
      rw [← h]
      refine congrArg idx (funext fun b => Fin.ext ?_)
      match b with
      | ⟨0, _⟩ => rfl
      | ⟨1, _⟩ => rfl
    have ho : d.offCoord (ix3 n z k) 0 = z.val := by
      subst hd
      unfold GatherDims.offCoord
      rw [dif_pos (by decide)]
      rfl
    show d.start (ix3 n z k) idx 0 + 0 + d.offCoord (ix3 n z k) 0 = e.val
    rw [hs, ho]; omega
  | ⟨1, _⟩ =>
    have hs : d.start (ix3 n z k) idx 1 = 0 := Nat.le_zero.mp ((d.start_le _ _ _).trans (by subst hd; exact Nat.le_refl 0))
    have ho : d.offCoord (ix3 n z k) 1 = k.val := by
      subst hd
      unfold GatherDims.offCoord
      rw [dif_pos (by decide)]
      rfl
    show d.start (ix3 n z k) idx 1 + 0 + d.offCoord (ix3 n z k) 1 = k.val
    rw [hs, ho]; omega

/-- The second bias a block takes is its expert's. -/
theorem gather_bdn (x : S32x1024.Idx → EReal) (idx : IVec S1184x2 32) (n : Fin 1184) (z : Fin 1) (k : Fin 1024) (e : Fin 32)
    (h : idx (ix2 n 0) = BitVec.ofNat 32 e.val) :
    Host.gather gather_S32x1024_S1184x2_S1184x1x1024_12_n_n_n_01_1_11024 x idx (ix3 n z k) = x (ix2 e k) := by
  unfold Host.gather
  refine congrArg x (funext fun a => Fin.ext ?_)
  generalize hd : gather_S32x1024_S1184x2_S1184x1x1024_12_n_n_n_01_1_11024 = d
  show d.start (ix3 n z k) idx a + d.batchCoord (ix3 n z k) a + d.offCoord (ix3 n z k) a = _
  have hb : d.batchCoord (ix3 n z k) a = 0 := d.batchCoord_eq_zero _ _ (by subst hd; exact List.not_mem_nil)
  rw [hb]
  match a with
  | ⟨0, _⟩ =>
    have hs : d.start (ix3 n z k) idx 0 = e.val := by
      subst hd
      unfold GatherDims.start
      rw [dif_pos (by decide)]
      refine Eq.trans (congrArg (fun w : BitVec 32 => min w.toInt.toNat (32 - 1)) (?_ : _ = BitVec.ofNat 32 e.val)) (start_word e)
      rw [← h]
      refine congrArg idx (funext fun b => Fin.ext ?_)
      match b with
      | ⟨0, _⟩ => rfl
      | ⟨1, _⟩ => rfl
    have ho : d.offCoord (ix3 n z k) 0 = z.val := by
      subst hd
      unfold GatherDims.offCoord
      rw [dif_pos (by decide)]
      rfl
    show d.start (ix3 n z k) idx 0 + 0 + d.offCoord (ix3 n z k) 0 = e.val
    rw [hs, ho]; omega
  | ⟨1, _⟩ =>
    have hs : d.start (ix3 n z k) idx 1 = 0 := Nat.le_zero.mp ((d.start_le _ _ _).trans (by subst hd; exact Nat.le_refl 0))
    have ho : d.offCoord (ix3 n z k) 1 = k.val := by
      subst hd
      unfold GatherDims.offCoord
      rw [dif_pos (by decide)]
      rfl
    show d.start (ix3 n z k) idx 1 + 0 + d.offCoord (ix3 n z k) 1 = k.val
    rw [hs, ho]; omega

theorem quarter_lt (n : Fin 1184) : n.val / 4 < 296 := by omega
theorem row_lt (n : Fin 1184) (r : Fin 128) : n.val * 128 + r.val < 151552 := by omega
theorem low_lt (k : Fin 1024) : k.val < 2048 := by omega
theorem high_lt (k : Fin 1024) : 1024 + k.val < 2048 := by omega
/-- An expert's number is not negative. -/
theorem not_neg (e : Fin 32) : IntOp.cmpi .slt (BitVec.ofNat 32 e.val) (0#32) = 0#1 :=
  (by decide : ∀ e : Fin 32, IntOp.cmpi .slt (BitVec.ofNat 32 e.val) (0#32) = 0#1) e

section
variable (x0 : IVec S296 32) (n : Fin 1184) (e : Fin 32) (he : x0 (ix1 ⟨n.val / 4, quarter_lt n⟩) = BitVec.ofNat 32 e.val)
include he

/-- The expert of a block of 128 rows is its 512 rows'. -/
theorem v1_at : val_main_v1 (F := Ideal) x0 (ix1 n) = BitVec.ofNat 32 e.val := by
  rw [val_main_v1_apply, val_main_v0_apply, ← he]
  exact congrArg x0 (funext fun a => match a with | 0 => rfl)
theorem v11_at : val_main_v11 (F := Ideal) x0 (ix1 n) = BitVec.ofNat 32 e.val := by
  rw [val_main_v11_apply, val_main_v8_apply, val_main_v7_apply, v1_at x0 n e he]
  rw [show val_main_c (F := Ideal) (idx_main_v7 (ix1 n)) = 0#32 from rfl, not_neg]; rfl
theorem v29_at : val_main_v29 (F := Ideal) x0 (ix1 n) = BitVec.ofNat 32 e.val := by
  rw [val_main_v29_apply, val_main_v26_apply, val_main_v25_apply, v1_at x0 n e he]
  rw [show val_main_c_11 (F := Ideal) (idx_main_v25 (ix1 n)) = 0#32 from rfl, not_neg]; rfl
theorem v62_at : val_main_v62 (F := Ideal) x0 (ix1 n) = BitVec.ofNat 32 e.val := by
  rw [val_main_v62_apply, val_main_v59_apply, val_main_v58_apply, v1_at x0 n e he]
  rw [show val_main_c_24 (F := Ideal) (idx_main_v58 (ix1 n)) = 0#32 from rfl, not_neg]; rfl
theorem v80_at : val_main_v80 (F := Ideal) x0 (ix1 n) = BitVec.ofNat 32 e.val := by
  rw [val_main_v80_apply, val_main_v77_apply, val_main_v76_apply, v1_at x0 n e he]
  rw [show val_main_c_36 (F := Ideal) (idx_main_v76 (ix1 n)) = 0#32 from rfl, not_neg]; rfl
theorem v21_at : val_main_v21 (F := Ideal) x0 (ix2 n 0) = BitVec.ofNat 32 e.val := by
  unfold val_main_v21
  refine Eq.trans ?_ (v11_at x0 n e he)
  have h : val_main_v18 (F := Ideal) x0 (ix2 n 0) = val_main_v11 (F := Ideal) x0 (ix1 n) := by
    rw [val_main_v18_apply]
    exact congrArg _ (funext fun a => match a with | 0 => rfl)
  rw [← h]
  generalize val_main_v18 (F := Ideal) x0 = y
  pointwise
theorem v72_at : val_main_v72 (F := Ideal) x0 (ix2 n 0) = BitVec.ofNat 32 e.val := by
  unfold val_main_v72
  refine Eq.trans ?_ (v62_at x0 n e he)
  have h : val_main_v69 (F := Ideal) x0 (ix2 n 0) = val_main_v62 (F := Ideal) x0 (ix1 n) := by
    rw [val_main_v69_apply]
    exact congrArg _ (funext fun a => match a with | 0 => rfl)
  rw [← h]
  generalize val_main_v69 (F := Ideal) x0 = y
  pointwise
theorem v35_at : val_main_v35 (F := Ideal) x0 (ix2 n 0) = BitVec.ofNat 32 e.val := by
  unfold val_main_v35
  refine Eq.trans ?_ (v29_at x0 n e he)
  have h : val_main_v33 (F := Ideal) x0 (ix2 n 0) = val_main_v29 (F := Ideal) x0 (ix1 n) := by
    rw [val_main_v33_apply]
    exact congrArg _ (funext fun a => match a with | 0 => rfl)
  rw [← h]
  generalize val_main_v33 (F := Ideal) x0 = y
  pointwise
theorem v86_at : val_main_v86 (F := Ideal) x0 (ix2 n 0) = BitVec.ofNat 32 e.val := by
  unfold val_main_v86
  refine Eq.trans ?_ (v80_at x0 n e he)
  have h : val_main_v84 (F := Ideal) x0 (ix2 n 0) = val_main_v80 (F := Ideal) x0 (ix1 n) := by
    rw [val_main_v84_apply]
    exact congrArg _ (funext fun a => match a with | 0 => rfl)
  rw [← h]
  generalize val_main_v84 (F := Ideal) x0 = y
  pointwise

variable (x2 : S151552x1024.Idx → EReal) (x3 : S1x32x1024x2048.Idx → EReal) (x4 : S1x32x2048.Idx → EReal) (x5 : S1x32x1024x1024.Idx → EReal) (x6 : S1x32x1024.Idx → EReal)

/-- The first weights of a block. -/
theorem v23_at (j : Fin 1024) (k : Fin 2048) : val_main_v23 (F := Ideal) x0 x3 (ix3 n j k) = x3 (ix4 0 e j k) := by
  rw [val_main_v23_apply]
  have hi : idx_main_v23 (ix3 n j k) = ix4 n 0 j k := funext fun a => Fin.ext (match a with
    | 0 => by show ((n.val * 1024 + j.val) * 2048 + k.val) / 2097152 = n.val; omega
    | 1 => rfl
    | 2 => by show ((n.val * 1024 + j.val) * 2048 + k.val) / 2048 % 1024 = j.val; omega
    | 3 => by show ((n.val * 1024 + j.val) * 2048 + k.val) % 2048 = k.val; omega)
  rw [hi]
  refine (gather_gu _ _ n 0 j k e (v21_at x0 n e he)).trans ?_
  rw [val_main_v3_apply]
  exact congrArg x3 (funext fun a => Fin.ext (match a with
    | 0 => rfl
    | 1 => by show ((e.val * 1024 + j.val) * 2048 + k.val) / 2097152 % 32 = e.val; omega
    | 2 => by show ((e.val * 1024 + j.val) * 2048 + k.val) / 2048 % 1024 = j.val; omega
    | 3 => by show ((e.val * 1024 + j.val) * 2048 + k.val) % 2048 = k.val; omega))
/-- The second weights of a block. -/
theorem v74_at (j k : Fin 1024) : val_main_v74 (F := Ideal) x0 x5 (ix3 n j k) = x5 (ix4 0 e j k) := by
  rw [val_main_v74_apply]
  have hi : idx_main_v74 (ix3 n j k) = ix4 n 0 j k := funext fun a => Fin.ext (match a with
    | 0 => by show ((n.val * 1024 + j.val) * 1024 + k.val) / 1048576 = n.val; omega
    | 1 => rfl
    | 2 => by show ((n.val * 1024 + j.val) * 1024 + k.val) / 1024 % 1024 = j.val; omega
    | 3 => by show ((n.val * 1024 + j.val) * 1024 + k.val) % 1024 = k.val; omega)
  rw [hi]
  refine (gather_dn _ _ n 0 j k e (v72_at x0 n e he)).trans ?_
  rw [val_main_v5_apply]
  exact congrArg x5 (funext fun a => Fin.ext (match a with
    | 0 => rfl
    | 1 => by show ((e.val * 1024 + j.val) * 1024 + k.val) / 1048576 % 32 = e.val; omega
    | 2 => by show ((e.val * 1024 + j.val) * 1024 + k.val) / 1024 % 1024 = j.val; omega
    | 3 => by show ((e.val * 1024 + j.val) * 1024 + k.val) % 1024 = k.val; omega))
/-- The first bias of a block. -/
theorem v39_at (r : Fin 128) (k : Fin 2048) : val_main_v39 (F := Ideal) x0 x4 (ix3 n r k) = x4 (ix3 0 e k) := by
  rw [val_main_v39_apply, val_main_v38_apply, val_main_v37_apply]
  have hi : idx_main_v37 (idx_main_v38 (idx_main_v39 (ix3 n r k))) = ix3 n 0 k := funext fun a => Fin.ext (match a with
    | 0 => by show (n.val * 2048 + k.val) / 2048 = n.val; omega
    | 1 => rfl
    | 2 => by show (n.val * 2048 + k.val) % 2048 = k.val; omega)
  rw [hi]
  refine (gather_bgu _ _ n 0 k e (v35_at x0 n e he)).trans ?_
  rw [val_main_v4_apply]
  exact congrArg x4 (funext fun a => Fin.ext (match a with
    | 0 => rfl
    | 1 => by show (e.val * 2048 + k.val) / 2048 % 32 = e.val; omega
    | 2 => by show (e.val * 2048 + k.val) % 2048 = k.val; omega))
/-- The second bias of a block. -/
theorem v90_at (r : Fin 128) (k : Fin 1024) : val_main_v90 (F := Ideal) x0 x6 (ix3 n r k) = x6 (ix3 0 e k) := by
  rw [val_main_v90_apply, val_main_v89_apply, val_main_v88_apply]
  have hi : idx_main_v88 (idx_main_v89 (idx_main_v90 (ix3 n r k))) = ix3 n 0 k := funext fun a => Fin.ext (match a with
    | 0 => by show (n.val * 1024 + k.val) / 1024 = n.val; omega
    | 1 => rfl
    | 2 => by show (n.val * 1024 + k.val) % 1024 = k.val; omega)
  rw [hi]
  refine (gather_bdn _ _ n 0 k e (v86_at x0 n e he)).trans ?_
  rw [val_main_v6_apply]
  exact congrArg x6 (funext fun a => Fin.ext (match a with
    | 0 => rfl
    | 1 => by show (e.val * 1024 + k.val) / 1024 % 32 = e.val; omega
    | 2 => by show (e.val * 1024 + k.val) % 1024 = k.val; omega))
omit he in
/-- The rows of a block. -/
theorem v2_at (r : Fin 128) (j : Fin 1024) : val_main_v2 (F := Ideal) x2 (ix3 n r j) = x2 (ix2 ⟨n.val * 128 + r.val, row_lt n r⟩ j) := by
  rw [val_main_v2_apply]
  exact congrArg x2 (funext fun a => Fin.ext (match a with
    | 0 => by show ((n.val * 128 + r.val) * 1024 + j.val) / 1024 = n.val * 128 + r.val; omega
    | 1 => by show ((n.val * 128 + r.val) * 1024 + j.val) % 1024 = j.val; omega))

/-- The row of a token. -/
def xrow (r : Fin 128) : Fin 1024 → EReal := fun j => x2 (ix2 ⟨n.val * 128 + r.val, row_lt n r⟩ j)

/-- The first product with its bias. -/
theorem v40_at (r : Fin 128) (k : Fin 2048) : val_main_v40 (F := Ideal) x0 x2 x3 x4 (ix3 n r k)
    = lin (xrow n x2 r) (fun j => x3 (ix4 0 e j k)) (x4 (ix3 0 e k)) := by
  rw [val_main_v40_apply, v39_at x0 n e he, val_main_v24_apply]
  refine congrArg (· + x4 (ix3 0 e k)) (Finset.sum_congr rfl fun j _ => ?_)
  have el : lidx_main_v24 (ix3 n r k) j = ix3 n r j := funext fun a => match a with | 0 => rfl | 1 => rfl | 2 => rfl
  have er : ridx_main_v24 (ix3 n r k) j = ix3 n j k := funext fun a => match a with | 0 => rfl | 1 => rfl | 2 => rfl
  rw [el, er, v2_at, v23_at x0 n e he]; rfl
/-- The clamped gate. -/
theorem v44_at (r : Fin 128) (k : Fin 1024) : val_main_v44 (F := Ideal) x0 x2 x3 x4 (ix3 n r k)
    = gate (lin (xrow n x2 r) (fun j => x3 (ix4 0 e j ⟨k.val, low_lt k⟩)) (x4 (ix3 0 e ⟨k.val, low_lt k⟩))) := by
  rw [val_main_v44_apply, val_main_v41_apply, val_main_v43_apply, ← v40_at x0 n e he]
  have e1 : idx_main_v41 (ix3 n r k) = ix3 n r ⟨k.val, low_lt k⟩ := funext fun a => match a with | 0 => rfl | 1 => rfl | 2 => rfl
  rw [e1]; rfl
/-- The clamped other half, plus one. -/
theorem v47_at (r : Fin 128) (k : Fin 1024) : val_main_v47 (F := Ideal) x0 x2 x3 x4 (ix3 n r k)
    = up (lin (xrow n x2 r) (fun j => x3 (ix4 0 e j ⟨1024 + k.val, high_lt k⟩)) (x4 (ix3 0 e ⟨1024 + k.val, high_lt k⟩))) := by
  rw [val_main_v47_apply, val_main_v45_apply, val_main_call0_v2_apply, val_main_call0_v4_apply, val_main_call0_v1_apply, val_main_v46_apply, val_main_v42_apply, ← v40_at x0 n e he]
  have e1 : idx_main_v42 (ix3 n r k) = ix3 n r ⟨1024 + k.val, high_lt k⟩ := funext fun a => match a with | 0 => rfl | 1 => rfl | 2 => rfl
  have e2 : val_main_cst_20 (F := Ideal) (idx_main_v46 (ix3 n r k)) = (1 : EReal) := Ideal.ofBits_one_f32
  rw [e1, e2]; rfl
/-- The gated hidden entries. -/
theorem v57_at (r : Fin 128) (k : Fin 1024) : val_main_v57 (F := Ideal) x0 x2 x3 x4 (ix3 n r k)
    = gated (gate (lin (xrow n x2 r) (fun j => x3 (ix4 0 e j ⟨k.val, low_lt k⟩)) (x4 (ix3 0 e ⟨k.val, low_lt k⟩))))
        (up (lin (xrow n x2 r) (fun j => x3 (ix4 0 e j ⟨1024 + k.val, high_lt k⟩)) (x4 (ix3 0 e ⟨1024 + k.val, high_lt k⟩)))) := by
  rw [val_main_v57_apply, val_main_v56_apply, val_main_v55_apply, val_main_v54_apply, val_main_v53_apply, val_main_v52_apply, val_main_v51_apply, val_main_v50_apply, val_main_v49_apply, val_main_v48_apply,
    v47_at x0 n e he, v44_at x0 n e he]
  have e1 : val_main_cst_23 (F := Ideal) (idx_main_v54 (ix3 n r k)) = (1 : EReal) := Ideal.ofBits_one_f32
  have e2 : val_main_cst_22 (F := Ideal) (idx_main_v52 (ix3 n r k)) = (1 : EReal) := Ideal.ofBits_one_f32
  rw [e1, e2]; rfl
/-- The reference's rows are the expert's. -/
theorem v91_at (r : Fin 128) (k : Fin 1024) : val_main_v91 (F := Ideal) x0 x2 x3 x4 x5 x6 (ix3 n r k)
    = expert (xrow n x2 r) (fun j c => x3 (ix4 0 e j c)) (fun c => x4 (ix3 0 e c)) (fun j c => x5 (ix4 0 e j c)) (fun c => x6 (ix3 0 e c)) k := by
  rw [val_main_v91_apply, v90_at x0 n e he, val_main_v75_apply]
  refine congrArg (· + x6 (ix3 0 e k)) (Finset.sum_congr rfl fun j _ => ?_)
  have el : lidx_main_v75 (ix3 n r k) j = ix3 n r j := funext fun a => match a with | 0 => rfl | 1 => rfl | 2 => rfl
  have er : ridx_main_v75 (ix3 n r k) j = ix3 n j k := funext fun a => match a with | 0 => rfl | 1 => rfl | 2 => rfl
  rw [el, er, v57_at x0 n e he, v74_at x0 n e he]
end

end Cert.Reference2Ideal.Moe

end
-- ==== Proof.MoeArr.lean ====
/-
  The array the experts' kernel leaves, entry by entry, on the rows of the blocks in use.
-/
module

public import proofs.«01_k».proof.Proof.MoeTables
public import proofs.«01_k».proof.Proof.MoePay
public import proofs.«01_k».proof.Proof.MoeRef

@[expose] public section

set_option maxRecDepth 16384

noncomputable section

namespace Cert.Kernel2Ideal.Moe

open Cert.Kernel2Ideal.Gen Cert.Moe
open Idealize.ShloMosaic Idealize.ShloMosaic.TcCoe Idealize.ShloMosaic.Tactic
open Idealize.ShloMosaic.Pipeline (Dat Cfg Window)

section
variable {F : FTy → Type} [FloatOps F]
variable (m : (ℓ : Loc nD τ sig) → Buf (Elt F) ℓ) (hO : Ok m) (hR : Routed m)

/-- The block of rows a grid point reads. -/
theorem in_0 (hR : Routed m) (c : Dev nD) (t : Fin grid0.N) (y : Fin 4096) (x : Fin 128) :
    (iblk m hO c 0 t : Vec F S4096x128 .f32) (ix2 (n0 := 4096) (n1 := 128) y x)
      = (V m c main_v6 : Vec F S1212416x128 .f32) (ix2 (n0 := 1212416) (n1 := 128) ⟨lastB m t.val * 4096 + y.val, by have := t_lt t; have : lastB m t.val ≤ t.val := Nat.min_le_left _ _; omega⟩ x) := by
  show V m c main_v6 ((((cfgM m hO).win 0).blk t).view.emb (ix2 (n0 := 4096) (n1 := 128) y x)) = _
  have e := index0 m hO hR t
  have e0 := congrFun e (0 : Fin 2)
  have e1 := congrFun e (1 : Fin 2)
  refine congrArg (V m c main_v6) (funext fun a => Fin.ext ?_)
  match a with
  | ⟨0, _⟩ =>
    show ((cfgM m hO).win 0).index t (0 : Fin 2) * 4096 + 1 * y.val = lastB m t.val * 4096 + y.val
    rw [e0]; show lastB m t.val * 4096 + 1 * y.val = _; omega
  | ⟨1, _⟩ =>
    show ((cfgM m hO).win 0).index t (1 : Fin 2) * 128 + 1 * x.val = x.val
    rw [e1]; show 0 * 128 + 1 * x.val = _; omega

/-- The point whose block holds a row. -/
def pt (n : ℕ) (h : n < 1212416) : Fin grid0.N := ⟨n / 4096, lt_of_lt_of_eq (show n / 4096 < 296 by omega) N_0.symm⟩
/-- The final array, on the blocks in use. -/
def Gout (c : Dev nD) : Vec F S1212416x128 .f32 := fun z =>
  outAt m hO c (la m (pt (z 0).val (z 0).isLt).val (pt (z 0).val (z 0).isLt).isLt) (ix2 (n0 := 4096) (n1 := 128) ⟨(z 0).val % 4096, Nat.mod_lt _ (by decide)⟩ (z 1))

/-- A grid point's block of the final array is what it leaves. -/
theorem flushed5 (hR : Routed m) (c : Dev nD) (t : Fin (cfgM m hO).N) : (dats m hO 0 c).flushed 5 t = (((cfgM m hO).win 5).blk t).view.read (Elt F) (Gout m hO c) := by
  funext y
  have e := index5 m hO hR t
  have e0 := congrFun e (0 : Fin 2)
  have e1 := congrFun e (1 : Fin 2)
  obtain ⟨p, q, rfl⟩ : ∃ (p : Fin 4096) (q : Fin 128), y = ix2 (n0 := 4096) (n1 := 128) p q := by
    have h : ∀ y : S4096x128.Idx, ∃ (p : Fin 4096) (q : Fin 128), y = ix2 (n0 := 4096) (n1 := 128) p q := fun y => ⟨y 0, y 1, funext fun a => by match a with | ⟨0, _⟩ => rfl | ⟨1, _⟩ => rfl⟩
    exact h y
  have ht := t_lt t
  have hb : lastB m t.val < 296 := lt_of_le_of_lt (Nat.min_le_left _ _) ht
  have hemb : (((cfgM m hO).win 5).blk t).view.emb (ix2 (n0 := 4096) (n1 := 128) p q) = ix2 (n0 := 1212416) (n1 := 128) ⟨lastB m t.val * 4096 + p.val, by omega⟩ q := funext fun a => Fin.ext (by
    match a with
    | ⟨0, _⟩ =>
      show ((cfgM m hO).win 5).index t (0 : Fin 2) * 4096 + 1 * p.val = lastB m t.val * 4096 + p.val
      rw [e0]; show lastB m t.val * 4096 + 1 * p.val = _; omega
    | ⟨1, _⟩ =>
      show ((cfgM m hO).win 5).index t (1 : Fin 2) * 128 + 1 * q.val = q.val
      rw [e1]; show 0 * 128 + 1 * q.val = _; omega)
  have hl : (dats m hO 0 c).flushed 5 t (ix2 (n0 := 4096) (n1 := 128) p q) = outAt m hO c (la m t.val t.isLt) (ix2 (n0 := 4096) (n1 := 128) p q) :=
    congrFun (after0_5 m hO c t) (ix2 (n0 := 4096) (n1 := 128) p q)
  have hr : (((cfgM m hO).win 5).blk t).view.read (Elt F) (Gout m hO c) (ix2 (n0 := 4096) (n1 := 128) p q) = Gout m hO c (ix2 (n0 := 1212416) (n1 := 128) ⟨lastB m t.val * 4096 + p.val, by omega⟩ q) :=
    congrArg (Gout m hO c) hemb
  refine hl.trans (Eq.trans ?_ hr.symm)
  have h1 : (lastB m t.val * 4096 + p.val) / 4096 = lastB m t.val := by omega
  have h2 : (lastB m t.val * 4096 + p.val) % 4096 = p.val := by omega
  have hg : ∀ (s : Fin grid0.N) (p' : Fin 4096), s = la m t.val t.isLt → p' = p → outAt m hO c s (ix2 (n0 := 4096) (n1 := 128) p' q) = outAt m hO c (la m t.val t.isLt) (ix2 (n0 := 4096) (n1 := 128) p q) := by
    rintro _ _ rfl rfl; rfl
  refine (hg _ _ (Fin.ext ?_) (Fin.ext h2)).symm
  show min ((lastB m t.val * 4096 + p.val) / 4096) ((nus m).toNat - 1) = min t.val ((nus m).toNat - 1)
  rw [h1]
  show min (min t.val ((nus m).toNat - 1)) ((nus m).toNat - 1) = _
  omega

/-- A row of a block in use ends as its point leaves it. -/
theorem arr5 (hR : Routed m) (c : Dev nD) (z : S1212416x128.Idx) (hz : (z 0).val < (nus m).toNat * 4096) : (dats m hO 0 c).arrAt 5 (cfgM m hO).N z = Gout m hO c z := by
  have hN : (cfgM m hO).N = 296 := N_0
  have hz' : (z 0).val < 1212416 := (z 0).isLt
  have hle := hR.le
  have hpos := hR.pos
  have key : ∀ t : Fin (cfgM m hO).N, lastB m t.val = (z 0).val / 4096 → ((cfgM m hO).win 5).flush t = true → (dats m hO 0 c).arrAt 5 (cfgM m hO).N z = Gout m hO c z := fun t ht hf => by
    refine (dats m hO 0 c).arrAt_apply_of_mem 5 (Gout m hO c) (fun s _ => flushed5 m hO hR c s) (cfgM m hO).N t z t.isLt hf ?_
    have e := index5 m hO hR t
    have e0 := congrFun e (0 : Fin 2)
    have e1 := congrFun e (1 : Fin 2)
    have hemb : (((cfgM m hO).win 5).blk t).view.emb (ix2 (n0 := 4096) (n1 := 128) ⟨(z 0).val % 4096, Nat.mod_lt _ (by decide)⟩ (z 1)) = z := funext fun a => Fin.ext (by
      match a with
      | ⟨0, _⟩ =>
        show ((cfgM m hO).win 5).index t (0 : Fin 2) * 4096 + 1 * ((z 0).val % 4096) = (z 0).val
        rw [e0]; show lastB m t.val * 4096 + 1 * ((z 0).val % 4096) = _; omega
      | ⟨1, _⟩ =>
        show ((cfgM m hO).win 5).index t (1 : Fin 2) * 128 + 1 * (z 1).val = (z 1).val
        rw [e1]; show 0 * 128 + 1 * (z 1).val = _; omega)
    rw [← hemb]
    exact (((cfgM m hO).win 5).blk t).view.emb_mem_set _
  by_cases hlt : (z 0).val / 4096 + 1 < (nus m).toNat
  · have hn : (z 0).val / 4096 < (cfgM m hO).N := by omega
    have hn1 : (z 0).val / 4096 + 1 < grid0.N := by rw [show grid0.N = 296 from N_0]; omega
    refine key ⟨(z 0).val / 4096, hn⟩ (by show min ((z 0).val / 4096) ((nus m).toNat - 1) = (z 0).val / 4096; omega) ?_
    rw [Pipeline.Window.flush_eq_flushF]
    unfold Pipeline.Window.flushF
    rw [Bool.and_eq_true, Bool.or_eq_true]
    refine ⟨rfl, Or.inr (decide_eq_true ⟨hn1, (0 : Fin 2), ?_⟩)⟩
    rw [index5 m hO hR, index5 m hO hR]
    show min ((z 0).val / 4096 + 1) ((nus m).toNat - 1) ≠ min ((z 0).val / 4096) ((nus m).toNat - 1)
    omega
  · refine key ⟨295, by omega⟩ (by show min 295 ((nus m).toNat - 1) = (z 0).val / 4096; omega) ?_
    rw [Pipeline.Window.flush_eq_flushF]
    unfold Pipeline.Window.flushF
    rw [Bool.and_eq_true, Bool.or_eq_true]
    exact ⟨rfl, Or.inl (decide_eq_true hN.symm)⟩
end

section
variable (m : (ℓ : Loc nD τ sig) → Buf (Elt Ideal) ℓ) (hO : Ok m) (hR : Routed m) (c : Dev nD)

/-! ## The arrays the kernel is called with, entry by entry -/

theorem V_v0 : V m c main_v0 = shapeCast S32x1024x2048 (m ((c.tc : Thread nD τ).loc main_arg3) : FVec Ideal S1x32x1024x2048 .f32) shapeCasts_S1x32x1024x2048_S32x1024x2048 := by
  show StableHlo.after hostOps0 (fun b => m (c, b)) (Proc.devRef .tc main_v0) = _
  simp only [hostOps0]
  after_results_simp
  rfl
theorem V_v3 : V m c main_v3 = shapeCast S32x1024x1024 (m ((c.tc : Thread nD τ).loc main_arg5) : FVec Ideal S1x32x1024x1024 .f32) shapeCasts_S1x32x1024x1024_S32x1024x1024 := by
  show StableHlo.after hostOps0 (fun b => m (c, b)) (Proc.devRef .tc main_v3) = _
  simp only [hostOps0]
  after_results_simp
  rfl
theorem V_v6 : V m c main_v6 = shapeCast S1212416x128 (m ((c.tc : Thread nD τ).loc main_arg2) : FVec Ideal S151552x1024 .f32) shapeCasts_S151552x1024_S1212416x128 := by
  show StableHlo.after hostOps0 (fun b => m (c, b)) (Proc.devRef .tc main_v6) = _
  simp only [hostOps0]
  after_results_simp
  rfl
theorem V_v2 : V m c main_v2 = broadcastInDim S32x1x2048 ![0, 2] bcast_S32x2048_S32x1x2048_0_2 (shapeCast S32x2048 (m ((c.tc : Thread nD τ).loc main_arg4) : FVec Ideal S1x32x2048 .f32) shapeCasts_S1x32x2048_S32x2048 : FVec Ideal S32x2048 .f32) := by
  show StableHlo.after hostOps0 (fun b => m (c, b)) (Proc.devRef .tc main_v2) = _
  simp only [hostOps0]
  after_results_simp
  rfl
theorem V_v5 : V m c main_v5 = broadcastInDim S32x1x1024 ![0, 2] bcast_S32x1024_S32x1x1024_0_2 (shapeCast S32x1024 (m ((c.tc : Thread nD τ).loc main_arg6) : FVec Ideal S1x32x1024 .f32) shapeCasts_S1x32x1024_S32x1024 : FVec Ideal S32x1024 .f32) := by
  show StableHlo.after hostOps0 (fun b => m (c, b)) (Proc.devRef .tc main_v5) = _
  simp only [hostOps0]
  after_results_simp
  rfl

theorem flat_w (w : FVec Ideal S1x32x1024x2048 .f32) (e : Fin 32) (j : Fin 1024) (k : Fin 2048) : shapeCast S32x1024x2048 w shapeCasts_S1x32x1024x2048_S32x1024x2048 (ix3 e j k) = w (ix4 0 e j k) :=
  shapeCast_apply _ _ _ _ (by
    rw [Shape.rowMajor_val_four, Shape.rowMajor_val_three]
    show ((0 * 32 + e.val) * 1024 + j.val) * 2048 + k.val = (e.val * 1024 + j.val) * 2048 + k.val; omega)
theorem flat_d (w : FVec Ideal S1x32x1024x1024 .f32) (e : Fin 32) (j k : Fin 1024) : shapeCast S32x1024x1024 w shapeCasts_S1x32x1024x1024_S32x1024x1024 (ix3 e j k) = w (ix4 0 e j k) :=
  shapeCast_apply _ _ _ _ (by
    rw [Shape.rowMajor_val_four, Shape.rowMajor_val_three]
    show ((0 * 32 + e.val) * 1024 + j.val) * 1024 + k.val = (e.val * 1024 + j.val) * 1024 + k.val; omega)
theorem flat_x (w : FVec Ideal S151552x1024 .f32) (n : Fin 1212416) (l : Fin 128) (r : Fin 151552) (j : Fin 1024) (h : n.val * 128 + l.val = r.val * 1024 + j.val) : shapeCast S1212416x128 w shapeCasts_S151552x1024_S1212416x128 (ix2 n l) = w (ix2 r j) :=
  shapeCast_apply _ _ _ _ (by
    rw [Shape.rowMajor_val_two, Shape.rowMajor_val_two]
    exact h.symm)
theorem flat_b (w : FVec Ideal S1x32x2048 .f32) (e : Fin 32) (k : Fin 2048) : broadcastInDim S32x1x2048 ![0, 2] bcast_S32x2048_S32x1x2048_0_2 (shapeCast S32x2048 w shapeCasts_S1x32x2048_S32x2048 : FVec Ideal S32x2048 .f32) (ix3 e 0 k) = w (ix3 0 e k) := by
  rw [broadcastInDim_apply _ bcast_S32x2048_S32x1x2048_0_2 _ _ (ix2 e k) (fun a => match a with
    | ⟨0, _⟩ => by show e.val = if (32 : Nat) = 1 then 0 else e.val; rw [if_neg (by decide)]
    | ⟨1, _⟩ => by show k.val = if (2048 : Nat) = 1 then 0 else k.val; rw [if_neg (by decide)])]
  exact shapeCast_apply _ _ _ _ (by
    rw [Shape.rowMajor_val_three, Shape.rowMajor_val_two]
    show (0 * 32 + e.val) * 2048 + k.val = e.val * 2048 + k.val; omega)
theorem flat_c (w : FVec Ideal S1x32x1024 .f32) (e : Fin 32) (k : Fin 1024) : broadcastInDim S32x1x1024 ![0, 2] bcast_S32x1024_S32x1x1024_0_2 (shapeCast S32x1024 w shapeCasts_S1x32x1024_S32x1024 : FVec Ideal S32x1024 .f32) (ix3 e 0 k) = w (ix3 0 e k) := by
  rw [broadcastInDim_apply _ bcast_S32x1024_S32x1x1024_0_2 _ _ (ix2 e k) (fun a => match a with
    | ⟨0, _⟩ => by show e.val = if (32 : Nat) = 1 then 0 else e.val; rw [if_neg (by decide)]
    | ⟨1, _⟩ => by show k.val = if (1024 : Nat) = 1 then 0 else k.val; rw [if_neg (by decide)])]
  exact shapeCast_apply _ _ _ _ (by
    rw [Shape.rowMajor_val_three, Shape.rowMajor_val_two]
    show (0 * 32 + e.val) * 1024 + k.val = e.val * 1024 + k.val; omega)

/-- The first weights. -/
theorem v0_apply (e : Fin 32) (j : Fin 1024) (k : Fin 2048) : (V m c main_v0 : Vec Ideal S32x1024x2048 .f32) (ix3 e j k) = (m ((c.tc : Thread nD τ).loc main_arg3) : FVec Ideal S1x32x1024x2048 .f32) (ix4 0 e j k) := by
  rw [V_v0]; exact flat_w _ e j k
/-- The second weights. -/
theorem v3_apply (e : Fin 32) (j k : Fin 1024) : (V m c main_v3 : Vec Ideal S32x1024x1024 .f32) (ix3 e j k) = (m ((c.tc : Thread nD τ).loc main_arg5) : FVec Ideal S1x32x1024x1024 .f32) (ix4 0 e j k) := by
  rw [V_v3]; exact flat_d _ e j k
/-- The rows. -/
theorem v6_apply (n : Fin 1212416) (l : Fin 128) (r : Fin 151552) (j : Fin 1024) (h : n.val * 128 + l.val = r.val * 1024 + j.val) :
    (V m c main_v6 : Vec Ideal S1212416x128 .f32) (ix2 n l) = (m ((c.tc : Thread nD τ).loc main_arg2) : FVec Ideal S151552x1024 .f32) (ix2 r j) := by
  rw [V_v6]; exact flat_x _ n l r j h
/-- The first biases. -/
theorem v2_apply (e : Fin 32) (k : Fin 2048) : (V m c main_v2 : Vec Ideal S32x1x2048 .f32) (ix3 e 0 k) = (m ((c.tc : Thread nD τ).loc main_arg4) : FVec Ideal S1x32x2048 .f32) (ix3 0 e k) := by
  rw [V_v2]; exact flat_b _ e k
/-- The second biases. -/
theorem v5_apply (e : Fin 32) (k : Fin 1024) : (V m c main_v5 : Vec Ideal S32x1x1024 .f32) (ix3 e 0 k) = (m ((c.tc : Thread nD τ).loc main_arg6) : FVec Ideal S1x32x1024 .f32) (ix3 0 e k) := by
  rw [V_v5]; exact flat_c _ e k

/-- An expert's value depends on its five arguments and the column. -/
theorem expert_congr {x x' : Fin 1024 → EReal} {w w' : Fin 1024 → Fin 2048 → EReal} {b b' : Fin 2048 → EReal} {d d' : Fin 1024 → Fin 1024 → EReal} {e e' : Fin 1024 → EReal} {k k' : Fin 1024}
    (hx : x = x') (hw : w = w') (hb : b = b') (hd : d = d') (he : e = e') (hk : k = k') : expert x w b d e k = expert x' w' b' d' e' k' := by
  subst hx hw hb hd he hk; rfl

/-! ## The value -/

/-- What a point in use leaves is its expert's rows. -/
theorem outAt_apply (t : Fin grid0.N) (ht : t.val < (nus m).toNat) (r : Fin 512) (k : Fin 1024) :
    rowsV (iblk m hO c 0 t) (sc0 m hO c t) (iblk m hO c 2 t) (sc1 m hO c t) (iblk m hO c 4 t) (ix2 r k)
      = expert (fun j => (m ((c.tc : Thread nD τ).loc main_arg2) : FVec Ideal S151552x1024 .f32) (ix2 ⟨t.val * 512 + r.val, by have := t_lt t; omega⟩ j))
          (fun j k => (m ((c.tc : Thread nD τ).loc main_arg3) : FVec Ideal S1x32x1024x2048 .f32) (ix4 0 (ex m hR t) j k))
          (fun k => (m ((c.tc : Thread nD τ).loc main_arg4) : FVec Ideal S1x32x2048 .f32) (ix3 0 (ex m hR t) k))
          (fun j k => (m ((c.tc : Thread nD τ).loc main_arg5) : FVec Ideal S1x32x1024x1024 .f32) (ix4 0 (ex m hR t) j k))
          (fun k => (m ((c.tc : Thread nD τ).loc main_arg6) : FVec Ideal S1x32x1024 .f32) (ix3 0 (ex m hR t) k)) k := by
  have hl : lastB m t.val = t.val := by show min _ _ = _; omega
  have h0 : joined (iblk m hO c 0 t) r = fun j => (m ((c.tc : Thread nD τ).loc main_arg2) : FVec Ideal S151552x1024 .f32) (ix2 ⟨t.val * 512 + r.val, by have := t_lt t; omega⟩ j) := funext fun j => by
    unfold joined
    refine (in_0 m hO hR c t _ _).trans ?_
    exact v6_apply m c _ _ _ _ (by
      show (lastB m t.val * 4096 + (8 * r.val + j.val / 128)) * 128 + j.val % 128 = (t.val * 512 + r.val) * 1024 + j.val
      rw [hl]; omega)
  have h1 : (fun (j : Fin 1024) (k : Fin 2048) => sc0 m hO c t (ix2 j k)) = fun j k => (m ((c.tc : Thread nD τ).loc main_arg3) : FVec Ideal S1x32x1024x2048 .f32) (ix4 0 (ex m hR t) j k) := funext fun j => funext fun k => by
    rw [sc0_eq m hO hR]
    exact v0_apply m c _ _ _
  have h2 : (fun k : Fin 2048 => (iblk m hO c 2 t : Vec Ideal S1x1x2048 .f32) (ix3 0 0 k)) = fun k => (m ((c.tc : Thread nD τ).loc main_arg4) : FVec Ideal S1x32x2048 .f32) (ix3 0 (ex m hR t) k) := funext fun k =>
    (in_2 m hO hR c t 0 0 k).trans (v2_apply m c _ _)
  have h3 : (fun (j k : Fin 1024) => sc1 m hO c t (ix2 j k)) = fun j k => (m ((c.tc : Thread nD τ).loc main_arg5) : FVec Ideal S1x32x1024x1024 .f32) (ix4 0 (ex m hR t) j k) := funext fun j => funext fun k => by
    rw [sc1_eq m hO hR]
    exact v3_apply m c _ _ _
  have h4 : (fun k : Fin 1024 => (iblk m hO c 4 t : Vec Ideal S1x1x1024 .f32) (ix3 0 0 k)) = fun k => (m ((c.tc : Thread nD τ).loc main_arg6) : FVec Ideal S1x32x1024 .f32) (ix3 0 (ex m hR t) k) := funext fun k =>
    (in_4 m hO hR c t 0 0 k).trans (v5_apply m c _ _)
  exact (rowsV_apply _ _ _ _ _ r k).trans (expert_congr h0 h1 h2 h3 h4 rfl)

/-- On the rows of the blocks in use the kernel's array is the reference's. -/
theorem value_at (hR : Routed m) (z : S1212416x128.Idx) (hz : (z 0).val < (nus m).toNat * 4096) :
    (dats m hO 0 c).arrAt 5 (cfgM m hO).N z
      = Cert.Reference2Ideal.Read.val_main_v92 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) z := by
  rw [arr5 m hO hR c z hz]
  have hz0 : (z 0).val < 1212416 := (z 0).isLt
  have hz1 : (z 1).val < 128 := (z 1).isLt
  have hn : (z 0).val / 4096 < (nus m).toNat := by omega
  unfold Gout
  rw [la_lt m _ _ (show (pt (z 0).val (z 0).isLt).val < (nus m).toNat from hn)]
  unfold outAt out5 spread
  refine (outAt_apply m hO hR c (pt (z 0).val (z 0).isLt) hn _ _).trans ?_
  rw [Cert.Reference2Ideal.Read.val_main_v92_apply]
  have hi : Cert.Reference2Ideal.Read.idx_main_v92 z = ix3 (n0 := 1184) (n1 := 128) (n2 := 1024) ⟨((z 0).val * 128 + (z 1).val) / 131072, by omega⟩ ⟨((z 0).val * 128 + (z 1).val) / 1024 % 128, by omega⟩ ⟨((z 0).val * 128 + (z 1).val) % 1024, by omega⟩ :=
    funext fun a => match a with | 0 => rfl | 1 => rfl | 2 => rfl
  rw [hi]
  refine Eq.trans ?_ (Cert.Reference2Ideal.Moe.v91_at _ _ (ex m hR (pt (z 0).val (z 0).isLt)) ?_ _ _ _ _ _ _ _).symm
  · refine expert_congr (funext fun j => ?_) rfl rfl rfl rfl (Fin.ext ?_)
    · refine congrArg (m ((c.tc : Thread nD τ).loc main_arg2) : FVec Ideal S151552x1024 .f32) (congrArg (fun q => ix2 q j) (Fin.ext ?_))
      show (z 0).val / 4096 * 512 + (z 0).val % 4096 / 8 = ((z 0).val * 128 + (z 1).val) / 131072 * 128 + ((z 0).val * 128 + (z 1).val) / 1024 % 128
      omega
    · show (z 0).val % 4096 % 8 * 128 + (z 1).val = ((z 0).val * 128 + (z 1).val) % 1024
      omega
  · have hw : (m ((c.tc : Thread nD τ).loc main_arg0) : IVec S296 32) (ix1 ⟨(z 0).val / 4096, by omega⟩) = bex m ⟨(z 0).val / 4096, by omega⟩ := (bex_eq m c _).symm
    refine Eq.trans (congrArg (m ((c.tc : Thread nD τ).loc main_arg0) : IVec S296 32) (congrArg ix1 (Fin.ext ?_))) (hw.trans ?_)
    · show ((z 0).val * 128 + (z 1).val) / 131072 / 4 = (z 0).val / 4096
      omega
    · show bex m _ = BitVec.ofNat 32 (bex m _).toNat
      exact (BitVec.ofNat_toNat _ _).trans (BitVec.setWidth_eq _) |>.symm
end

end Cert.Kernel2Ideal.Moe

end
-- ==== Proof.MoeSame.lean ====
module

public import proofs.«01_k».proof.Defs
public import proofs.«01_k».proof.Proof.Gen.Kernel2
public import proofs.«01_k».proof.Proof.Gen.Kernel2Ideal

/-!
The experts' program and its idealization are the same text: their bodies, their tables of bodies and their main functions are equal at the machine's floats,
so one run gives the frame of both.
-/

@[expose] public section

open Idealize
open Idealize.ShloMosaic Idealize.SL.Sem Cert.Kernel
open Idealize.ShloMosaic
attribute [local instance] Cert.Kernel2.Gen.facts Cert.Kernel2Ideal.Gen.facts
namespace Cert.Proof
/-- Part 1 of the kernel's body is the same in both programs. -/
theorem same_part1 : @Cert.Kernel2.k0_part1 Bits _ Cert.Kernel2.Gen.facts = @Cert.Kernel2Ideal.k0_part1 Bits _ Cert.Kernel2Ideal.Gen.facts := rfl
/-- Part 2 of the kernel's body is the same in both programs. -/
theorem same_part2 : @Cert.Kernel2.k0_part2 Bits _ Cert.Kernel2.Gen.facts = @Cert.Kernel2Ideal.k0_part2 Bits _ Cert.Kernel2Ideal.Gen.facts := rfl
/-- Part 3 of the kernel's body is the same in both programs. -/
theorem same_part3 : @Cert.Kernel2.k0_part3 Bits _ Cert.Kernel2.Gen.facts = @Cert.Kernel2Ideal.k0_part3 Bits _ Cert.Kernel2Ideal.Gen.facts := rfl
/-- Part 4 of the kernel's body is the same in both programs. -/
theorem same_part4 : @Cert.Kernel2.k0_part4 Bits _ Cert.Kernel2.Gen.facts = @Cert.Kernel2Ideal.k0_part4 Bits _ Cert.Kernel2Ideal.Gen.facts := rfl
/-- Part 5 of the kernel's body is the same in both programs. -/
theorem same_part5 : @Cert.Kernel2.k0_part5 Bits _ Cert.Kernel2.Gen.facts = @Cert.Kernel2Ideal.k0_part5 Bits _ Cert.Kernel2Ideal.Gen.facts := rfl
/-- The kernel's body is the same in both. -/
theorem same_body : @Cert.Kernel2.cc0_experts Bits _ Cert.Kernel2.Gen.facts = @Cert.Kernel2Ideal.cc0_experts Bits _ Cert.Kernel2Ideal.Gen.facts := by
  unfold Cert.Kernel2.cc0_experts Cert.Kernel2Ideal.cc0_experts
  rw [same_part1, same_part2, same_part3, same_part4, same_part5]
  rfl

/-- The table of kernels is the same in both. -/
theorem same_bodies : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | 0, (t, s) => exact congrFun (congrFun (congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _) _) _
/-- The table of bodies, with the pipeline's region, is the same in both. -/
theorem same_defs : Cert.Kernel2.defs (F := Bits) = Cert.Kernel2Ideal.defs (F := Bits) := by
  unfold Cert.Kernel2.defs Cert.Kernel2Ideal.defs
  rw [same_bodies]
  rfl
set_option maxHeartbeats 4000000 in
/-- The main function is the same in both. -/
theorem same_main : Cert.Kernel2.main (F := Bits) = Cert.Kernel2Ideal.main (F := Bits) := by
  funext c
  unfold Cert.Kernel2.main Cert.Kernel2Ideal.main
  rfl

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Value
public import proofs.«01_k».proof.Proof.ProjValue
public import proofs.«01_k».proof.Proof.SampValue
public import proofs.«01_k».proof.Proof.Gen.Kernel2
public import proofs.«01_k».proof.Proof.Gen.Kernel2Ideal
public import proofs.«01_k».proof.Proof.Gen.Reference2Ideal.Run
public import proofs.«01_k».proof.Proof.Gen.Reference2Ideal.Read
public import proofs.«01_k».proof.Proof.Gen.Pre_routed
public import proofs.«01_k».proof.Proof.Gen.On_rows_used
public import proofs.«01_k».proof.Proof.MoeTables
public import proofs.«01_k».proof.Proof.MoeArr
public import proofs.«01_k».proof.Proof.MoeSame
public import Idealize.ShloMosaic.Adequacy
public import Idealize.ShloMosaic.Init

@[expose] public section

noncomputable section

namespace Cert.Proof

open Idealize.ShloMosaic Idealize.SL.Sem Cert.Kernel

/-- The side conditions of the condition on finite inputs. -/
theorem pre_facts : Cert.Pre_finite.Facts where
  slices_S2x16384x1536_S2x16384x1024_0_0_0 := by decide
  bcast_S_S2x16384x1024 := by decide
  bcast_S_S1x8x513 := by decide

/-- The reference runs, leaves its arguments unchanged and its counters at zero: it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- The kernel and the reference end with equal results on finite queries, keys and biases. -/
theorem results_equal : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hargs
  refine ⟨fun c => Cert.KernelIdeal.Value.G4 m c, Cert.KernelIdeal.Value.run m g, ?_⟩
  refine (θ_run Cert.ReferenceIdeal.defs _ _).mono (fun r h c => ⟨(h c).1.trans ?_, (h c).2.1, (h c).2.2⟩)
    (Cert.ReferenceIdeal.Value.run (F := Ideal) m' g')
  have hv := Cert.KernelIdeal.Band.value_eq m c (@Cert.KernelIdeal.Band.real_of_pre pre_facts _ _ (hpre c).1 (hpre c).2)
  refine (Cert.ReferenceIdeal.Read.val_main_v63_eq (F := Ideal) m' c).trans ?_
  rw [(hargs c).1, (hargs c).2]
  exact hv.symm

/-- The projection's reference runs, leaves its arguments unchanged and its counters at zero: it declares no semaphore. -/
theorem frame_reference3 (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run Cert.Reference3Ideal.defs _ _).mono (fun r h => ⟨fun c => (h c).2.2.2, sem_eq_zero_of_no_sems (by decide) r.2⟩)
    (Cert.Reference3Ideal.Value.run (F := Ideal) m ρ)

/-- A function of five arguments takes equal values at equal arguments. -/
theorem equal_of_equal_args {α β γ δ ε ζ : Type} (f : α → β → γ → δ → ε → ζ) {a a' : α} {b b' : β} {d d' : γ} {e e' : δ} {h h' : ε}
    (h0 : a = a') (h1 : b = b') (h2 : d = d') (h3 : e = e') (h4 : h = h') : f a b d e h = f a' b' d' e' h' := by
  subst h0 h1 h2 h3 h4; rfl

/-- The projection's kernel and its reference end with the same three arrays. -/
theorem results_equal3 : Cert.algebraic_Kernel3Ideal_Reference3Ideal (hKernel3Ideal := Cert.Kernel3Ideal.Gen.facts)
    (hReference3Ideal := Cert.Reference3Ideal.Gen.facts) := by
  intro m g m' g' hpre hargs
  refine ⟨fun c => (Cert.Kernel3Ideal.Gen.dats m 0 c).arrAt 8 Cert.Kernel3Ideal.cfg0.N, fun c => (Cert.Kernel3Ideal.Gen.dats m 0 c).arrAt 9 Cert.Kernel3Ideal.cfg0.N,
    fun c => (Cert.Kernel3Ideal.Gen.dats m 0 c).arrAt 10 Cert.Kernel3Ideal.cfg0.N, Cert.Kernel3Ideal.Value.run_blocks m g, ?_⟩
  refine (θ_run Cert.Reference3Ideal.defs _ _).mono (fun r h c => ⟨(h c).1.trans ?_, (h c).2.1.trans ?_, (h c).2.2.1.trans ?_, (h c).2.2.2⟩)
    (Cert.Reference3Ideal.Value.run (F := Ideal) m' g')
  · refine (Cert.Reference3Ideal.Read.val_main_v56_eq (F := Ideal) _ _ _).trans ?_
    rw [(hargs c).1, (hargs c).2.1, (hargs c).2.2.1]
    exact (Cert.Kernel3Ideal.Proj.first_eq m c).symm
  · refine (Cert.Reference3Ideal.Read.val_main_v60_eq (F := Ideal) _ _ _).trans ?_
    rw [(hargs c).1, (hargs c).2.1, (hargs c).2.2.1]
    exact (Cert.Kernel3Ideal.Proj.second_eq m c).symm
  · exact (Cert.Reference3Ideal.Read.val_main_v64_eq (F := Ideal) m' c).trans ((equal_of_equal_args _ (hargs c).1 (hargs c).2.1 (hargs c).2.2.1 (hargs c).2.2.2.1 (hargs c).2.2.2.2).trans
      (Cert.Kernel3Ideal.Proj.third_eq m c).symm)

/-- The sample's projection's reference runs, leaves its arguments unchanged and its counters at zero: it declares no semaphore. -/
theorem frame_reference4 (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) :=
  (θ_run Cert.Reference4Ideal.defs _ _).mono (fun r h => ⟨fun c => (h c).2.2.2, sem_eq_zero_of_no_sems (by decide) r.2⟩)
    (Cert.Reference4Ideal.Value.run (F := Ideal) m ρ)

/-- The sample's projection's kernel and its reference end with the same three arrays. -/
theorem results_equal4 : Cert.algebraic_Kernel4Ideal_Reference4Ideal (hKernel4Ideal := Cert.Kernel4Ideal.Gen.facts)
    (hReference4Ideal := Cert.Reference4Ideal.Gen.facts) := by
  intro m g m' g' hpre hargs
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N,
    fun c => (Cert.Kernel4Ideal.Gen.dats m 0 c).arrAt 10 Cert.Kernel4Ideal.cfg0.N, Cert.Kernel4Ideal.Value.run_blocks m g, ?_⟩
  refine (θ_run Cert.Reference4Ideal.defs _ _).mono (fun r h c => ⟨(h c).1.trans ?_, (h c).2.1.trans ?_, (h c).2.2.1.trans ?_, (h c).2.2.2⟩)
    (Cert.Reference4Ideal.Value.run (F := Ideal) m' g')
  · refine (Cert.Reference4Ideal.Read.val_main_v56_eq (F := Ideal) _ _ _).trans ?_
    rw [(hargs c).1, (hargs c).2.1, (hargs c).2.2.1]
    exact (Cert.Kernel4Ideal.Proj.first_eq m c).symm
  · refine (Cert.Reference4Ideal.Read.val_main_v60_eq (F := Ideal) _ _ _).trans ?_
    rw [(hargs c).1, (hargs c).2.1, (hargs c).2.2.1]
    exact (Cert.Kernel4Ideal.Proj.second_eq m c).symm
  · exact (Cert.Reference4Ideal.Read.val_main_v64_eq (F := Ideal) m' c).trans ((equal_of_equal_args _ (hargs c).1 (hargs c).2.1 (hargs c).2.2.1 (hargs c).2.2.2.1 (hargs c).2.2.2.2).trans
      (Cert.Kernel4Ideal.Proj.third_eq m c).symm)

/-- The experts' tables are in range where the condition on them holds, for the kernel -/
theorem routed_bits (m : (ℓ : Loc Cert.Kernel2.nD Cert.Kernel2.τ Cert.Kernel2.sig) → Buf (Elt Bits) ℓ) (h : Cert.Pre_Kernel2 (hPre_routed := Cert.Pre_routed.Gen.facts) m) :
    Cert.Kernel2Ideal.Moe.Routed (F := Bits) m :=
  @Cert.Kernel2Ideal.Moe.routed_of Bits _ m Cert.Pre_routed.Gen.facts (0 : Fin 1) _ _ _ _ _ (h 0).1 (h 0).2.1 (h 0).2.2.1 (h 0).2.2.2
/-- and for its idealization. -/
theorem routed_ideal (m : (ℓ : Loc Cert.Kernel2Ideal.nD Cert.Kernel2Ideal.τ Cert.Kernel2Ideal.sig) → Buf (Elt Ideal) ℓ) (h : Cert.Pre_Kernel2Ideal (hPre_routed := Cert.Pre_routed.Gen.facts) m) :
    Cert.Kernel2Ideal.Moe.Routed (F := Ideal) m :=
  @Cert.Kernel2Ideal.Moe.routed_of Ideal _ m Cert.Pre_routed.Gen.facts (0 : Fin 1) _ _ _ _ _ (h 0).1 (h 0).2.1 (h 0).2.2.1 (h 0).2.2.2

/-- The experts' kernel runs on tables in range, leaves its arguments unchanged and its counters at zero. -/
theorem frame_kernel2 : Cert.quiescent_Kernel2 (hKernel2 := Cert.Kernel2.Gen.facts) (hPre_routed := Cert.Pre_routed.Gen.facts) := by
  intro m ρ h
  have key := Cert.Kernel2Ideal.Moe.frame (F := Bits) m ρ (routed_bits m h)
  rw [same_defs, same_main]
  exact (θ_run Cert.Kernel2Ideal.defs _ _).mono (fun _ h => h) key
/-- The same of its idealization. -/
theorem frame_kernel2Ideal : Cert.quiescent_Kernel2Ideal (hKernel2Ideal := Cert.Kernel2Ideal.Gen.facts) (hPre_routed := Cert.Pre_routed.Gen.facts) := fun m ρ h =>
  Cert.Kernel2Ideal.Moe.frame (F := Ideal) m ρ (routed_ideal m h)

/-- The experts' reference runs, leaves its arguments unchanged and its counters at zero: it declares no semaphore. -/
theorem frame_reference2 (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m ρ)

/-- A function of six arguments takes equal values at equal arguments. -/
theorem equal_of_six {α β γ δ ε ζ η : Type} (f : α → β → γ → δ → ε → ζ → η) {a a' : α} {b b' : β} {d d' : γ} {e e' : δ} {h h' : ε} {k k' : ζ}
    (h0 : a = a') (h1 : b = b') (h2 : d = d') (h3 : e = e') (h4 : h = h') (h5 : k = k') : f a b d e h k = f a' b' d' e' h' k' := by
  subst h0 h1 h2 h3 h4 h5; rfl

/-- The experts' kernel and its reference end with the same rows in the blocks in use. -/
theorem results_equal2 : Cert.algebraic_Kernel2Ideal_Reference2Ideal_on_rows_used (hKernel2Ideal := Cert.Kernel2Ideal.Gen.facts)
    (hReference2Ideal := Cert.Reference2Ideal.Gen.facts) (hPre_routed := Cert.Pre_routed.Gen.facts) (hOn_rows_used := Cert.On_rows_used.Gen.facts) := by
  intro m g m' g' hpre hargs
  have hR := routed_ideal m hpre
  have hO := Cert.Kernel2Ideal.Moe.ok_of m hR
  refine ⟨fun c => (Cert.Kernel2Ideal.Moe.dats m hO 0 c).arrAt 5 (Cert.Kernel2Ideal.Moe.cfgM m hO).N, ?_, ?_⟩
  · refine (θ_run Cert.Kernel2Ideal.defs _ _).mono (fun r h c => ⟨fun i _ => ?_, ?_⟩)
      (θ_run_and (Cert.Kernel2Ideal.Moe.run_main m g hO hR) (Cert.Kernel2Ideal.Moe.frame m g hR))
    · exact congrFun ((h.1 c).1 5) i
    · exact h.2.1 c
  · refine (θ_run Cert.Reference2Ideal.defs _ _).mono (fun r h c => ⟨fun i hi => (congrFun (h c).1 i).trans ?_, (h c).2⟩)
      (Cert.Reference2Ideal.Value.run (F := Ideal) m' g')
    refine (congrFun ((Cert.Reference2Ideal.Read.val_main_v92_eq (F := Ideal) m' c).trans
      (equal_of_six _ (hargs c).1 (hargs c).2.2.1 (hargs c).2.2.2.1 (hargs c).2.2.2.2.1 (hargs c).2.2.2.2.2.1 (hargs c).2.2.2.2.2.2)) i).trans ?_
    exact (Cert.Kernel2Ideal.Moe.value_at m hO c hR i (@Cert.Kernel2Ideal.Moe.row_used Ideal _ m Cert.On_rows_used.Gen.facts hR c _ _ _ _ _ _ i hi)).symm

/-- Every claim of the certificate. -/
theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel2.Gen.facts, Cert.Kernel2Ideal.Gen.facts, Cert.Reference2Ideal.Gen.facts, pre_facts, Cert.Pre_routed.Gen.facts, Cert.On_rows_used.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel3.Gen.frame m ρ, fun m ρ _ => Cert.Kernel3Ideal.Gen.frame m ρ, fun m ρ _ => frame_reference3 m ρ,
  fun m ρ _ => Cert.Kernel4.Gen.frame m ρ, fun m ρ _ => Cert.Kernel4Ideal.Gen.frame m ρ, fun m ρ _ => frame_reference4 m ρ,
  frame_kernel2, frame_kernel2Ideal, fun m ρ _ => frame_reference2 m ρ, fun m ρ _ => frame_reference2 m ρ,
  trivial, results_equal2, trivial, results_equal4, trivial, results_equal3, IdealRules.named_const.statement _ _ _ _ ⊥ rfl, results_equal⟩

end Cert.Proof

end
